-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S4096x4096 : Shape := ⟨2, ![4096, 4096]⟩
abbrev S3x4x512x1408 : Shape := ⟨4, ![3, 4, 512, 1408]⟩
abbrev S2x512x1408 : Shape := ⟨3, ![2, 512, 1408]⟩
abbrev S8x8x128 : Shape := ⟨3, ![8, 8, 128]⟩
abbrev S3x8 : Shape := ⟨2, ![3, 8]⟩
abbrev S2 : Shape := ⟨1, ![2]⟩
abbrev S8 : Shape := ⟨1, ![8]⟩
abbrev S_ : Shape := ⟨0, ![]⟩
abbrev S1x1 : Shape := ⟨2, ![1, 1]⟩
abbrev S512x1408 : Shape := ⟨2, ![512, 1408]⟩
abbrev S512x1280 : Shape := ⟨2, ![512, 1280]⟩
abbrev S512x256 : Shape := ⟨2, ![512, 256]⟩
abbrev S1x512x256 : Shape := ⟨3, ![1, 512, 256]⟩
abbrev S1 : Shape := ⟨1, ![1]⟩
abbrev S1x1x1 : Shape := ⟨3, ![1, 1, 1]⟩
abbrev S1x512x1408 : Shape := ⟨3, ![1, 512, 1408]⟩
abbrev S1408x256 : Shape := ⟨2, ![1408, 256]⟩
abbrev S1x512x1280 : Shape := ⟨3, ![1, 512, 1280]⟩
abbrev S1280x256 : Shape := ⟨2, ![1280, 256]⟩
abbrev S1x1x512x1408 : Shape := ⟨4, ![1, 1, 512, 1408]⟩
abbrev S1x1x512x1280 : Shape := ⟨4, ![1, 1, 512, 1280]⟩
abbrev S1x8x128 : Shape := ⟨3, ![1, 8, 128]⟩
abbrev S8x128 : Shape := ⟨2, ![8, 128]⟩
abbrev S1x8x8x128 : Shape := ⟨4, ![1, 8, 8, 128]⟩
abbrev S1x1x1x1 : Shape := ⟨4, ![1, 1, 1, 1]⟩

abbrev nBuf : Space → Nat
  | .hbm => 4
  | .vmem => 6
  | .smem => 0
  | _ => 0

abbrev bufTy : (tb : Table) → Fin (tcTables nBuf tb) → BufTy
  | .hbm, ⟨0, _⟩ => ⟨S512x4096, .f32⟩
  | .hbm, ⟨1, _⟩ => ⟨S4096x256, .f32⟩
  | .hbm, ⟨2, _⟩ => ⟨S4096x256, .f32⟩
  | .hbm, ⟨3, _⟩ => ⟨S4096x4096, .f32⟩
  | .local _ .vmem, ⟨0, _⟩ => ⟨S512x4096, .f32⟩
  | .local _ .vmem, ⟨1, _⟩ => ⟨S4096x256, .f32⟩
  | .local _ .vmem, ⟨2, _⟩ => ⟨S4096x256, .f32⟩
  | .local _ .vmem, ⟨3, _⟩ => ⟨S3x4x512x1408, .f32⟩
  | .local _ .vmem, ⟨4, _⟩ => ⟨S2x512x1408, .f32⟩
  | .local _ .vmem, ⟨5, _⟩ => ⟨S8x8x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) (c0_i32_11 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v14 : BitVec 32 := Scalar.xori v2 c0_i32_11
  let c512_i32 : BitVec 32 := 512#32
  let v15 : BitVec 32 := Scalar.muli v14 c512_i32
  let c0_i32_20 : BitVec 32 := 0#32
  ![v15.toNat, 0]
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.xori v2 c1_i32_10
  let c1_i32_18 : BitVec 32 := 1#32
  let v18 : BitVec 32 := Scalar.muli v13 c1_i32_18
  let v19 : BitVec 32 := Scalar.addi c0_i32_19 v18
  v19.toNat
def k0_off2 (d0 : Dev nD) (c0_i32_24 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v27 : BitVec 32 := Scalar.xori v2 c0_i32_24
  let c512_i32_25 : BitVec 32 := 512#32
  let v28 : BitVec 32 := Scalar.muli v27 c512_i32_25
  let c1408_i32 : BitVec 32 := 1408#32
  ![v28.toNat, 1408]
def k0_off2_at (r : Fin 4) : BitVec 32 :=
  if r.val < 2 then
    if r.val < 1 then
      0#32
    else
      3#32
  else
    if r.val < 3 then
      4#32
    else
      7#32
def k0_dev5 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_23 : BitVec 32 := 3#32
  let v26 : BitVec 32 := Scalar.xori v2 c3_i32_23
  let c1_i32_32 : BitVec 32 := 1#32
  let v31 : BitVec 32 := Scalar.muli v26 c1_i32_32
  let v32 : BitVec 32 := Scalar.addi c0_i32_33 v31
  v32.toNat
def k0_off3 (d0 : Dev nD) (c0_i32_37 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v40 : BitVec 32 := Scalar.xori v2 c0_i32_37
  let c512_i32_38 : BitVec 32 := 512#32
  let v41 : BitVec 32 := Scalar.muli v40 c512_i32_38
  let c2816_i32 : BitVec 32 := 2816#32
  ![v41.toNat, 2816]
def k0_off3_at (r : Fin 4) : BitVec 32 :=
  if r.val < 2 then
    if r.val < 1 then
      0#32
    else
      4#32
  else
    if r.val < 3 then
      1#32
    else
      5#32
def k0_dev6 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_36 : BitVec 32 := 4#32
  let v39 : BitVec 32 := Scalar.xori v2 c4_i32_36
  let c1_i32_44 : BitVec 32 := 1#32
  let v44 : BitVec 32 := Scalar.muli v39 c1_i32_44
  let v45 : BitVec 32 := Scalar.addi c0_i32_45 v44
  v45.toNat
def k0_off4 (d0 : Dev nD) (c0_i32_51 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v57 : BitVec 32 := Scalar.xori v2 c0_i32_51
  let c512_i32_52 : BitVec 32 := 512#32
  let v58 : BitVec 32 := Scalar.muli v57 c512_i32_52
  let v59 : Index := Scalar.indexCast v58
  let c0_53 : Index := 0#32
  ![v59.toNat, 0]
def k0_dev7 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_80 : BitVec 32 := 3#32
  let v78 : BitVec 32 := Scalar.xori v2 c3_i32_80
  let c1_i32_89 : BitVec 32 := 1#32
  let v83 : BitVec 32 := Scalar.muli v78 c1_i32_89
  let v84 : BitVec 32 := Scalar.addi c0_i32_90 v83
  v84.toNat
def k0_dev8 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_94 : BitVec 32 := 4#32
  let v91 : BitVec 32 := Scalar.xori v2 c4_i32_94
  let c1_i32_103 : BitVec 32 := 1#32
  let v96 : BitVec 32 := Scalar.muli v91 c1_i32_103
  let v97 : BitVec 32 := Scalar.addi c0_i32_104 v96
  v97.toNat
def k0_dev9 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_108 : BitVec 32 := 1#32
  let v104 : BitVec 32 := Scalar.xori v2 c1_i32_108
  let c1_i32_117 : BitVec 32 := 1#32
  let v109 : BitVec 32 := Scalar.muli v104 c1_i32_117
  let v110 : BitVec 32 := Scalar.addi c0_i32_118 v109
  v110.toNat
def k0_dev10 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_146 : BitVec 32 := 3#32
  let v135 : BitVec 32 := Scalar.xori v2 c3_i32_146
  let c1_i32_157 : BitVec 32 := 1#32
  let v142 : BitVec 32 := Scalar.muli v135 c1_i32_157
  let v143 : BitVec 32 := Scalar.addi c0_i32_158 v142
  v143.toNat
def k0_dev11 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_161 : BitVec 32 := 4#32
  let v150 : BitVec 32 := Scalar.xori v2 c4_i32_161
  let c1_i32_171 : BitVec 32 := 1#32
  let v157 : BitVec 32 := Scalar.muli v150 c1_i32_171
  let v158 : BitVec 32 := Scalar.addi c0_i32_172 v157
  v158.toNat
def k0_dev12 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v165 : BitVec 32 := Scalar.xori v2 c1_i32_175
  let c1_i32_185 : BitVec 32 := 1#32
  let v172 : BitVec 32 := Scalar.muli v165 c1_i32_185
  let v173 : BitVec 32 := Scalar.addi c0_i32_186 v172
  v173.toNat
def k0_dev13 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_300 : BitVec 32 := 4#32
  let v273 : BitVec 32 := Scalar.xori v2 c4_i32_300
  let c1_i32_307 : BitVec 32 := 1#32
  let v274 : BitVec 32 := Scalar.muli v273 c1_i32_307
  let v275 : BitVec 32 := Scalar.addi c0_i32_308 v274
  v275.toNat
def k0_dev14 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_300 : BitVec 32 := 4#32
  let v273 : BitVec 32 := Scalar.xori v2 c4_i32_300
  let c1_i32_321 : BitVec 32 := 1#32
  let v285 : BitVec 32 := Scalar.muli v273 c1_i32_321
  let v286 : BitVec 32 := Scalar.addi c0_i32_322 v285
  v286.toNat
def k0_dev15 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_326 : BitVec 32 := 1#32
  let v294 : BitVec 32 := Scalar.xori v2 c1_i32_326
  let c1_i32_333 : BitVec 32 := 1#32
  let v295 : BitVec 32 := Scalar.muli v294 c1_i32_333
  let v296 : BitVec 32 := Scalar.addi c0_i32_334 v295
  v296.toNat
def k0_dev16 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_326 : BitVec 32 := 1#32
  let v294 : BitVec 32 := Scalar.xori v2 c1_i32_326
  let c1_i32_347 : BitVec 32 := 1#32
  let v306 : BitVec 32 := Scalar.muli v294 c1_i32_347
  let v307 : BitVec 32 := Scalar.addi c0_i32_348 v306
  v307.toNat
def k0_dev17 (d0 : Dev nD) : Nat :=
  let c0_i32_360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_352 : BitVec 32 := 3#32
  let v315 : BitVec 32 := Scalar.xori v2 c3_i32_352
  let c1_i32_359 : BitVec 32 := 1#32
  let v316 : BitVec 32 := Scalar.muli v315 c1_i32_359
  let v317 : BitVec 32 := Scalar.addi c0_i32_360 v316
  v317.toNat
def k0_dev18 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_352 : BitVec 32 := 3#32
  let v315 : BitVec 32 := Scalar.xori v2 c3_i32_352
  let c1_i32_373 : BitVec 32 := 1#32
  let v327 : BitVec 32 := Scalar.muli v315 c1_i32_373
  let v328 : BitVec 32 := Scalar.addi c0_i32_374 v327
  v328.toNat
def k0_dev19 (d0 : Dev nD) : Nat :=
  let c0_i32_435 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_426 : BitVec 32 := 4#32
  let v372 : BitVec 32 := Scalar.xori v2 c4_i32_426
  let c1_i32_434 : BitVec 32 := 1#32
  let v375 : BitVec 32 := Scalar.muli v372 c1_i32_434
  let v376 : BitVec 32 := Scalar.addi c0_i32_435 v375
  v376.toNat
def k0_dev20 (d0 : Dev nD) : Nat :=
  let c0_i32_448 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_426 : BitVec 32 := 4#32
  let v372 : BitVec 32 := Scalar.xori v2 c4_i32_426
  let c1_i32_447 : BitVec 32 := 1#32
  let v386 : BitVec 32 := Scalar.muli v372 c1_i32_447
  let v387 : BitVec 32 := Scalar.addi c0_i32_448 v386
  v387.toNat
def k0_dev21 (d0 : Dev nD) : Nat :=
  let c0_i32_462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_452 : BitVec 32 := 1#32
  let v395 : BitVec 32 := Scalar.xori v2 c1_i32_452
  let c1_i32_461 : BitVec 32 := 1#32
  let v398 : BitVec 32 := Scalar.muli v395 c1_i32_461
  let v399 : BitVec 32 := Scalar.addi c0_i32_462 v398
  v399.toNat
def k0_dev22 (d0 : Dev nD) : Nat :=
  let c0_i32_475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_452 : BitVec 32 := 1#32
  let v395 : BitVec 32 := Scalar.xori v2 c1_i32_452
  let c1_i32_474 : BitVec 32 := 1#32
  let v409 : BitVec 32 := Scalar.muli v395 c1_i32_474
  let v410 : BitVec 32 := Scalar.addi c0_i32_475 v409
  v410.toNat
def k0_dev23 (d0 : Dev nD) : Nat :=
  let c0_i32_489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_479 : BitVec 32 := 3#32
  let v418 : BitVec 32 := Scalar.xori v2 c3_i32_479
  let c1_i32_488 : BitVec 32 := 1#32
  let v421 : BitVec 32 := Scalar.muli v418 c1_i32_488
  let v422 : BitVec 32 := Scalar.addi c0_i32_489 v421
  v422.toNat
def k0_dev24 (d0 : Dev nD) : Nat :=
  let c0_i32_502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_479 : BitVec 32 := 3#32
  let v418 : BitVec 32 := Scalar.xori v2 c3_i32_479
  let c1_i32_501 : BitVec 32 := 1#32
  let v432 : BitVec 32 := Scalar.muli v418 c1_i32_501
  let v433 : BitVec 32 := Scalar.addi c0_i32_502 v432
  v433.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v935 : Index := Scalar.indexCast v2
  let c0_1074 : Index := 0#32
  let c0_1075 : Index := 0#32
  ![v935.toNat, 0, 0]
def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1081 : BitVec 32 := 0#32
  let c0_i32_1082 : BitVec 32 := 0#32
  ![v2.toNat, 0, 0]
def k0_dev25 (d0 : Dev nD) : Nat :=
  let c0_i32_1080 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1076 : BitVec 32 := 1#32
  let v939 : BitVec 32 := Scalar.addi v2 c1_i32_1076
  let c8_i32_1077 : BitVec 32 := 8#32
  let v940 : BitVec 32 := Scalar.remsi v939 c8_i32_1077
  let c1_i32_1079 : BitVec 32 := 1#32
  let v941 : BitVec 32 := Scalar.muli v940 c1_i32_1079
  let v942 : BitVec 32 := Scalar.addi c0_i32_1080 v941
  v942.toNat
def k0_dev26 (d0 : Dev nD) : Nat :=
  let c0_i32_1089 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1085 : BitVec 32 := 2#32
  let v951 : BitVec 32 := Scalar.addi v2 c2_i32_1085
  let c8_i32_1086 : BitVec 32 := 8#32
  let v952 : BitVec 32 := Scalar.remsi v951 c8_i32_1086
  let c1_i32_1088 : BitVec 32 := 1#32
  let v953 : BitVec 32 := Scalar.muli v952 c1_i32_1088
  let v954 : BitVec 32 := Scalar.addi c0_i32_1089 v953
  v954.toNat
def k0_dev27 (d0 : Dev nD) : Nat :=
  let c0_i32_1098 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1094 : BitVec 32 := 3#32
  let v963 : BitVec 32 := Scalar.addi v2 c3_i32_1094
  let c8_i32_1095 : BitVec 32 := 8#32
  let v964 : BitVec 32 := Scalar.remsi v963 c8_i32_1095
  let c1_i32_1097 : BitVec 32 := 1#32
  let v965 : BitVec 32 := Scalar.muli v964 c1_i32_1097
  let v966 : BitVec 32 := Scalar.addi c0_i32_1098 v965
  v966.toNat
def k0_dev28 (d0 : Dev nD) : Nat :=
  let c0_i32_1107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1103 : BitVec 32 := 4#32
  let v975 : BitVec 32 := Scalar.addi v2 c4_i32_1103
  let c8_i32_1104 : BitVec 32 := 8#32
  let v976 : BitVec 32 := Scalar.remsi v975 c8_i32_1104
  let c1_i32_1106 : BitVec 32 := 1#32
  let v977 : BitVec 32 := Scalar.muli v976 c1_i32_1106
  let v978 : BitVec 32 := Scalar.addi c0_i32_1107 v977
  v978.toNat
def k0_dev29 (d0 : Dev nD) : Nat :=
  let c0_i32_1116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1112 : BitVec 32 := 5#32
  let v987 : BitVec 32 := Scalar.addi v2 c5_i32_1112
  let c8_i32_1113 : BitVec 32 := 8#32
  let v988 : BitVec 32 := Scalar.remsi v987 c8_i32_1113
  let c1_i32_1115 : BitVec 32 := 1#32
  let v989 : BitVec 32 := Scalar.muli v988 c1_i32_1115
  let v990 : BitVec 32 := Scalar.addi c0_i32_1116 v989
  v990.toNat
def k0_dev30 (d0 : Dev nD) : Nat :=
  let c0_i32_1125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1121 : BitVec 32 := 6#32
  let v999 : BitVec 32 := Scalar.addi v2 c6_i32_1121
  let c8_i32_1122 : BitVec 32 := 8#32
  let v1000 : BitVec 32 := Scalar.remsi v999 c8_i32_1122
  let c1_i32_1124 : BitVec 32 := 1#32
  let v1001 : BitVec 32 := Scalar.muli v1000 c1_i32_1124
  let v1002 : BitVec 32 := Scalar.addi c0_i32_1125 v1001
  v1002.toNat
def k0_dev31 (d0 : Dev nD) : Nat :=
  let c0_i32_1134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1130 : BitVec 32 := 7#32
  let v1011 : BitVec 32 := Scalar.addi v2 c7_i32_1130
  let c8_i32_1131 : BitVec 32 := 8#32
  let v1012 : BitVec 32 := Scalar.remsi v1011 c8_i32_1131
  let c1_i32_1133 : BitVec 32 := 1#32
  let v1013 : BitVec 32 := Scalar.muli v1012 c1_i32_1133
  let v1014 : BitVec 32 := Scalar.addi c0_i32_1134 v1013
  v1014.toNat
def k0_off8 (d0 : Dev nD) (c1_i32_1139 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1023 : BitVec 32 := Scalar.addi v2 c1_i32_1139
  let c8_i32_1140 : BitVec 32 := 8#32
  let v1024 : BitVec 32 := Scalar.remsi v1023 c8_i32_1140
  ![v1024.toNat]
def k0_off9 (d0 : Dev nD) (c1_i32_1139 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1023 : BitVec 32 := Scalar.addi v2 c1_i32_1139
  let c8_i32_1140 : BitVec 32 := 8#32
  let v1024 : BitVec 32 := Scalar.remsi v1023 c8_i32_1140
  let c0_i32_1145 : BitVec 32 := 0#32
  let c0_i32_1146 : BitVec 32 := 0#32
  ![v1024.toNat, 0, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Common.lean ====
/-
# The gather's schedule

The kernel moves every device's rows of `x` to every other device in three column parts along the edges of a cube, and
multiplies each piece as it lands. This module names the pieces, the semaphore cells and what each transfer hands over.

-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.MemrefSat
public import Idealize.ShloMosaic.Lib.ShareLeaves
public import Idealize.ShloMosaic.Lib.Tactic

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's, the rounds', and the local copies' counters -/

abbrev UB : Type := URounds (GSem nD τ sig) (Fin 8)
abbrev UU : Type := UR sig nD τ × (UB × Counters)

local notation "𝕄" => MT nD τ sig Unit (Elt F) ℕ UU ℕ

abbrev EP : Emb (UR sig nD τ) (MT nD τ sig Unit (Elt F) ℕ UU ℕ) := embL
noncomputable def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB (MT nD τ sig Unit (Elt F) ℕ UU ℕ)).LandsIn (upEmb : UEmb _ 𝕄) := by
  unfold ER; infer_instance
abbrev EC : UEmb Counters (MT nD τ sig Unit (Elt F) ℕ UU ℕ) := countersEmb (U := UU)

variable (m : (ℓ : Loc nD τ sig) → Buf (Elt F) ℓ) (ρ : Dev nD → PrngReg)

/-- The memory at launch: any contents, every semaphore at zero, any generator registers. -/
noncomputable def s₀ : MemSt nD τ sig (Elt F) := ⟨m, fun _ => 0, ρ⟩

abbrev 𝒱₀ : Variants := Variants.none

/-! ## The cube of devices and the three column parts -/

/-- The device (or block) across the set of directions `v` from `c`. -/
noncomputable def px (c v : Fin 8) : Fin 8 := ⟨(c.val ^^^ v.val) % 8, Nat.mod_lt _ (by decide)⟩
theorem px_px : ∀ c v : Fin 8, px (px c v) v = c := by decide

/-- The three column parts of a block of rows. -/
inductive Part | a | b | c
  deriving DecidableEq
instance : Fintype Part := ⟨{.a, .b, .c}, fun s => by cases s <;> decide⟩

noncomputable abbrev psh : Part → Shape | .a => S512x1408 | .b => S512x1408 | .c => S512x1280
noncomputable abbrev wsh : Part → Shape | .a => S1408x256 | .b => S1408x256 | .c => S1280x256

noncomputable abbrev xM : Memref sig .tc .vmem S512x4096 .f32 := Memref.whole cc0_stg0_0
noncomputable abbrev wM : Memref sig .tc .vmem S4096x256 .f32 := Memref.whole cc0_stg1_0
noncomputable abbrev oM : Memref sig .tc .vmem S4096x256 .f32 := Memref.whole cc0_stg2_0
noncomputable abbrev gM : Memref sig .tc .hbm S4096x4096 .f32 := Memref.whole main_v1_1
noncomputable abbrev vM : Memref sig .tc .vmem S3x4x512x1408 .f32 := Memref.whole cc0_scratch0
noncomputable abbrev sM : Memref sig .tc .vmem S2x512x1408 .f32 := Memref.whole cc0_scratch1
noncomputable abbrev aM : Memref sig .tc .vmem S8x8x128 .f32 := Memref.whole cc0_scratch2

/-- The columns of a part of a block of `x`. -/
noncomputable abbrev xR : (s : Part) → Rect S512x4096
  | .a => Rect.unit (s := S512x4096) ![0, 0] S512x1408.size (by decide)
  | .b => Rect.unit (s := S512x4096) ![0, 1408] S512x1408.size (by decide)
  | .c => Rect.unit (s := S512x4096) ![0, 2816] S512x1280.size (by decide)
noncomputable abbrev xP : (s : Part) → Memref sig .tc .vmem (psh s) .f32
  | .a => xM.slice (xR .a) (fun _ => rfl)
  | .b => xM.slice (xR .b) (fun _ => rfl)
  | .c => xM.slice (xR .c) (fun _ => rfl)

theorem gR_inb1 : ∀ b : Fin 8, ∀ a, (![512 * b.val, 0] : Fin 2 → ℕ) a + S512x1408.size a ≤ S4096x4096.size a := by decide
theorem gR_inb2 : ∀ b : Fin 8, ∀ a, (![512 * b.val, 1408] : Fin 2 → ℕ) a + S512x1408.size a ≤ S4096x4096.size a := by decide
theorem gR_inb3 : ∀ b : Fin 8, ∀ a, (![512 * b.val, 2816] : Fin 2 → ℕ) a + S512x1280.size a ≤ S4096x4096.size a := by decide

/-- Part `s` of row block `b` of the gathered array. -/
noncomputable abbrev gR (b : Fin 8) : (s : Part) → Rect S4096x4096
  | .a => Rect.unit (s := S4096x4096) ![512 * b.val, 0] S512x1408.size (gR_inb1 b)
  | .b => Rect.unit (s := S4096x4096) ![512 * b.val, 1408] S512x1408.size (gR_inb2 b)
  | .c => Rect.unit (s := S4096x4096) ![512 * b.val, 2816] S512x1280.size (gR_inb3 b)
noncomputable abbrev gP (b : Fin 8) : (s : Part) → Memref sig .tc .hbm (psh s) .f32
  | .a => gM.slice (gR b .a) (fun _ => rfl)
  | .b => gM.slice (gR b .b) (fun _ => rfl)
  | .c => gM.slice (gR b .c) (fun _ => rfl)

abbrev Part.n : Part → Fin 3 | .a => 0 | .b => 1 | .c => 2
theorem vR_inb1 : ∀ (i : Fin 3) (j : Fin 4), ∀ a, (![i.val, j.val, 0, 0] : Fin 4 → ℕ) a + S1x1x512x1408.size a ≤ S3x4x512x1408.size a := by decide
theorem vR_inb3 : ∀ (i : Fin 3) (j : Fin 4), ∀ a, (![i.val, j.val, 0, 0] : Fin 4 → ℕ) a + S1x1x512x1280.size a ≤ S3x4x512x1408.size a := by decide

noncomputable abbrev vsh : Part → Shape | .a => S1x1x512x1408 | .b => S1x1x512x1408 | .c => S1x1x512x1280
/-- Landing slot `j` of part `s`. -/
noncomputable abbrev vR (j : Fin 4) : (s : Part) → Rect S3x4x512x1408
  | .a => Rect.unit (s := S3x4x512x1408) ![(0 : Fin 3).val, j.val, 0, 0] S1x1x512x1408.size (vR_inb1 0 j)
  | .b => Rect.unit (s := S3x4x512x1408) ![(1 : Fin 3).val, j.val, 0, 0] S1x1x512x1408.size (vR_inb1 1 j)
  | .c => Rect.unit (s := S3x4x512x1408) ![(2 : Fin 3).val, j.val, 0, 0] S1x1x512x1280.size (vR_inb3 2 j)
noncomputable abbrev vP (j : Fin 4) : (s : Part) → Memref sig .tc .vmem (psh s) .f32
  | .a => (vM.slice (vR j .a) (fun _ => rfl)).squeeze S512x1408 Facts₀.squeezes_S1x1x512x1408_S512x1408
  | .b => (vM.slice (vR j .b) (fun _ => rfl)).squeeze S512x1408 Facts₀.squeezes_S1x1x512x1408_S512x1408
  | .c => (vM.slice (vR j .c) (fun _ => rfl)).squeeze S512x1280 Facts₀.squeezes_S1x1x512x1280_S512x1280

theorem aR_inb : ∀ p : Fin 8, ∀ a, (![p.val, 0, 0] : Fin 3 → ℕ) a + S1x8x128.size a ≤ S8x8x128.size a := by decide
/-- The slot of the maxima array that device `p`'s maximum fills. -/
noncomputable abbrev aR (p : Fin 8) : Rect S8x8x128 := Rect.unit (s := S8x8x128) ![p.val, 0, 0] S1x8x128.size (aR_inb p)
noncomputable abbrev aP (p : Fin 8) : Memref sig .tc .vmem S8x128 .f32 := (aM.slice (aR p) (fun _ => rfl)).squeeze S8x128 Facts₀.squeezes_S1x8x128_S8x128

theorem oR_inb : ∀ b : Fin 8, ∀ a, (![512 * b.val, 0] : Fin 2 → ℕ) a + S512x256.size a ≤ S4096x256.size a := by decide
/-- Row block `b` of the result. -/
noncomputable abbrev oR (b : Fin 8) : Rect S4096x256 := Rect.unit (s := S4096x256) ![512 * b.val, 0] S512x256.size (oR_inb b)
noncomputable abbrev oP (b : Fin 8) : Memref sig .tc .vmem S512x256 .f32 := oM.slice (oR b) (fun _ => rfl)

/-- The rows of `w` that part `s` of the columns of `x` meets. -/
noncomputable abbrev wR : (s : Part) → Rect S4096x256
  | .a => Rect.unit (s := S4096x256) ![0, 0] S1408x256.size (by decide)
  | .b => Rect.unit (s := S4096x256) ![1408, 0] S1408x256.size (by decide)
  | .c => Rect.unit (s := S4096x256) ![2816, 0] S1280x256.size (by decide)

/-! ## The order of the transfers

Part `s` of block `c ^ w` reaches device `c` as that device's receive `w` of the part, at step `tOf s w`, from the
device across `dirOf s w`, which holds it as its own block `vOf s w`; it is that sender's round `rOf s w` on the send
cell of the block. -/

noncomputable def tOf : Part → Fin 8 → Fin 3
  | .a => ![0, 0, 1, 1, 2, 2, 2, 2]
  | .b => ![0, 2, 2, 0, 1, 2, 2, 1]
  | .c => ![0, 1, 2, 2, 0, 1, 2, 2]
noncomputable def dirOf : Part → Fin 8 → Fin 8
  | .a => ![0, 1, 3, 3, 4, 4, 4, 4]
  | .b => ![0, 1, 1, 3, 4, 1, 1, 4]
  | .c => ![0, 1, 3, 3, 4, 1, 3, 3]
noncomputable def vOf (s : Part) (w : Fin 8) : Fin 8 := px w (dirOf s w)
/-- The landing slot of the pieces of the last step. -/
noncomputable def slotOf : Part → Fin 8 → Fin 4
  | .a => ![0, 0, 0, 0, 0, 1, 2, 3]
  | .b => ![0, 0, 1, 0, 0, 2, 3, 0]
  | .c => ![0, 0, 0, 1, 0, 0, 2, 3]
noncomputable def rOf : Part → Fin 8 → ℕ
  | .a => ![0, 0, 0, 1, 2, 1, 0, 0]
  | .b => ![0, 2, 1, 0, 1, 0, 0, 0]
  | .c => ![0, 1, 0, 2, 0, 0, 0, 1]
/-- The number of times block `v` of part `s` is sent. -/
noncomputable def nR : Part → Fin 8 → ℕ
  | .a => ![3, 2, 1, 1, 0, 0, 0, 0]
  | .b => ![3, 0, 0, 2, 1, 0, 0, 1]
  | .c => ![3, 1, 0, 0, 2, 1, 0, 0]

/-! ## Cells -/

noncomputable abbrev barS : Sem sig := (SemArray.scalar (sig.barrier 0 rfl) : Sems sig S_).sem

/-- The cells of a device: its barrier, its send and receive cells of each part, the maxima's send and receive cells. -/
inductive CK | bar | snd (s : Part) (v : Fin 8) | rcv (s : Part) (w : Fin 8) | asnd (d : Fin 8) | arcv (p : Fin 8)
  deriving DecidableEq
/-- The cells as a sum. -/
noncomputable def ckEquiv : (Unit ⊕ (Part × Fin 8) ⊕ (Part × Fin 8) ⊕ Fin 8 ⊕ Fin 8) ≃ CK where
  toFun
    | .inl _ => .bar
    | .inr (.inl p) => .snd p.1 p.2
    | .inr (.inr (.inl p)) => .rcv p.1 p.2
    | .inr (.inr (.inr (.inl d))) => .asnd d
    | .inr (.inr (.inr (.inr p))) => .arcv p
  invFun
    | .bar => .inl ()
    | .snd s v => .inr (.inl (s, v))
    | .rcv s w => .inr (.inr (.inl (s, w)))
    | .asnd d => .inr (.inr (.inr (.inl d)))
    | .arcv p => .inr (.inr (.inr (.inr p)))
  left_inv := by rintro (_ | _ | _ | _ | _) <;> rfl
  right_inv := by rintro (_ | _ | _ | _ | _) <;> rfl
noncomputable instance : Fintype CK := Fintype.ofEquiv _ ckEquiv

set_option backward.proofsInPublic true in
/-- The DMA semaphore of a cell. -/
noncomputable def csem : CK → DmaSem sig
  | .bar => 0
  | .snd s v => ⟨3 + 8 * s.n.val + v.val, by have := s.n.isLt; have := v.isLt; show _ < 69; omega⟩
  | .rcv s w => ⟨27 + 8 * s.n.val + w.val, by have := s.n.isLt; have := w.isLt; show _ < 69; omega⟩
  | .asnd d => ⟨53 + d.val, by have := d.isLt; show _ < 69; omega⟩
  | .arcv p => ⟨61 + p.val, by have := p.isLt; show _ < 69; omega⟩
/-- The semaphore of a cell. -/
noncomputable def cloc : CK → SemLoc sig
  | .bar => .reg barS
  | k => .dma (csem k)

noncomputable def pOf : ℕ → Part | 0 => .a | 1 => .b | _ => .c
noncomputable def f8 (n : ℕ) : Fin 8 := ⟨n % 8, Nat.mod_lt _ (by decide)⟩
/-- The cell a semaphore is, if it is one. -/
noncomputable def ckOf : SemLoc sig → Option CK
  | .reg _ => some .bar
  | .dma q =>
    let n := q.val
    if n < 3 then none
    else if n < 27 then some (.snd (pOf ((n - 3) / 8)) (f8 (n - 3)))
    else if n < 51 then some (.rcv (pOf ((n - 27) / 8)) (f8 (n - 27)))
    else if n < 53 then none
    else if n < 61 then some (.asnd (f8 (n - 53)))
    else some (.arcv (f8 (n - 61)))

theorem ckOf_cloc (k : CK) : ckOf (cloc k) = some k := by revert k; decide
theorem cloc_inj {k k' : CK} (h : cloc k = cloc k') : k = k' := Option.some.inj (by rw [← ckOf_cloc k, h, ckOf_cloc])

noncomputable abbrev cell (c : Dev nD) (k : CK) : GSem nD τ sig := ((c : Thread nD τ), cloc k)
theorem cell_inj : Function.Injective fun p : Dev nD × CK => cell p.1 p.2 := by
  rintro ⟨c, k⟩ ⟨c', k'⟩ h
  have h1 := congrArg (fun g : GSem nD τ sig => g.1.1) h
  have h2 := cloc_inj (congrArg (fun g : GSem nD τ sig => g.2) h)
  dsimp at h1 h2; rw [h1, h2]

/-! ## Amounts -/

noncomputable def crP : Part → ℕ
  | .a => (xP .a).view.dmaCredit
  | .b => (xP .b).view.dmaCredit
  | .c => (xP .c).view.dmaCredit
noncomputable def crA : ℕ := (aP 0).view.dmaCredit
theorem crP_pos (s : Part) : 0 < crP s := by cases s <;> exact View.dmaCredit_pos _ (by decide)
theorem crA_pos : 0 < crA := View.dmaCredit_pos _ (by decide)

noncomputable def amt : CK → ℕ
  | .bar => 1
  | .snd s _ => crP s
  | .rcv s _ => crP s
  | .asnd _ => crA
  | .arcv _ => crA
theorem amt_pos (k : CK) : 0 < amt k := by
  cases k
  · exact Nat.one_pos
  · exact crP_pos _
  · exact crP_pos _
  · exact crA_pos
  · exact crA_pos

/-! ## Contents -/

/-- Device `c`'s rows of `x`, as they are staged. -/
noncomputable def xv (c : Dev nD) : (cc0_stg0_0 : Ref sig .tc).ty.Contents (Elt F) :=
  (win0_0.blk (0 : Fin 1)).view.read (Elt F) ((s₀ m ρ).mem ((c : Thread nD τ).loc main_arg0))
/-- Device `c`'s columns of `w`, as they are staged. -/
noncomputable def wv (c : Dev nD) : (cc0_stg1_0 : Ref sig .tc).ty.Contents (Elt F) :=
  (win0_1.blk (0 : Fin 1)).view.read (Elt F) ((s₀ m ρ).mem ((c : Thread nD τ).loc main_arg1))

/-- Part `s` of the columns of `x`. -/
noncomputable def xpart (X : S512x4096.Idx → F .f32) : (s : Part) → (psh s).Idx → F .f32
  | .a => fun j => X ((xR .a).emb j)
  | .b => fun j => X ((xR .b).emb j)
  | .c => fun j => X ((xR .c).emb j)
/-- Part `s` of the rows of `w`. -/
noncomputable def wpart (W : S4096x256.Idx → F .f32) : (s : Part) → (wsh s).Idx → F .f32
  | .a => fun j => W ((wR .a).emb j)
  | .b => fun j => W ((wR .b).emb j)
  | .c => fun j => W ((wR .c).emb j)

noncomputable def xp (c : Dev nD) (s : Part) : (psh s).Idx → F .f32 := xpart (xv m ρ c) s
noncomputable def wp' (c : Dev nD) (s : Part) : (wsh s).Idx → F .f32 := wpart (wv m ρ c) s

/-- The product of one part. -/
noncomputable def dotp : (s : Part) → FVec F (psh s) .f32 → FVec F (wsh s) .f32 → FVec F S512x256 .f32
  | .a => fun x w => matmul dot_S512x1408_S1408x256_S512x256_1_0_0_1_n_n none x w (constant S512x256 .f32 0x00000000#32)
  | .b => fun x w => matmul dot_S512x1408_S1408x256_S512x256_1_0_0_1_n_n none x w (constant S512x256 .f32 0x00000000#32)
  | .c => fun x w => matmul dot_S512x1280_S1280x256_S512x256_1_0_0_1_n_n none x w (constant S512x256 .f32 0x00000000#32)
noncomputable def dp (c : Dev nD) (v : Fin 8) (s : Part) : FVec F S512x256 .f32 := dotp s (xp m ρ (px c v) s) (wp' m ρ c s)

/-- The order in which the parts of block `v` are added. -/
noncomputable def ord : Fin 8 → Fin 3 → Part
  | 0 => ![.a, .b, .c] | 1 => ![.a, .c, .b] | 2 => ![.a, .b, .c] | 3 => ![.b, .a, .c]
  | 4 => ![.c, .b, .a] | 5 => ![.c, .a, .b] | 6 => ![.a, .b, .c] | 7 => ![.b, .c, .a]

/-- Block `v` of device `c`'s product after one, two and all three parts. -/
noncomputable def y1 (c : Dev nD) (v : Fin 8) : FVec F S512x256 .f32 := dp m ρ c v (ord v 0)
noncomputable def y2 (c : Dev nD) (v : Fin 8) : FVec F S512x256 .f32 := addf (y1 m ρ c v) (dp m ρ c v (ord v 1))
noncomputable def y3 (c : Dev nD) (v : Fin 8) : FVec F S512x256 .f32 := addf (y2 m ρ c v) (dp m ρ c v (ord v 2))
/-- The device's own block, multiplied whole. -/
noncomputable def y0 (c : Dev nD) : FVec F S512x256 .f32 :=
  matmul dot_S512x4096_S4096x256_S512x256_1_0_0_1_n_n none (xv m ρ c : FVec F S512x4096 .f32) (wv m ρ c : FVec F S4096x256 .f32) (constant S512x256 .f32 0x00000000#32)
noncomputable def yv (c : Dev nD) (v : Fin 8) : FVec F S512x256 .f32 := if v = 0 then y0 m ρ c else y3 m ρ c v

/-- The largest element of a block. -/
noncomputable def bmax (y : FVec F S512x256 .f32) : F .f32 :=
  extractAt ![0, 0, 0] (shapeCast S1x1x1 (multiReduction .maximumf [1, 2] S1 (shapeCast S1x512x256 y shapeCasts_S512x256_S1x512x256) 0xFF800000#32
    reduces_S1x512x256_S1 (.inl rfl) rfl) shapeCasts_S1_S1x1x1) inpos_S1x1x1_p0_0_0
/-- The running maximum over the blocks in the order they are finished. -/
noncomputable def mx0 (c : Dev nD) : F .f32 := Scalar.maximumf (Scalar.ofBits .f32 0x00000000#32) (bmax (yv m ρ c 0))
noncomputable def mx (c : Dev nD) : List (Fin 8) → F .f32
  | [] => mx0 m ρ c
  | v :: l => Scalar.maximumf (mx c l) (bmax (yv m ρ c v))
/-- Device `c`'s maximum. -/
noncomputable def amv (c : Dev nD) : F .f32 := mx m ρ c [6, 7, 2, 5, 3, 1, 4]
noncomputable def amS (p : Dev nD) : S8x128.Idx → F .f32 := fun _ => amv m ρ p

/-- The row block of a row. -/
noncomputable def rowBlk (i : S4096x256.Idx) : Fin 8 := ⟨(i 0).val / 512, Nat.div_lt_of_lt_mul (i 0).isLt⟩
/-- The place of a row in its block. -/
noncomputable def rowIn (i : S4096x256.Idx) : S512x256.Idx :=
  Fin.cons (α := fun a => Fin (S512x256.size a)) ⟨(i 0).val % 512, Nat.mod_lt _ (by decide)⟩
    (Fin.cons (α := fun a : Fin 1 => Fin (S512x256.size a.succ)) (i 1) fun a => a.elim0)

/-- The whole product of device `c`: row block `b` is its block `b ^ c`. -/
noncomputable def yAll (c : Dev nD) : S4096x256.Idx → F .f32 := fun i => yv m ρ c (px c (rowBlk i)) (rowIn i)
/-- All maxima. -/
noncomputable def amAll : S8x8x128.Idx → F .f32 := fun i => amv m ρ (i 0)
/-- What device `c` leaves in the result. -/
noncomputable def outv (c : Dev nD) : (cc0_stg2_0 : Ref sig .tc).ty.Contents (Elt F) := k0_pay37 (amAll m ρ) (yAll m ρ c)

end Cert.GatherProof
-- ==== Proof.Sched.lean ====
/-
# The rounds of each cell, what each hands over, and what each device owes
-/
module

public import proofs.«01_k».proof.Proof.Common

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a transfer carries -/

/-- The share of a block that is lent to a transfer reading it. -/
noncomputable abbrev sq : PosShare TreeShare := fullShare.right
noncomputable abbrev aq (d : Fin 8) : PosShare TreeShare := ShareLeaves.leaf 3 fullShare d

/-- The share of part `s` of its block `v` that device `c` lends to a transfer. -/
noncomputable def srcO (c : Dev nD) (s : Part) (v : Fin 8) : sProp 𝕄 :=
  if v = 0 then owns (c : Thread nD τ) (xP s) sq (xp m ρ (px c v) s)
  else owns (c : Thread nD τ) (gP (px c v) s) sq (xp m ρ (px c v) s)
/-- Where receive `w` of part `s` lands on device `c`, holding `Y`. -/
noncomputable def dst (c : Dev nD) (s : Part) (w : Fin 8) (Y : (psh s).Idx → F .f32) : sProp 𝕄 :=
  if tOf s w = 2 then owns (c : Thread nD τ) (vP (slotOf s w) s) fullShare Y
  else owns (c : Thread nD τ) (gP (px c w) s) fullShare Y
noncomputable def dstE (c : Dev nD) (s : Part) (w : Fin 8) : sProp 𝕄 := iprop(∃ Y, dst c s w Y)
/-- Slot `p` of device `c`'s maxima array, at any contents. -/
noncomputable def amE (c : Dev nD) (p : Fin 8) : sProp 𝕄 := iprop(∃ Y, owns (c : Thread nD τ) (aP p) fullShare Y)

/-- What device `d`'s barrier signal along direction `k` hands over: the places the receiver will write on `d`, and slots
    of `d`'s maxima array for the receiver and the devices behind it. -/
noncomputable def barPay (d : Dev nD) (k : Fin 8) : sProp 𝕄 :=
  if k = 1 then iprop(dstE d .a 1 ∗ dstE d .b 1 ∗ dstE d .b 2 ∗ dstE d .b 5 ∗ dstE d .b 6 ∗ dstE d .c 1 ∗ dstE d .c 5
    ∗ amE d (px d 1) ∗ amE d (px d 2) ∗ amE d (px d 5) ∗ amE d (px d 6))
  else if k = 3 then iprop(dstE d .a 2 ∗ dstE d .a 3 ∗ dstE d .b 3 ∗ dstE d .c 2 ∗ dstE d .c 3 ∗ dstE d .c 6 ∗ dstE d .c 7
    ∗ amE d (px d 3) ∗ amE d (px d 7))
  else iprop(dstE d .a 4 ∗ dstE d .a 5 ∗ dstE d .a 6 ∗ dstE d .a 7 ∗ dstE d .b 4 ∗ dstE d .b 7 ∗ dstE d .c 4 ∗ amE d (px d 4))

/-- The slots of maxima arrays that travel with receive `w` of part `s` to device `c`. -/
noncomputable def ext (c : Dev nD) (s : Part) (w : Fin 8) : sProp 𝕄 :=
  if s = .b ∧ w = 3 then iprop(amE (px c 2) c ∗ amE (px c 2) (px c 4))
  else if s = .c ∧ w = 4 then iprop(amE (px c 5) c ∗ amE (px c 7) c)
  else if s = .b ∧ w = 7 then amE (px c 6) c
  else iprop(emp)

noncomputable def pay (c : Dev nD) : CK → ℕ → Fin 8 → sProp 𝕄
  | .bar, _, k => barPay (px c k) k
  | .snd s v, _, _ => srcO m ρ c s v
  | .rcv s w, _, _ => iprop(dst c s w (xp m ρ (px c w) s) ∗ ext c s w)
  | .asnd d, _, _ => owns (c : Thread nD τ) (aP c) (aq d) (amS m ρ c)
  | .arcv p, _, _ => owns (c : Thread nD τ) (aP p) fullShare (amS m ρ p)

/-- The number of rounds of a cell. -/
noncomputable def rds (c : Dev nD) : CK → ℕ
  | .bar => 1
  | .snd s v => nR s v
  | .rcv _ w => if w = 0 then 0 else 1
  | .asnd d => if d = 0 then 0 else 1
  | .arcv p => if p = c then 0 else 1
noncomputable def dset : CK → Finset (Fin 8) | .bar => {1, 3, 4} | _ => {0}
noncomputable def dut (c : Dev nD) (k : CK) (r : ℕ) : Finset (Fin 8) := if r < rds c k then dset k else ∅

noncomputable def Rd : Rounds.Schedule (GSem nD τ sig) (Fin 8) 𝕄 where
  duties g r := if g.1.2 = .tc then (match ckOf g.2 with | some k => dut g.1.1 k r | none => ∅) else ∅
  unitless _ := False
  amount g _ _ := match ckOf g.2 with | some k => amt k | none => 1
  payload g r d := match ckOf g.2 with | some k => pay m ρ g.1.1 k r d | none => iprop(emp)
  amount_pos g _ _ _ := by
    split
    · exact amt_pos _
    · exact Nat.one_pos

instance dst_storable (c s w Y) : BI.Storable (upEmb : UEmb _ 𝕄) (dst (F := F) c s w Y) := by
  unfold dst; split <;> infer_instance
instance dstE_storable (c s w) : BI.Storable (upEmb : UEmb _ 𝕄) (dstE (F := F) c s w) := by unfold dstE; infer_instance
instance amE_storable (c p) : BI.Storable (upEmb : UEmb _ 𝕄) (amE (F := F) c p) := by unfold amE; infer_instance
instance barPay_storable (d k) : BI.Storable (upEmb : UEmb _ 𝕄) (barPay (F := F) d k) := by
  unfold barPay; (repeat' split) <;> infer_instance
instance ext_storable (c s w) : BI.Storable (upEmb : UEmb _ 𝕄) (ext (F := F) c s w) := by
  unfold ext; (repeat' split) <;> infer_instance
instance srcO_storable (c s v) : BI.Storable (upEmb : UEmb _ 𝕄) (srcO m ρ c s v) := by
  unfold srcO; split <;> infer_instance
instance pay_storable (c k r d) : BI.Storable (upEmb : UEmb _ 𝕄) (pay m ρ c k r d) := by
  cases k <;> (dsimp only [pay]; infer_instance)
instance Rd_storable (g : GSem nD τ sig) (r : ℕ) (d : Fin 8) : BI.Storable (upEmb : UEmb _ 𝕄) ((Rd (F := F) m ρ).payload g r d) := by
  show BI.Storable upEmb (match ckOf g.2 with | some k => pay m ρ g.1.1 k r d | none => iprop(emp))
  split <;> infer_instance

section Sched
variable (c : Dev nD) (k : CK) (r : ℕ) (d : Fin 8)

theorem Rd_duties : (Rd (F := F) m ρ).duties (cell c k) r = dut c k r := by
  dsimp only [Rd, cell]; rw [if_pos rfl, ckOf_cloc]
theorem Rd_amount : (Rd (F := F) m ρ).amount (cell c k) r d = amt k := by dsimp only [Rd, cell]; rw [ckOf_cloc]
theorem Rd_payload : (Rd (F := F) m ρ).payload (cell c k) r d = pay m ρ c k r d := by dsimp only [Rd, cell]; rw [ckOf_cloc]
variable {k r} in
theorem dut_one (hk : dset k = {0}) (hr : r < rds c k) : dut c k r = {0} := by unfold dut; rw [if_pos hr, hk]
variable {c k r} in
theorem dut_none (hr : rds c k ≤ r) : dut c k r = ∅ := if_neg (Nat.not_lt.mpr hr)
variable {k r} in
theorem Rd_expect (hk : dset k = {0}) (hr : r < rds c k) : (Rd (F := F) m ρ).expect (cell c k) r = amt k := by
  unfold Schedule.expect Schedule.amountOf
  rw [Rd_duties, dut_one c hk hr, Finset.sum_singleton, Rd_amount]
variable {k r} in
theorem Rd_rest (hk : dset k = {0}) (hr : r < rds c k) :
    bigSep ((Rd (F := F) m ρ).duties (cell c k) r \ ∅) (fun d => (Rd (F := F) m ρ).payload (cell c k) r d) = pay m ρ c k r 0 := by
  rw [Finset.sdiff_empty, Rd_duties, dut_one c hk hr, bigSep_singleton, Rd_payload]
theorem Rd_expect_bar : (Rd (F := F) m ρ).expect (cell c .bar) 0 = 3 := by
  unfold Schedule.expect Schedule.amountOf
  rw [Rd_duties, Finset.sum_congr rfl fun d _ => Rd_amount m ρ c .bar 0 d, Finset.sum_const]
  rfl
theorem Rd_rest_bar :
    bigSep ((Rd (F := F) m ρ).duties (cell c .bar) 0 \ ∅) (fun d => (Rd (F := F) m ρ).payload (cell c .bar) 0 d)
      = iprop(barPay (px c 1) 1 ∗ barPay (px c 3) 3 ∗ barPay (px c 4) 4) := by
  rw [Finset.sdiff_empty, Rd_duties, show dut c .bar 0 = {1, 3, 4} from rfl, bigSep_congr fun d _ => Rd_payload m ρ c .bar 0 d,
    bigSep_eq_bigSepL_of_eq (l := [1, 3, 4]) (by decide) (by decide), bigSepL_cons_cons, bigSepL_cons_cons, bigSepL_singleton]
  rfl
end Sched

/-! ## What each device owes, in the order it pays -/

/-- The remote copies of the gather in program order. -/
noncomputable def sendL : List (Part × Fin 8) :=
  [(.a, 1), (.b, 3), (.c, 4), (.a, 3), (.b, 4), (.c, 1), (.a, 2), (.b, 7), (.c, 5), (.a, 4), (.a, 5), (.b, 1), (.b, 2), (.c, 3), (.c, 7),
   (.a, 6), (.a, 7), (.b, 5), (.b, 6), (.c, 2), (.c, 6)]
/-- The receive cells a device pays, with their devices, in program order: three barriers, the gather's transfers, the maxima. -/
noncomputable def oweList (c : Dev nD) : List (Dev nD × CK) :=
  [(px c 1, .bar), (px c 3, .bar), (px c 4, .bar)] ++ sendL.map (fun p => (px c (dirOf p.1 p.2), .rcv p.1 p.2))
    ++ [1, 2, 3, 4, 5, 6, 7].map (fun k : Fin 8 => (c + k, .arcv c))
noncomputable def owedL : List (Dev nD × CK) → CellTallies nD τ sig Unit
  | [] => 0
  | p :: l => owedL l + tallyAt (cell p.1 p.2) () (amt p.2)

/-- The level of a cell: its waiter owes only higher ones. -/
noncomputable def lev : CK → ℕ
  | .bar => 1
  | .rcv s w => 2 + (tOf s w).val
  | .arcv _ => 5
  | _ => 0
noncomputable def levS (sm : SemLoc sig) : ℕ := match ckOf sm with | some k => lev k | none => 0
noncomputable def L (g : GSem nD τ sig) : Finset Unit := if g.1.2 = .tc then {()} else ∅
noncomputable def lv (g : GSem nD τ sig) (_ : Unit) : ℕ := levS g.2

theorem L_of_ne (g : GSem nD τ sig) (h : g.1.2 ≠ .tc) : L g = ∅ := if_neg h
theorem L_tc (c : Dev nD) (sm : SemLoc sig) : L ((c : Thread nD τ), sm) = {()} := if_pos rfl
theorem levS_cloc (k : CK) : levS (cloc k) = lev k := by unfold levS; rw [ckOf_cloc]

theorem owedL_pos {g : GSem nD τ sig} {u : Unit} : ∀ {l : List (Dev nD × CK)}, 0 < owedL l g u → ∃ p ∈ l, g = cell p.1 p.2
  | [], h => absurd h (Nat.lt_irrefl 0)
  | p :: l, h => by
    unfold owedL at h
    rw [Pi.add_apply, Finsupp.add_apply, tallyAt_apply] at h
    by_cases hg : g = cell p.1 p.2 ∧ u = ()
    · exact ⟨p, List.mem_cons_self, hg.1⟩
    · rw [if_neg hg, Nat.add_zero] at h
      obtain ⟨p', hp', e⟩ := owedL_pos h
      exact ⟨p', List.mem_cons_of_mem _ hp', e⟩

/-- A device may wait at a cell below everything it owes. -/
theorem mayWait_owed (c : Dev nD) (sm : SemLoc sig) (l : List (Dev nD × CK)) (h : (l.all fun p => decide (levS sm < lev p.2)) = true) :
    (levAts L lv : sProp 𝕄) ⊢ MayWait (c : Thread nD τ) sm () (owedL l) :=
  MayOwe.of_cut (L := L) (lev := lv) (levS sm) (fun p hp => by rw [Finset.mem_singleton.mp hp, L_tc]; exact Finset.mem_singleton_self _)
    (fun g u hg => by
      obtain ⟨p, -, rfl⟩ := owedL_pos hg
      rw [L_tc]; exact Finset.mem_singleton_self _)
    (fun p hp => by rw [Finset.mem_singleton.mp hp]; exact le_refl _)
    (fun g u hg => by
      obtain ⟨p, hp, rfl⟩ := owedL_pos hg
      show levS sm < levS (cloc p.2)
      rw [levS_cloc]
      exact of_decide_eq_true (List.all_eq_true.mp h p hp))

/-! ## The pieces of a device's ghost state -/

/-- The invariants of all cells, under the names the launch allocated, that all have reached round 0, and the levels. -/
noncomputable def Recs (K : Dev nD × CK → ℕ) : sProp 𝕄 :=
  iprop((bigSep Finset.univ fun p : Dev nD × CK => iprop(cellInv ER (Rd m ρ) (K p) (cell p.1 p.2) ∗ reached ER (cell p.1 p.2) 0)) ∗ levAts L lv)
instance Recs_persistent (K) : BI.Persistent (Recs m ρ K) := by unfold Recs; infer_instance

/-- Device `c` has done `r` rounds of its cell `k`. -/
noncomputable def Pos (c : Dev nD) (k : CK) (r : ℕ) : sProp 𝕄 := iprop(atPos ER (cell c k) r ∅ 0 ∗ reached ER (cell c k) r)
noncomputable def Cred (c : Dev nD) (k : CK) : sProp 𝕄 := cred (tallyAt (cell c k) () (amt k))
noncomputable def Tok (c : Dev nD) (k : CK) (r : ℕ) (d : Fin 8) : sProp 𝕄 := dutyTok ER (cell c k) r d
noncomputable def Owes (c : Dev nD) (l : List (Dev nD × CK)) : sProp 𝕄 := iprop(∃ W, owes (c : Thread nD τ) (owedL l) W)
noncomputable def Zero (c : Dev nD) (k : CK) : sProp 𝕄 := semVal (cell c k) 0

variable (K : Dev nD × CK → ℕ)

theorem Recs_cell (c : Dev nD) (k : CK) :
    Recs m ρ K ⊢ iprop(cellInv ER (Rd m ρ) (K (c, k)) (cell c k) ∗ reached ER (cell c k) 0) := by
  exact (BI.sep_and.trans and_elimL).trans
    (bigSep_elim (Φ := fun p : Dev nD × CK => iprop(cellInv ER (Rd m ρ) (K p) (cell p.1 p.2) ∗ reached ER (cell p.1 p.2) 0)) (Finset.mem_univ (c, k)))
theorem Recs_lev : Recs m ρ K ⊢ (levAts L lv : sProp 𝕄) := by unfold Recs; iintro ⟨-, H⟩; iexact H

/-- A cell all of whose rounds are done closes with its semaphore at zero. -/
theorem close_cell (c : Dev nD) (k : CK) (r : ℕ) (hr : rds c k ≤ r) :
    iprop(Recs m ρ K ∗ Pos c k r) ⊢ iprop(|={Set.univ}=> Zero c k) := by
  iintro ⟨HR, HP⟩
  ihave HI := (Recs_cell m ρ K c k) $$ HR
  icases HI with ⟨HI, -⟩
  unfold Pos Zero
  icases HP with ⟨Hat, -⟩
  iapply (cell_close ER (Rd m ρ) (Set.mem_univ (K (c, k))) (fun h => h) (R := r)
    (fun r' hr' => by rw [Rd_duties]; exact dut_none (hr.trans hr')))
  isplitl [HI]; · iexact HI
  iexact Hat

end Cert.GatherProof
-- ==== Proof.Steps.lean ====
/-
# One rule per kind of operation, at this kernel's cells
-/
module

public import proofs.«01_k».proof.Proof.Sched

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-- A program of device `c`'s core. -/
abbrev PR (α : Type) : Type 1 := Prog (TpuEff nD τ sig (Elt F) Λ₀ .tc) α
/-- The weakest precondition of a program of device `c`'s core. -/
noncomputable abbrev WP (c : Dev nD) {α : Type} (p : Prog (TpuEff nD τ sig (Elt F) Λ₀ (c : Thread nD τ).2) α) (Q : α → sProp 𝕄) : sProp 𝕄 :=
  wp frame (wpE (defs₀ (F := F)) 𝒱₀ (c : Thread nD τ) none) Set.univ p Q

theorem slice_unit_congr {κ : Kind} {sp : Space} {s : Shape} {e : EltTy} (M : Memref sig κ sp s e) {off off' : Fin s.rank → ℕ} (h : off = off')
    (size : Fin s.rank → ℕ) (i : ∀ a, off a + size a ≤ s.size a) (i' : ∀ a, off' a + size a ≤ s.size a)
    (hr : ∀ a, (Rect.unit (s := s) off size i).stride a = 1) (hr' : ∀ a, (Rect.unit (s := s) off' size i').stride a = 1) :
    (M.slice (Rect.unit (s := s) off size i) hr : Memref sig κ sp ⟨s.rank, size⟩ e) = M.slice (Rect.unit (s := s) off' size i') hr' := by
  subst h; rfl

/-! ## Signals -/

theorem st_signal (c n : Dev nD) (d : Fin 8) (l : List (Dev nD × CK)) (hd : d ∈ dut n .bar 0) (n' : Dev nD) (hn : n' = n)
    {α : Type} {Q : α → sProp 𝕄} {k : PUnit → Prog (TpuEff nD τ sig (Elt F) Λ₀ .tc) α} :
    iprop(Recs m ρ K ∗ Owes c ((n, .bar) :: l) ∗ Tok n .bar 0 d ∗ barPay (px n d) d)
      ⊢ iprop((Owes c l -∗ WP c (k ⟨⟩) Q) -∗ WP c (.op (.semSignal (n' : Thread nD τ) barS 1) k) Q) := by
  subst hn
  iintro ⟨#HR, HO, Ht, Hp⟩ Hk
  ihave HI := (Recs_cell m ρ K n' .bar) $$ HR
  icases HI with ⟨#HI, #Hr⟩
  unfold Owes Tok
  icases HO with ⟨%W, HO⟩
  iapply (Rounds.wp_signal 𝒱₀ ER (Rd m ρ) (c : Thread nD τ) none (dst := (n' : Thread nD τ)) (sem := barS) (κ := K (n', .bar)) (r := 0)
      (d := d) (by rw [show ((n' : Thread nD τ), SemLoc.reg barS) = cell n' .bar from rfl, Rd_duties]; exact hd)
      ((Rd_amount m ρ n' .bar 0 d).trans rfl) () (owedL l) rfl) $$ [HO Ht Hp]
  · isplitr; · iexact HI
    isplitl [HO]; · iexact HO
    isplitl [Ht]; · iexact Ht
    isplitl [Hp]; · rw [show ((n' : Thread nD τ), SemLoc.reg barS) = cell n' .bar from rfl, Rd_payload]; dsimp only [pay]; iexact Hp
    iexact Hr
  iintro HO
  iapply Hk
  iexists W; iexact HO

/-! ## Waits -/

theorem st_barwait (c : Dev nD) (l : List (Dev nD × CK)) (hl : (l.all fun p => decide (levS (cloc .bar) < lev p.2)) = true)
    {α : Type} {Q : α → sProp 𝕄} {k : PUnit → Prog (TpuEff nD τ sig (Elt F) Λ₀ .tc) α} :
    iprop(Recs m ρ K ∗ Pos c .bar 0 ∗ cred (tallyAt (cell c .bar) () 3) ∗ Owes c l)
      ⊢ iprop(((Zero c .bar ∗ Owes c l ∗ barPay (px c 1) 1 ∗ barPay (px c 3) 3 ∗ barPay (px c 4) 4) -∗ WP c (k ⟨⟩) Q)
        -∗ WP c (.op (.semWait barS 3) k) Q) := by
  iintro ⟨#HR, HP, Hc, HO⟩ Hk
  ihave HI := (Recs_cell m ρ K c .bar) $$ HR
  icases HI with ⟨#HI, #Hr⟩
  unfold Owes
  icases HO with ⟨%W, HO⟩
  unfold Pos
  icases HP with ⟨Hat, -⟩
  iapply (Rounds.wp_wait_rest_token 𝒱₀ ER (Rd m ρ) (c : Thread nD τ) none (κ := K (c, .bar)) (sm := .reg barS)
      (wpE_semWait_eq 𝒱₀ (c : Thread nD τ) none Set.univ) (Set.mem_univ _) () (O := owedL l) (W := W) (R := 0) (m := 0) (T := ∅)
      (by rw [Nat.zero_add]; exact (Rd_expect_bar m ρ c).symm)) $$ [Hc HO Hat]
  · isplitr; · iexact HI
    isplitl [Hc]; · iexact Hc
    isplitl [HO]; · iexact HO
    isplitr; · iapply (mayWait_owed c (.reg barS) l hl); iapply (Recs_lev m ρ K); iexact HR
    iexact Hat
  rw [show ((c : Thread nD τ), SemLoc.reg barS) = cell c .bar from rfl]
  iintro ⟨HO, Hat, #Hr1, Hpay⟩
  ihave Hp := (Entails.of_eq (Rd_rest_bar m ρ c)) $$ Hpay
  imod (close_cell m ρ K c .bar 1 (le_refl 1)) $$ [Hat] with Hz
  · isplitr; · iexact HR
    unfold Pos
    isplitl [Hat]; · iexact Hat
    iexact Hr1
  iapply Hk
  isplitl [Hz]; · iexact Hz
  isplitl [HO]; · iexists _; iexact HO
  iexact Hp

theorem st_wait (c : Dev nD) (k : CK) (r : ℕ) (l : List (Dev nD × CK)) (hk : dset k = {0}) (hr : r < rds c k) (sem : DmaSem sig)
    (hs : SemLoc.dma sem = cloc k) (hl : (l.all fun p => decide (lev k < lev p.2)) = true)
    {sp sp' : Space} {s s' : Shape} {e e' : EltTy} {κ' : Kind}
    {srcw : Memref sig (c : Thread nD τ).2.kind sp' s' e'} {dstw : Memref sig κ' sp s e} {hsrc : srcw.view.WordExact} {hdst : dstw.view.WordExact}
    (hN : dstw.view.dmaCredit = amt k)
    {α : Type} {Q : α → sProp 𝕄} {kk : PUnit → Prog (TpuEff nD τ sig (Elt F) Λ₀ (c : Thread nD τ).2) α} :
    iprop(Recs m ρ K ∗ Pos c k r ∗ Cred c k ∗ Owes c l)
      ⊢ iprop(((Pos c k (r + 1) ∗ Owes c l ∗ pay m ρ c k r 0) -∗ WP c (kk ⟨⟩) Q)
        -∗ WP c (.op (.waitDma2 sem srcw dstw hsrc hdst) kk) Q) := by
  iintro ⟨#HR, HP, Hc, HO⟩ Hk
  ihave HI := (Recs_cell m ρ K c k) $$ HR
  icases HI with ⟨#HI, #Hr⟩
  unfold Owes
  icases HO with ⟨%W, HO⟩
  unfold Pos Cred
  icases HP with ⟨Hat, -⟩
  have hcell : ((c : Thread nD τ), SemLoc.dma sem) = cell c k := by rw [hs]
  iapply (Rounds.wp_wait_rest_token 𝒱₀ ER (Rd m ρ) (c : Thread nD τ) none (κ := K (c, k)) (sm := .dma sem) (k' := amt k)
      (fun Q' => by rw [← hN]; exact wpE_waitDma2_eq 𝒱₀ (c : Thread nD τ) none Set.univ Q') (Set.mem_univ _) () (O := owedL l) (W := W) (R := r) (m := 0) (T := ∅)
      (by rw [Nat.zero_add, hcell, Rd_expect m ρ c hk hr])) $$ [Hc HO Hat]
  · rw [hcell]
    isplitr; · iexact HI
    isplitl [Hc]; · iexact Hc
    isplitl [HO]; · iexact HO
    isplitr; · rw [hs]; iapply (mayWait_owed c (cloc k) l (by rw [levS_cloc]; exact hl)); iapply (Recs_lev m ρ K); iexact HR
    iexact Hat
  rw [hcell, hs]
  iintro ⟨HO, Hat, #Hr1, Hpay⟩
  ihave Hp := (Entails.of_eq (Rd_rest m ρ c hk hr)) $$ Hpay
  iapply Hk
  isplitl [Hat]
  · isplitl [Hat]; · iexact Hat
    iexact Hr1
  isplitl [HO]; · iexists _; iexact HO
  iexact Hp

theorem st_waitz (c : Dev nD) (k : CK) (r : ℕ) (l : List (Dev nD × CK)) (hk : dset k = {0}) (hr : rds c k = r + 1) (sem : DmaSem sig)
    (hs : SemLoc.dma sem = cloc k) (hl : (l.all fun p => decide (lev k < lev p.2)) = true)
    {sp sp' : Space} {s s' : Shape} {e e' : EltTy} {κ' : Kind}
    {srcw : Memref sig (c : Thread nD τ).2.kind sp' s' e'} {dstw : Memref sig κ' sp s e} {hsrc : srcw.view.WordExact} {hdst : dstw.view.WordExact}
    (hN : dstw.view.dmaCredit = amt k)
    {α : Type} {Q : α → sProp 𝕄} {kk : PUnit → Prog (TpuEff nD τ sig (Elt F) Λ₀ (c : Thread nD τ).2) α} :
    iprop(Recs m ρ K ∗ Pos c k r ∗ Cred c k ∗ Owes c l)
      ⊢ iprop(((Zero c k ∗ Owes c l ∗ pay m ρ c k r 0) -∗ WP c (kk ⟨⟩) Q)
        -∗ WP c (.op (.waitDma2 sem srcw dstw hsrc hdst) kk) Q) := by
  iintro ⟨#HR, HP, Hc, HO⟩ Hk
  iapply (st_wait m ρ K c k r l hk (by omega) sem hs hl hN) $$ [HP Hc HO]
  · isplitr; · iexact HR
    isplitl [HP]; · iexact HP
    isplitl [Hc]; · iexact Hc
    iexact HO
  iintro ⟨HP, HO, Hp⟩
  imod (close_cell m ρ K c k (r + 1) (le_of_eq hr)) $$ [HP] with Hz
  · isplitr; · iexact HR
    iexact HP
  iapply Hk
  isplitl [Hz]; · iexact Hz
  isplitl [HO]; · iexact HO
  iexact Hp

/-! ## Remote copies -/

/-- A remote copy on the send cell `kS` (round `r`) of device `c` to the receive cell `kR` of device `n`: the source share
    becomes the send payload, the destination written with what is read, and `X`, the receive payload. -/
theorem st_copy (c n : Dev nD) (kS kR : CK) (r : ℕ) (l : List (Dev nD × CK)) (hkS : dset kS = {0}) (hkR : dset kR = {0})
    (hr : r < rds c kS) (hr' : 0 < rds n kR) (N : ℕ) (hNS : amt kS = N) (hNR : amt kR = N)
    {sp sp' : Space} {s : Shape} {e : EltTy} (M1 M1' : Memref sig .tc sp s e) (h1 : M1' = M1) (M2 M2' : Memref sig .tc sp' s e) (h2 : M2' = M2)
    (n' : Dev nD) (hn : n' = n) (q1 q2 : DmaSem sig) (hq1 : SemLoc.dma q1 = cloc kS) (hq2 : SemLoc.dma q2 = cloc kR)
    (hN : M2.view.dmaCredit = N) (q : PosShare TreeShare) (Y : s.Idx → Elt F e) (X : sProp 𝕄)
    (hp1 : owns (c : Thread nD τ) M1 q Y ⊢ pay m ρ c kS r 0)
    (hp2 : iprop(owns (n : Thread nD τ) M2 fullShare Y ∗ X) ⊢ pay m ρ n kR 0 0)
    {hsc : M2'.view.ref.isScScratch = false} {hsrc : M1'.view.WordExact} {hdst : M2'.view.WordExact}
    {hsem : DmaTarget.Typed sp (.dma q2) (.remote (Dev.tc n' : Thread nD τ) M2' (.dma q1) hsc)}
    {α : Type} {Q : α → sProp 𝕄} {kk : PUnit → Prog (TpuEff nD τ sig (Elt F) Λ₀ .tc) α} :
    iprop(Recs m ρ K ∗ Pos c kS r ∗ Tok c kS r 0 ∗ Tok n kR 0 0 ∗ owns (c : Thread nD τ) M1 q Y
        ∗ (∃ Z, owns (n : Thread nD τ) M2 fullShare Z) ∗ X ∗ Owes c ((n, kR) :: l))
      ⊢ iprop(((Pos c kS r ∗ Cred c kS ∗ Owes c l) -∗ WP c (kk ⟨⟩) Q)
        -∗ WP c (.op (.enqueueDma M1' (.remote (Dev.tc n' : Thread nD τ) M2' (.dma q1) hsc) (.dma q2) hsrc hdst hsem) kk) Q) := by
  subst hn h1 h2
  iintro ⟨#HR, HP, Ht1, Ht2, Hs, ⟨%Z, Hd⟩, HX, HO⟩ Hk
  ihave HI := (Recs_cell m ρ K c kS) $$ HR
  icases HI with ⟨#HI1, -⟩
  ihave HI := (Recs_cell m ρ K n' kR) $$ HR
  icases HI with ⟨#HI2, #Hr2⟩
  unfold Owes Pos Cred Tok
  icases HO with ⟨%W, HO⟩
  icases HP with ⟨Hat, #Hr1⟩
  have hc1 : ((c : Thread nD τ), SemLoc.dma q1) = cell c kS := by rw [hq1]
  have hc2 : ((n' : Thread nD τ), SemLoc.dma q2) = cell n' kR := by rw [hq2]
  ihave Hs := (show owns (c : Thread nD τ) M1' q Y ⊢ iprop(∃ f, ⌜M1'.view.read (Elt F) f = Y⌝ ∗ M1'.view.loc (c : Thread nD τ) ↦[M1'.view.set]{q} f) from .rfl) $$ Hs
  icases Hs with ⟨%fs, %hfs, Hs⟩
  ihave Hd := (show owns (n' : Thread nD τ) M2' fullShare Z ⊢ iprop(∃ f, ⌜M2'.view.read (Elt F) f = Z⌝ ∗ M2'.view.loc (n' : Thread nD τ) ↦[M2'.view.set]{fullShare} f) from .rfl) $$ Hd
  icases Hd with ⟨%fd, %hfd, Hd⟩
  iapply (Rounds.wp_send_pointsTo_with 𝒱₀ ER (Rd m ρ) (c : Thread nD τ) none (c' := (n' : Thread nD τ)) (sS := .dma q1) (sem := .dma q2)
    (κ₁ := K (c, kS)) (κ₂ := K (n', kR)) (r₁ := r) (r₂ := 0) (d₁ := 0) (d₂ := 0) (fs := fs) (fd := fd) (F := X)
    (by rw [hc1, Rd_duties, dut_one c hkS hr]; exact Finset.mem_singleton_self _)
    (by rw [hc2, Rd_duties, dut_one n' hkR hr']; exact Finset.mem_singleton_self _)
    () () N hN (by rw [hc1, Rd_amount, hNS]) (by rw [hc2, Rd_amount, hNR]) (owedL l) (by rw [hc2, ← hNR]) (W := W)
    (by rw [hc1, Rd_payload]; exact ((owns_intro (c : Thread nD τ) M1' q fs).trans (by rw [hfs]; exact hp1)))
    (by
      rw [hc2, Rd_payload]
      refine BI.Entails.trans ?_ hp2
      refine sep_mono_left ((owns_intro (n' : Thread nD τ) M2' fullShare _).trans (Entails.of_eq ?_))
      rw [View.read_write_univ, hfs])) $$ [HX HO Ht1 Ht2 Hs Hd]
  · rw [hc1, hc2]
    isplitr; · iexact HI1
    isplitr; · iexact HI2
    isplitl [Hs]; · iexact Hs
    isplitl [Hd HX]
    · isplitl [Hd]; · iexact Hd
      iexact HX
    isplitl [HO]; · iexact HO
    isplitl [Ht1]; · iexact Ht1
    isplitr; · iexact Hr1
    isplitl [Ht2]; · iexact Ht2
    iexact Hr2
  rw [hc1, hNS]
  iintro ⟨Hc, HO⟩
  iapply Hk
  isplitl [Hat]
  · isplitl [Hat]; · iexact Hat
    iexact Hr1
  isplitl [Hc]; · iexact Hc
  iexists _; iexact HO

/-! ## Local copies -/

/-- A copy from the gathered array into a staging slot, on its own semaphore. -/
theorem st_local (c : Dev nD) {sp sp' : Space} {s : Shape} {e : EltTy} (M1 M1' : Memref sig (c : Thread nD τ).2.kind sp s e) (h1 : M1' = M1)
    (M2 : Memref sig (c : Thread nD τ).2.kind sp' s e) (q1 : DmaSem sig) (hN0 : 0 < M2.view.dmaCredit) (q : PosShare TreeShare) (Y : s.Idx → Elt F e)
    {hsrc : M1'.view.WordExact} {hdst : M2.view.WordExact} {hsem : DmaTarget.Typed (nD := nD) sp (.dma q1) (.here M2)}
    {α : Type} {Q : α → sProp 𝕄} {kk : PUnit → Prog (TpuEff nD τ sig (Elt F) Λ₀ .tc) α} :
    iprop(owns (c : Thread nD τ) M1 q Y ∗ (∃ Z, owns (c : Thread nD τ) M2 fullShare Z) ∗ semVal ((c : Thread nD τ), .dma q1) 0)
      ⊢ iprop((Transfers.Flight EC (c : Thread nD τ) (.dma q1) () M2.view.dmaCredit (iprop(owns (c : Thread nD τ) M2 fullShare Y ∗ owns (c : Thread nD τ) M1 q Y)) -∗ WP c (kk ⟨⟩) Q)
        -∗ WP c (.op (.enqueueDma M1' (.here M2) (.dma q1) hsrc hdst hsem) kk) Q) := by
  subst h1
  iintro ⟨Hs, ⟨%Z, Hd⟩, Hv⟩ Hk
  ihave Hs := (show owns (c : Thread nD τ) M1' q Y ⊢ iprop(∃ f, ⌜M1'.view.read (Elt F) f = Y⌝ ∗ M1'.view.loc (c : Thread nD τ) ↦[M1'.view.set]{q} f) from .rfl) $$ Hs
  icases Hs with ⟨%fs, %hfs, Hs⟩
  ihave Hd := (show owns (c : Thread nD τ) M2 fullShare Z ⊢ iprop(∃ f, ⌜M2.view.read (Elt F) f = Z⌝ ∗ M2.view.loc (c : Thread nD τ) ↦[M2.view.set]{fullShare} f) from .rfl) $$ Hd
  icases Hd with ⟨%fd, %hfd, Hd⟩
  iapply (Transfers.wp_dmaLocal EC 𝒱₀ (c : Thread nD τ) none (fs := fs) (fd := fd) (Sd := M2.view.set) () M2.view.dmaCredit rfl hN0 (subset_refl _)) $$ [Hs Hd Hv]
  · isplitl [Hs]; · iexact Hs
    isplitl [Hd]; · iexact Hd
    iexact Hv
  iintro HF
  iapply Hk
  have hw : M2.view.read (Elt F) (M2.view.write (Elt F) fd (M1'.view.read (Elt F) fs) Finset.univ) = Y := by rw [View.read_write_univ, hfs]
  iapply (Transfers.Flight_mono EC (c : Thread nD τ)
    (BI.sep_mono ((owns_intro (c : Thread nD τ) M2 fullShare (M2.view.write (Elt F) fd (M1'.view.read (Elt F) fs) Finset.univ)).trans
      (Entails.of_eq (congrArg (owns (c : Thread nD τ) M2 fullShare) hw)))
      ((owns_intro (c : Thread nD τ) M1' q fs).trans (Entails.of_eq (congrArg (owns (c : Thread nD τ) M1' q) hfs)))))
  iexact HF

theorem st_waitlocal (c : Dev nD) (l : List (Dev nD × CK)) (q1 : DmaSem sig) (hl : (l.all fun p => decide (levS (.dma q1) < lev p.2)) = true)
    {N : ℕ} {D : sProp 𝕄} {sp sp' : Space} {s s' : Shape} {e e' : EltTy} {κ' : Kind}
    {srcw : Memref sig (c : Thread nD τ).2.kind sp' s' e'} {dstw : Memref sig κ' sp s e} {hsrc : srcw.view.WordExact} {hdst : dstw.view.WordExact}
    (hN : dstw.view.dmaCredit = N)
    {α : Type} {Q : α → sProp 𝕄} {kk : PUnit → Prog (TpuEff nD τ sig (Elt F) Λ₀ (c : Thread nD τ).2) α} :
    iprop(Recs m ρ K ∗ Transfers.Flight EC (c : Thread nD τ) (.dma q1) () N D ∗ Owes c l)
      ⊢ iprop(((D ∗ semVal ((c : Thread nD τ), .dma q1) 0 ∗ Owes c l) -∗ WP c (kk ⟨⟩) Q)
        -∗ WP c (.op (.waitDma2 q1 srcw dstw hsrc hdst) kk) Q) := by
  iintro ⟨#HR, HF, HO⟩ Hk
  unfold Owes
  icases HO with ⟨%W, HO⟩
  iapply (Transfers.wp_waitLocalO EC 𝒱₀ (c : Thread nD τ) none () hN (O := owedL l) (W := W)) $$ [HF HO]
  · isplitl [HF]; · iexact HF
    isplitl [HO]; · iexact HO
    iapply (mayWait_owed c (.dma q1) l hl); iapply (Recs_lev m ρ K); iexact HR
  iintro ⟨HD, Hv, HO⟩
  iapply Hk
  isplitl [HD]; · iexact HD
  isplitl [Hv]; · iexact Hv
  iexists _; iexact HO

/-! ## Loads and stores -/

/-- A load of a rectangle that is owned, through its slice, at `Y`. -/
theorem st_load (c : Dev nD) {s : Shape} {e : EltTy} {cs : CoreSpace} (M : Memref sig .tc cs s e) (off off' : Fin s.rank → ℕ) (h : off' = off)
    (size : Fin s.rank → ℕ) (i : ∀ a, off a + size a ≤ s.size a) (i' : ∀ a, off' a + size a ≤ s.size a)
    (q : PosShare TreeShare) (Y : (⟨s.rank, size⟩ : Shape).Idx → Elt F e)
    {hl : M.view.LoadsAt (Rect.unit (s := s) off' size i').toLoadRect}
    {α : Type} {Q : α → sProp 𝕄} {kk : ((⟨s.rank, size⟩ : Shape).Idx → Elt F e) → Prog (TpuEff nD τ sig (Elt F) Λ₀ .tc) α} :
    owns (c : Thread nD τ) (M.slice (Rect.unit (s := s) off size i) (fun _ => rfl)) q Y
      ⊢ iprop((owns (c : Thread nD τ) (M.slice (Rect.unit (s := s) off size i) (fun _ => rfl)) q Y -∗ WP c (kk Y) Q)
        -∗ WP c (.op (.load M (Rect.unit (s := s) off' size i').toLoadRect hl) kk) Q) := by
  subst h
  iintro H Hk
  ihave H := (show owns (c : Thread nD τ) (M.slice (Rect.unit (s := s) off' size i) (fun _ => rfl)) q Y
    ⊢ iprop(∃ f, ⌜(M.access (Rect.unit (s := s) off' size i)).read (Elt F) f = Y⌝
      ∗ (M.access (Rect.unit (s := s) off' size i)).loc (c : Thread nD τ) ↦[(M.access (Rect.unit (s := s) off' size i)).set]{q} f) from .rfl) $$ H
  icases H with ⟨%f, %hf, H⟩
  iapply (wp_load_rect 𝒱₀ (c : Thread nD τ) none Set.univ (m := M) (r := Rect.unit (s := s) off' size i) (subset_refl _)) $$ H
  iintro H
  rw [hf]
  iapply Hk
  iapply (show iprop(∃ f, ⌜(M.access (Rect.unit (s := s) off' size i)).read (Elt F) f = Y⌝
      ∗ (M.access (Rect.unit (s := s) off' size i)).loc (c : Thread nD τ) ↦[(M.access (Rect.unit (s := s) off' size i)).set]{q} f)
    ⊢ owns (c : Thread nD τ) (M.slice (Rect.unit (s := s) off' size i) (fun _ => rfl)) q Y from .rfl)
  iexists f; isplitr; · ipureintro; exact hf
  iexact H

/-- A store to a rectangle that is owned through its slice. -/
theorem st_store (c : Dev nD) {s : Shape} {e : EltTy} {cs : CoreSpace} (M : Memref sig .tc cs s e) (off off' : Fin s.rank → ℕ) (h : off' = off)
    (size : Fin s.rank → ℕ) (i : ∀ a, off a + size a ≤ s.size a) (i' : ∀ a, off' a + size a ≤ s.size a)
    (Z Y : (⟨s.rank, size⟩ : Shape).Idx → Elt F e)
    {hx : (M.access (Rect.unit (s := s) off' size i')).Stores Finset.univ}
    {hm : (Finset.univ : Finset (Rect.unit (s := s) off' size i').shape.Idx) = Finset.univ ∨ ∀ a, (Rect.unit (s := s) off' size i').stride a = 1}
    {α : Type} {Q : α → sProp 𝕄} {kk : PUnit → Prog (TpuEff nD τ sig (Elt F) Λ₀ .tc) α} :
    owns (c : Thread nD τ) (M.slice (Rect.unit (s := s) off size i) (fun _ => rfl)) fullShare Z
      ⊢ iprop((owns (c : Thread nD τ) (M.slice (Rect.unit (s := s) off size i) (fun _ => rfl)) fullShare Y -∗ WP c (kk ⟨⟩) Q)
        -∗ WP c (.op (.store M (Rect.unit (s := s) off' size i') Y Finset.univ hx hm) kk) Q) := by
  subst h
  iintro H Hk
  ihave H := (show owns (c : Thread nD τ) (M.slice (Rect.unit (s := s) off' size i) (fun _ => rfl)) fullShare Z
    ⊢ iprop(∃ f, ⌜(M.access (Rect.unit (s := s) off' size i)).read (Elt F) f = Z⌝
      ∗ (M.access (Rect.unit (s := s) off' size i)).loc (c : Thread nD τ) ↦[(M.access (Rect.unit (s := s) off' size i)).set]{fullShare} f) from .rfl) $$ H
  icases H with ⟨%f, %hf, H⟩
  iapply (wp_store 𝒱₀ (c : Thread nD τ) none Set.univ (m := M) (r := Rect.unit (s := s) off' size i) (Mk := Finset.univ) (f := f)
    (S := (M.access (Rect.unit (s := s) off' size i)).set) (by rw [View.setOn_univ])) $$ H
  iintro H
  iapply Hk
  iapply (show iprop(∃ f, ⌜(M.access (Rect.unit (s := s) off' size i)).read (Elt F) f = Y⌝
      ∗ (M.access (Rect.unit (s := s) off' size i)).loc (c : Thread nD τ) ↦[(M.access (Rect.unit (s := s) off' size i)).set]{fullShare} f)
    ⊢ owns (c : Thread nD τ) (M.slice (Rect.unit (s := s) off' size i) (fun _ => rfl)) fullShare Y from .rfl)
  iexists _; isplitr
  rotate_left
  · iexact H
  · ipureintro; exact View.read_write_univ _ _

end Cert.GatherProof
-- ==== Proof.Addr.lean ====
/-
# The addresses the program computes, and the operations of the gather at each device
-/
module

public import proofs.«01_k».proof.Proof.Steps

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## Addresses -/

theorem px_zero : ∀ c : Fin 8, px c 0 = c := by decide +kernel
theorem px_comm : ∀ a b : Fin 8, px a b = px b a := by decide +kernel
theorem pxx : ∀ c a b : Fin 8, px (px c a) b = px c (px a b) := by decide +kernel

theorem off1_eq : ∀ c v : Fin 8, k0_off1 c (BitVec.ofNat 32 v.val) = ![512 * (px c v).val, 0] := by decide +kernel
theorem off2_eq : ∀ c v : Fin 8, k0_off2 c (BitVec.ofNat 32 v.val) = ![512 * (px c v).val, 1408] := by decide +kernel
theorem off3_eq : ∀ c v : Fin 8, k0_off3 c (BitVec.ofNat 32 v.val) = ![512 * (px c v).val, 2816] := by decide +kernel
theorem off4_eq : ∀ c v : Fin 8, k0_off4 c (BitVec.ofNat 32 v.val) = ![512 * (px c v).val, 0] := by decide +kernel

theorem gE1 (c v : Fin 8) (i) (hr) : gM.slice (Rect.unit (s := S4096x4096) (k0_off1 c (BitVec.ofNat 32 v.val)) S512x1408.size i) hr = gP (px c v) .a :=
  slice_unit_congr gM (off1_eq c v) _ _ _ _ (fun _ => rfl)
theorem gE2 (c v : Fin 8) (i) (hr) : gM.slice (Rect.unit (s := S4096x4096) (k0_off2 c (BitVec.ofNat 32 v.val)) S512x1408.size i) hr = gP (px c v) .b :=
  slice_unit_congr gM (off2_eq c v) _ _ _ _ (fun _ => rfl)
theorem gE3 (c v : Fin 8) (i) (hr) : gM.slice (Rect.unit (s := S4096x4096) (k0_off3 c (BitVec.ofNat 32 v.val)) S512x1280.size i) hr = gP (px c v) .c :=
  slice_unit_congr gM (off3_eq c v) _ _ _ _ (fun _ => rfl)
theorem aE7 (c : Fin 8) (i) (hr) : (aM.slice (Rect.unit (s := S8x8x128) (k0_off7 c) S1x8x128.size i) hr).squeeze S8x128 Facts₀.squeezes_S1x8x128_S8x128 = aP c :=
  congrArg (fun M : Memref sig .tc .vmem S1x8x128 .f32 => M.squeeze S8x128 Facts₀.squeezes_S1x8x128_S8x128) (slice_unit_congr aM (k0_off7_eq c) _ _ _ _ _)

theorem dv1 : ∀ c : Dev nD, (⟨k0_dev1 c, k0_dev1_lt c⟩ : Dev nD) = px c 1 := by decide +kernel
theorem dv2 : ∀ c : Dev nD, (⟨k0_dev2 c, k0_dev2_lt c⟩ : Dev nD) = px c 3 := by decide +kernel
theorem dv3 : ∀ c : Dev nD, (⟨k0_dev3 c, k0_dev3_lt c⟩ : Dev nD) = px c 4 := by decide +kernel
theorem dv4 : ∀ c : Dev nD, (⟨k0_dev4 c, k0_dev4_lt c⟩ : Dev nD) = px c 1 := by decide +kernel
theorem dv5 : ∀ c : Dev nD, (⟨k0_dev5 c, k0_dev5_lt c⟩ : Dev nD) = px c 3 := by decide +kernel
theorem dv6 : ∀ c : Dev nD, (⟨k0_dev6 c, k0_dev6_lt c⟩ : Dev nD) = px c 4 := by decide +kernel
theorem dv7 : ∀ c : Dev nD, (⟨k0_dev7 c, k0_dev7_lt c⟩ : Dev nD) = px c 3 := by decide +kernel
theorem dv8 : ∀ c : Dev nD, (⟨k0_dev8 c, k0_dev8_lt c⟩ : Dev nD) = px c 4 := by decide +kernel
theorem dv9 : ∀ c : Dev nD, (⟨k0_dev9 c, k0_dev9_lt c⟩ : Dev nD) = px c 1 := by decide +kernel
theorem dv10 : ∀ c : Dev nD, (⟨k0_dev10 c, k0_dev10_lt c⟩ : Dev nD) = px c 3 := by decide +kernel
theorem dv11 : ∀ c : Dev nD, (⟨k0_dev11 c, k0_dev11_lt c⟩ : Dev nD) = px c 4 := by decide +kernel
theorem dv12 : ∀ c : Dev nD, (⟨k0_dev12 c, k0_dev12_lt c⟩ : Dev nD) = px c 1 := by decide +kernel
theorem dv13 : ∀ c : Dev nD, (⟨k0_dev13 c, k0_dev13_lt c⟩ : Dev nD) = px c 4 := by decide +kernel
theorem dv14 : ∀ c : Dev nD, (⟨k0_dev14 c, k0_dev14_lt c⟩ : Dev nD) = px c 4 := by decide +kernel
theorem dv15 : ∀ c : Dev nD, (⟨k0_dev15 c, k0_dev15_lt c⟩ : Dev nD) = px c 1 := by decide +kernel
theorem dv16 : ∀ c : Dev nD, (⟨k0_dev16 c, k0_dev16_lt c⟩ : Dev nD) = px c 1 := by decide +kernel
theorem dv17 : ∀ c : Dev nD, (⟨k0_dev17 c, k0_dev17_lt c⟩ : Dev nD) = px c 3 := by decide +kernel
theorem dv18 : ∀ c : Dev nD, (⟨k0_dev18 c, k0_dev18_lt c⟩ : Dev nD) = px c 3 := by decide +kernel
theorem dv19 : ∀ c : Dev nD, (⟨k0_dev19 c, k0_dev19_lt c⟩ : Dev nD) = px c 4 := by decide +kernel
theorem dv20 : ∀ c : Dev nD, (⟨k0_dev20 c, k0_dev20_lt c⟩ : Dev nD) = px c 4 := by decide +kernel
theorem dv21 : ∀ c : Dev nD, (⟨k0_dev21 c, k0_dev21_lt c⟩ : Dev nD) = px c 1 := by decide +kernel
theorem dv22 : ∀ c : Dev nD, (⟨k0_dev22 c, k0_dev22_lt c⟩ : Dev nD) = px c 1 := by decide +kernel
theorem dv23 : ∀ c : Dev nD, (⟨k0_dev23 c, k0_dev23_lt c⟩ : Dev nD) = px c 3 := by decide +kernel
theorem dv24 : ∀ c : Dev nD, (⟨k0_dev24 c, k0_dev24_lt c⟩ : Dev nD) = px c 3 := by decide +kernel
theorem dv25 : ∀ c : Dev nD, (⟨k0_dev25 c, k0_dev25_lt c⟩ : Dev nD) = c + 1 := by decide +kernel
theorem dv26 : ∀ c : Dev nD, (⟨k0_dev26 c, k0_dev26_lt c⟩ : Dev nD) = c + 2 := by decide +kernel
theorem dv27 : ∀ c : Dev nD, (⟨k0_dev27 c, k0_dev27_lt c⟩ : Dev nD) = c + 3 := by decide +kernel
theorem dv28 : ∀ c : Dev nD, (⟨k0_dev28 c, k0_dev28_lt c⟩ : Dev nD) = c + 4 := by decide +kernel
theorem dv29 : ∀ c : Dev nD, (⟨k0_dev29 c, k0_dev29_lt c⟩ : Dev nD) = c + 5 := by decide +kernel
theorem dv30 : ∀ c : Dev nD, (⟨k0_dev30 c, k0_dev30_lt c⟩ : Dev nD) = c + 6 := by decide +kernel
theorem dv31 : ∀ c : Dev nD, (⟨k0_dev31 c, k0_dev31_lt c⟩ : Dev nD) = c + 7 := by decide +kernel

/-! ## A squeezed memref and its whole -/

theorem owns_squeeze (c : Dev nD) {sp : Space} {s s' : Shape} {e : EltTy} (M : Memref sig .tc sp s e) (h : s.Squeezes s') (q : PosShare TreeShare)
    (Y : s'.Idx → Elt F e) :
    (owns (c : Thread nD τ) (M.squeeze s' h : Memref sig (c : Thread nD τ).2.kind sp s' e) q Y : sProp 𝕄)
      = owns (c : Thread nD τ) (M : Memref sig (c : Thread nD τ).2.kind sp s e) q (fun i => Y ((Shape.reshapeEquiv h.numel_eq).symm i)) := by
  have hS : (M.squeeze s' h).view.set = M.view.set := View.set_reshape _ _
  show (iprop(∃ f, ⌜(M.squeeze s' h).view.read (Elt F) f = Y⌝ ∗ M.view.loc (c : Thread nD τ) ↦[(M.squeeze s' h).view.set]{q} f) : sProp 𝕄)
    = iprop(∃ f, ⌜M.view.read (Elt F) f = (fun i => Y ((Shape.reshapeEquiv h.numel_eq).symm i))⌝ ∗ M.view.loc (c : Thread nD τ) ↦[M.view.set]{q} f)
  rw [hS]
  congr 1; funext f; congr 2
  refine propext ⟨fun hf => ?_, fun hf => ?_⟩
  · rw [← hf]; funext i
    show M.view.read (Elt F) f i = M.view.read (Elt F) f (Shape.reshapeEquiv h.numel_eq ((Shape.reshapeEquiv h.numel_eq).symm i))
    rw [Equiv.apply_symm_apply]
  · funext j
    show M.view.read (Elt F) f (Shape.reshapeEquiv h.numel_eq j) = Y j
    rw [hf]; dsimp only; rw [Equiv.symm_apply_apply]

/-- What a load through the whole of a squeezed memref reads. -/
noncomputable def unsq {s s' : Shape} {α : Type} (h : s'.numel = s.numel) (Y : s'.Idx → α) : s.Idx → α := fun i => Y ((Shape.reshapeEquiv h).symm i)
theorem shapeCast_unsq {s s' : Shape} {α : Type} (h : s'.numel = s.numel) (Y : s'.Idx → α) (hc : s.ShapeCasts s') : shapeCast s' (unsq h Y) hc = Y := by
  funext j
  show Y ((Shape.reshapeEquiv h).symm (Shape.reshapeEquiv _ j)) = Y j
  rw [Equiv.symm_apply_apply]

end Cert.GatherProof
-- ==== Proof.Ops.lean ====
/-
# The operations of the gather, at each device's pieces
-/
module

public import proofs.«01_k».proof.Proof.Addr

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## The pieces a device holds while it runs -/

/-- The device has paid the first `k` of what it owes. -/
noncomputable def Ow (c : Dev nD) (k : ℕ) : sProp 𝕄 := Owes c ((oweList c).drop k)
/-- The share of block `v` of part `s` of the gathered array that a local copy reads. -/
noncomputable def gL (c : Dev nD) (s : Part) (v : Fin 8) : sProp 𝕄 :=
  owns (c : Thread nD τ) (gP (px c v) s) fullShare.left (xp m ρ (px c v) s)
/-- Landing slot `j` of part `s`, holding that part of device `b`'s rows. -/
noncomputable def vG (c : Dev nD) (s : Part) (j : Fin 4) (b : Dev nD) : sProp 𝕄 := owns (c : Thread nD τ) (vP j s) fullShare (xp m ρ b s)
noncomputable def vE (c : Dev nD) (s : Part) (j : Fin 4) : sProp 𝕄 := iprop(∃ Y, owns (c : Thread nD τ) (vP j s) fullShare Y)
/-- Row block `v` of the result, holding `Y`. -/
noncomputable def OB (c : Dev nD) (v : Fin 8) (Y : FVec F S512x256 .f32) : sProp 𝕄 := owns (c : Thread nD τ) (oP (px c v)) fullShare Y
noncomputable def OE (c : Dev nD) (v : Fin 8) : sProp 𝕄 := iprop(∃ Y : FVec F S512x256 .f32, OB c v Y)
/-- The staged `w`, and the share of the staged `x` that is never lent. -/
noncomputable def wA (c : Dev nD) : sProp 𝕄 := owns (c : Thread nD τ) wM fullShare (wv m ρ c)
noncomputable def xA (c : Dev nD) : sProp 𝕄 := owns (c : Thread nD τ) xM fullShare.left (xv m ρ c)

/-- The source of a send of block `v` of part `s`, ready for its round `r`; what a send to the device across `d` is given
for its receive `w`; a send on its way; and what a device holds of a receive it waits for. -/
noncomputable def SS (c : Dev nD) (s : Part) (v : Fin 8) (r : ℕ) : sProp 𝕄 := iprop(Pos c (.snd s v) r ∗ srcO m ρ c s v)
noncomputable def SR (c : Dev nD) (s : Part) (v w d : Fin 8) (r : ℕ) : sProp 𝕄 :=
  iprop(Tok c (.snd s v) r 0 ∗ Tok (px c d) (.rcv s w) 0 0 ∗ dstE (px c d) s w)
noncomputable def SW (c : Dev nD) (s : Part) (v : Fin 8) (r : ℕ) : sProp 𝕄 := iprop(Pos c (.snd s v) r ∗ Cred c (.snd s v))
noncomputable def RG (c : Dev nD) (s : Part) (w : Fin 8) : sProp 𝕄 := iprop(Pos c (.rcv s w) 0 ∗ Cred c (.rcv s w) ∗ Pos c (.snd s w) 0)
noncomputable def RV (c : Dev nD) (s : Part) (w : Fin 8) : sProp 𝕄 := iprop(Pos c (.rcv s w) 0 ∗ Cred c (.rcv s w))

theorem sR_inb : ∀ j : Fin 2, ∀ a, (![j.val, 0, 0] : Fin 3 → ℕ) a + S1x512x1408.size a ≤ S2x512x1408.size a := by decide
theorem sR_inb' : ∀ j : Fin 2, ∀ a, (![j.val, 0, 0] : Fin 3 → ℕ) a + S1x512x1280.size a ≤ S2x512x1408.size a := by decide
noncomputable abbrev ssh : Part → Shape | .a => S1x512x1408 | .b => S1x512x1408 | .c => S1x512x1280
/-- The part of staging slot `j` that a piece of part `s` fills. -/
noncomputable abbrev sR (j : Fin 2) : (s : Part) → Rect S2x512x1408
  | .a => Rect.unit (s := S2x512x1408) ![j.val, 0, 0] S1x512x1408.size (sR_inb j)
  | .b => Rect.unit (s := S2x512x1408) ![j.val, 0, 0] S1x512x1408.size (sR_inb j)
  | .c => Rect.unit (s := S2x512x1408) ![j.val, 0, 0] S1x512x1280.size (sR_inb' j)
noncomputable abbrev sP (j : Fin 2) : (s : Part) → Memref sig .tc .vmem (psh s) .f32
  | .a => (sM.slice (sR j .a) (fun _ => rfl)).squeeze S512x1408 Facts₀.squeezes_S1x512x1408_S512x1408
  | .b => (sM.slice (sR j .b) (fun _ => rfl)).squeeze S512x1408 Facts₀.squeezes_S1x512x1408_S512x1408
  | .c => (sM.slice (sR j .c) (fun _ => rfl)).squeeze S512x1280 Facts₀.squeezes_S1x512x1280_S512x1280
/-- The whole of a staging slot at any contents, what is left of it beside a piece of part `s`, and a piece. -/
noncomputable def SE (c : Dev nD) (j : Fin 2) : sProp 𝕄 := iprop(∃ f, (sP j .a).view.loc (c : Thread nD τ) ↦[(sP j .a).view.set]{fullShare} f)
noncomputable def sRem (c : Dev nD) (j : Fin 2) : Part → sProp 𝕄
  | .c => iprop(∃ f, (sP j .a).view.loc (c : Thread nD τ) ↦[(sP j .a).view.set \ (sP j .c).view.set]{fullShare} f)
  | _ => iprop(emp)
noncomputable def SG (c : Dev nD) (j : Fin 2) (s : Part) (Y : (psh s).Idx → F .f32) : sProp 𝕄 := owns (c : Thread nD τ) (sP j s) fullShare Y

/-- The local copies' semaphores. -/
noncomputable def csm (j : Fin 2) : DmaSem sig := ⟨51 + j.val, by have := j.isLt; show _ < 69; omega⟩
noncomputable def CS (c : Dev nD) (j : Fin 2) : sProp 𝕄 := semVal ((c : Thread nD τ), .dma (csm j)) 0
/-- A local copy of block `v` of part `s` into slot `j`, on its way. -/
noncomputable def Fly (c : Dev nD) (j : Fin 2) (s : Part) (v : Fin 8) : sProp 𝕄 :=
  iprop(Transfers.Flight EC (c : Thread nD τ) (.dma (csm j)) () (crP s) (iprop(SG c j s (xp m ρ (px c v) s) ∗ gL m ρ c s v)) ∗ sRem c j s)

theorem srcO_x (c : Dev nD) (s : Part) : srcO m ρ c s 0 = owns (c : Thread nD τ) (xP s) sq (xp m ρ (px c 0) s) := if_pos rfl
theorem srcO_g (c : Dev nD) (s : Part) {v : Fin 8} (hv : v ≠ 0) : srcO m ρ c s v = owns (c : Thread nD τ) (gP (px c v) s) sq (xp m ρ (px c v) s) := if_neg hv
theorem dst_v (c : Dev nD) (s : Part) (w : Fin 8) (j : Fin 4) (h : tOf s w = 2 ∧ slotOf s w = j) (Y) : dst (F := F) c s w Y = owns (c : Thread nD τ) (vP j s) fullShare Y := by
  unfold dst; rw [if_pos h.1, h.2]
theorem dst_g (c : Dev nD) (s : Part) (w : Fin 8) (h : tOf s w ≠ 2) (Y) : dst (F := F) c s w Y = owns (c : Thread nD τ) (gP (px c w) s) fullShare Y := if_neg h

theorem amt_snd (s v) : amt (.snd s v) = crP s := rfl
theorem gP_cr (b : Fin 8) (s : Part) : (gP b s).view.dmaCredit = crP s := by cases s <;> rfl
theorem vP_cr (j : Fin 4) (s : Part) : (vP j s).view.dmaCredit = crP s := by cases s <;> rfl
theorem sP_cr (j : Fin 2) (s : Part) : (sP j s).view.dmaCredit = crP s := by cases s <;> rfl

/-! ## Sends -/

/-- A remote copy of the gather: device `c`'s block `v` of part `s` to the device across `d`, its receive `w`. -/
theorem s_send (c : Dev nD) (s : Part) (v w d : Fin 8) (r k : ℕ) (hd : dirOf s w = d) (hv : px w d = v) (hr : r < nR s v) (hw : w ≠ 0)
    (hk : (oweList c).drop k = (px c d, .rcv s w) :: (oweList c).drop (k + 1)) (X : sProp 𝕄) (hX : X ⊢ ext (px c d) s w)
    {sp sp' : Space} (M1 : Memref sig .tc sp (psh s) .f32) (hM1 : srcO m ρ c s v = owns (c : Thread nD τ) M1 sq (xp m ρ (px c v) s))
    (M2 : Memref sig .tc sp' (psh s) .f32) (hM2 : ∀ Y, dst (F := F) (px c d) s w Y = owns ((px c d : Dev nD) : Thread nD τ) M2 fullShare Y)
    (hN : M2.view.dmaCredit = crP s)
    {M1' : Memref sig .tc sp (psh s) .f32} (h1 : M1' = M1) {M2' : Memref sig .tc sp' (psh s) .f32} (h2 : M2' = M2)
    {n' : Dev nD} (hn : n' = px c d) {q1 q2 : DmaSem sig} (hq1 : SemLoc.dma q1 = cloc (.snd s v)) (hq2 : SemLoc.dma q2 = cloc (.rcv s w))
    {hsc : M2'.view.ref.isScScratch = false} {hsrc : M1'.view.WordExact} {hdst : M2'.view.WordExact}
    {hsem : DmaTarget.Typed sp (.dma q2) (.remote (Dev.tc n' : Thread nD τ) M2' (.dma q1) hsc)}
    {α : Type} {Q : α → sProp 𝕄} {kk : PUnit → Prog (TpuEff nD τ sig (Elt F) Λ₀ .tc) α} :
    iprop(Recs m ρ K ∗ SS m ρ c s v r ∗ SR c s v w d r ∗ X ∗ Ow c k ∗ ((SW c s v r ∗ Ow c (k + 1)) -∗ WP c (kk ⟨⟩) Q))
      ⊢ WP c (.op (.enqueueDma M1' (.remote (Dev.tc n' : Thread nD τ) M2' (.dma q1) hsc) (.dma q2) hsrc hdst hsem) kk) Q := by
  unfold Ow SS SR SW dstE
  rw [hk, hM1]; simp only [hM2]
  iintro ⟨#HR, ⟨HP, Hs⟩, ⟨Ht1, Ht2, Hd⟩, HX, HO, Hk⟩
  iapply (st_copy m ρ K c (px c d) (.snd s v) (.rcv s w) r ((oweList c).drop (k + 1)) rfl rfl hr
    (by show 0 < (if w = 0 then 0 else 1); rw [if_neg hw]; exact Nat.one_pos) (crP s) rfl rfl M1 M1' h1 M2 M2' h2 n' hn q1 q2 hq1 hq2 hN sq (xp m ρ (px c v) s) X
    (by dsimp only [pay]; rw [hM1])
    (by dsimp only [pay]; rw [hM2, pxx, px_comm d w, hv]; exact BI.sep_mono (BI.Entails.refl _) hX)) $$ [HP Ht1 Ht2 Hs Hd HX HO]
  · isplitr; · iexact HR
    iframe
  iintro ⟨HP, HC, HO⟩
  iapply Hk
  iframe

/-- The next duty is receive `w` of part `s` at the device across `d`. -/
abbrev Nxt (c : Dev nD) (s : Part) (w d : Fin 8) (k : ℕ) : Prop := (oweList c).drop k = (px c d, .rcv s w) :: (oweList c).drop (k + 1)
/-- The steps, directions and rounds of a send agree with the tables. -/
abbrev Ok (s : Part) (v w d : Fin 8) (r : ℕ) : Prop := dirOf s w = d ∧ px w d = v ∧ r < nR s v ∧ w ≠ 0

theorem dst_gx (c : Dev nD) (s : Part) (v w d : Fin 8) (h : px w d = v) (ht : tOf s w ≠ 2) (Y) :
    dst (F := F) (px c d) s w Y = owns ((px c d : Dev nD) : Thread nD τ) (gP (px c v) s) fullShare Y := by
  rw [dst_g _ s w ht, pxx, px_comm d w, h]

section Sends
variable (c : Dev nD) (s : Part) (v w d : Fin 8) (r k : ℕ) (hk : Nxt c s w d k)
  {n' : Dev nD} (hn : n' = px c d) {q1 q2 : DmaSem sig} (hq2 : SemLoc.dma q2 = cloc (.rcv s w))
include hk hn hq2

/-- The own rows of `x` into the gathered array. -/
theorem s_xg (X : sProp 𝕄) (hX : X ⊢ ext (px c d) s w) (hq1 : SemLoc.dma q1 = cloc (.snd s 0)) (ok : Ok s 0 w d r) (ht : tOf s w ≠ 2)
    {M1' : Memref sig .tc .vmem (psh s) .f32} (h1 : M1' = xP s) {M2' : Memref sig .tc .hbm (psh s) .f32} (h2 : M2' = gP (px c 0) s)
    {hsc : M2'.view.ref.isScScratch = false} {hsrc : M1'.view.WordExact} {hdst : M2'.view.WordExact}
    {hsem : DmaTarget.Typed .vmem (.dma q2) (.remote (Dev.tc n' : Thread nD τ) M2' (.dma q1) hsc)}
    {α : Type} {Q : α → sProp 𝕄} {kk : PUnit → Prog (TpuEff nD τ sig (Elt F) Λ₀ .tc) α} :
    iprop(Recs m ρ K ∗ SS m ρ c s 0 r ∗ SR c s 0 w d r ∗ X ∗ Ow c k ∗ ((SW c s 0 r ∗ Ow c (k + 1)) -∗ WP c (kk ⟨⟩) Q))
      ⊢ WP c (.op (.enqueueDma M1' (.remote (Dev.tc n' : Thread nD τ) M2' (.dma q1) hsc) (.dma q2) hsrc hdst hsem) kk) Q :=
  s_send m ρ K c s 0 w d r k ok.1 ok.2.1 ok.2.2.1 ok.2.2.2 hk X hX (xP s) (srcO_x m ρ c s) (gP (px c 0) s) (dst_gx c s 0 w d ok.2.1 ht) (gP_cr _ s) h1 h2 hn hq1 hq2

/-- The own rows of `x` into a landing slot. -/
theorem s_xv (X : sProp 𝕄) (hX : X ⊢ ext (px c d) s w) (hq1 : SemLoc.dma q1 = cloc (.snd s 0)) (ok : Ok s 0 w d r) (j : Fin 4) (ht : tOf s w = 2 ∧ slotOf s w = j)
    {M1' : Memref sig .tc .vmem (psh s) .f32} (h1 : M1' = xP s) {M2' : Memref sig .tc .vmem (psh s) .f32} (h2 : M2' = vP j s)
    {hsc : M2'.view.ref.isScScratch = false} {hsrc : M1'.view.WordExact} {hdst : M2'.view.WordExact}
    {hsem : DmaTarget.Typed .vmem (.dma q2) (.remote (Dev.tc n' : Thread nD τ) M2' (.dma q1) hsc)}
    {α : Type} {Q : α → sProp 𝕄} {kk : PUnit → Prog (TpuEff nD τ sig (Elt F) Λ₀ .tc) α} :
    iprop(Recs m ρ K ∗ SS m ρ c s 0 r ∗ SR c s 0 w d r ∗ X ∗ Ow c k ∗ ((SW c s 0 r ∗ Ow c (k + 1)) -∗ WP c (kk ⟨⟩) Q))
      ⊢ WP c (.op (.enqueueDma M1' (.remote (Dev.tc n' : Thread nD τ) M2' (.dma q1) hsc) (.dma q2) hsrc hdst hsem) kk) Q :=
  s_send m ρ K c s 0 w d r k ok.1 ok.2.1 ok.2.2.1 ok.2.2.2 hk X hX (xP s) (srcO_x m ρ c s) (vP j s) (dst_v _ s w j ht) (vP_cr j s) h1 h2 hn hq1 hq2

/-- A gathered block onwards into the gathered array. -/
theorem s_gg (X : sProp 𝕄) (hX : X ⊢ ext (px c d) s w) (hq1 : SemLoc.dma q1 = cloc (.snd s v)) (ok : Ok s v w d r) (hv : v ≠ 0) (ht : tOf s w ≠ 2)
    {M1' : Memref sig .tc .hbm (psh s) .f32} (h1 : M1' = gP (px c v) s) {M2' : Memref sig .tc .hbm (psh s) .f32} (h2 : M2' = gP (px c v) s)
    {hsc : M2'.view.ref.isScScratch = false} {hsrc : M1'.view.WordExact} {hdst : M2'.view.WordExact}
    {hsem : DmaTarget.Typed .hbm (.dma q2) (.remote (Dev.tc n' : Thread nD τ) M2' (.dma q1) hsc)}
    {α : Type} {Q : α → sProp 𝕄} {kk : PUnit → Prog (TpuEff nD τ sig (Elt F) Λ₀ .tc) α} :
    iprop(Recs m ρ K ∗ SS m ρ c s v r ∗ SR c s v w d r ∗ X ∗ Ow c k ∗ ((SW c s v r ∗ Ow c (k + 1)) -∗ WP c (kk ⟨⟩) Q))
      ⊢ WP c (.op (.enqueueDma M1' (.remote (Dev.tc n' : Thread nD τ) M2' (.dma q1) hsc) (.dma q2) hsrc hdst hsem) kk) Q :=
  s_send m ρ K c s v w d r k ok.1 ok.2.1 ok.2.2.1 ok.2.2.2 hk X hX (gP (px c v) s) (srcO_g m ρ c s hv) (gP (px c v) s) (dst_gx c s v w d ok.2.1 ht) (gP_cr _ s) h1 h2 hn hq1 hq2

/-- A gathered block onwards into a landing slot. -/
theorem s_gv (X : sProp 𝕄) (hX : X ⊢ ext (px c d) s w) (hq1 : SemLoc.dma q1 = cloc (.snd s v)) (ok : Ok s v w d r) (hv : v ≠ 0) (j : Fin 4) (ht : tOf s w = 2 ∧ slotOf s w = j)
    {M1' : Memref sig .tc .hbm (psh s) .f32} (h1 : M1' = gP (px c v) s) {M2' : Memref sig .tc .vmem (psh s) .f32} (h2 : M2' = vP j s)
    {hsc : M2'.view.ref.isScScratch = false} {hsrc : M1'.view.WordExact} {hdst : M2'.view.WordExact}
    {hsem : DmaTarget.Typed .hbm (.dma q2) (.remote (Dev.tc n' : Thread nD τ) M2' (.dma q1) hsc)}
    {α : Type} {Q : α → sProp 𝕄} {kk : PUnit → Prog (TpuEff nD τ sig (Elt F) Λ₀ .tc) α} :
    iprop(Recs m ρ K ∗ SS m ρ c s v r ∗ SR c s v w d r ∗ X ∗ Ow c k ∗ ((SW c s v r ∗ Ow c (k + 1)) -∗ WP c (kk ⟨⟩) Q))
      ⊢ WP c (.op (.enqueueDma M1' (.remote (Dev.tc n' : Thread nD τ) M2' (.dma q1) hsc) (.dma q2) hsrc hdst hsem) kk) Q :=
  s_send m ρ K c s v w d r k ok.1 ok.2.1 ok.2.2.1 ok.2.2.2 hk X hX (gP (px c v) s) (srcO_g m ρ c s hv) (vP j s) (dst_v _ s w j ht) (vP_cr j s) h1 h2 hn hq1 hq2
end Sends

/-! ## Waits -/

section Waits
variable (c : Dev nD) (s : Part) (v w : Fin 8) (r k : ℕ)
  {sp sp' : Space} {sh sh' : Shape} {e e' : EltTy} {κ' : Kind} {sem : DmaSem sig}
  {srcw : Memref sig (c : Thread nD τ).2.kind sp' sh' e'} {dstw : Memref sig κ' sp sh e} {hsrc : srcw.view.WordExact} {hdst : dstw.view.WordExact}

/-- The wait for a send with rounds left. -/
theorem s_ws (hr : r < nR s v) (hs : SemLoc.dma sem = cloc (.snd s v)) (hl : (((oweList c).drop k).all fun p => decide (lev (.snd s v) < lev p.2)) = true)
    (hN : dstw.view.dmaCredit = amt (.snd s v))
    {α : Type} {Q : α → sProp 𝕄} {kk : PUnit → Prog (TpuEff nD τ sig (Elt F) Λ₀ (c : Thread nD τ).2) α} :
    iprop(Recs m ρ K ∗ SW c s v r ∗ Ow c k ∗ ((SS m ρ c s v (r + 1) ∗ Ow c k) -∗ WP c (kk ⟨⟩) Q))
      ⊢ WP c (.op (.waitDma2 sem srcw dstw hsrc hdst) kk) Q := by
  unfold Ow SW SS
  iintro ⟨#HR, ⟨HP, HC⟩, HO, Hk⟩
  iapply (st_wait m ρ K c (.snd s v) r ((oweList c).drop k) rfl hr sem hs hl hN) $$ [HP HC HO]
  · isplitr; · iexact HR
    iframe
  dsimp only [pay]
  iintro ⟨HP, HO, Hs⟩
  iapply Hk
  iframe
/-- The wait for the last send of a block. -/
theorem s_wsz (hr : nR s v = r + 1) (hs : SemLoc.dma sem = cloc (.snd s v)) (hl : (((oweList c).drop k).all fun p => decide (lev (.snd s v) < lev p.2)) = true)
    (hN : dstw.view.dmaCredit = amt (.snd s v))
    {α : Type} {Q : α → sProp 𝕄} {kk : PUnit → Prog (TpuEff nD τ sig (Elt F) Λ₀ (c : Thread nD τ).2) α} :
    iprop(Recs m ρ K ∗ SW c s v r ∗ Ow c k ∗ ((Zero c (.snd s v) ∗ Ow c k ∗ srcO m ρ c s v) -∗ WP c (kk ⟨⟩) Q))
      ⊢ WP c (.op (.waitDma2 sem srcw dstw hsrc hdst) kk) Q := by
  unfold Ow SW
  iintro ⟨#HR, ⟨HP, HC⟩, HO, Hk⟩
  iapply (st_waitz m ρ K c (.snd s v) r ((oweList c).drop k) rfl hr sem hs hl hN) $$ [HP HC HO]
  · isplitr; · iexact HR
    iframe
  iexact Hk
/-- The wait for a block of the gathered array: half of it goes to the local copy, half onwards. -/
theorem s_wg (hw : w ≠ 0) (ht : tOf s w ≠ 2) (hs : SemLoc.dma sem = cloc (.rcv s w))
    (hl : (((oweList c).drop k).all fun p => decide (lev (.rcv s w) < lev p.2)) = true) (hN : dstw.view.dmaCredit = amt (.rcv s w))
    {α : Type} {Q : α → sProp 𝕄} {kk : PUnit → Prog (TpuEff nD τ sig (Elt F) Λ₀ (c : Thread nD τ).2) α} :
    iprop(Recs m ρ K ∗ RG c s w ∗ Ow c k ∗ ((Zero c (.rcv s w) ∗ Ow c k ∗ gL m ρ c s w ∗ SS m ρ c s w 0 ∗ ext c s w) -∗ WP c (kk ⟨⟩) Q))
      ⊢ WP c (.op (.waitDma2 sem srcw dstw hsrc hdst) kk) Q := by
  unfold Ow RG SS
  iintro ⟨#HR, ⟨HP, HC, HS⟩, HO, Hk⟩
  iapply (st_waitz m ρ K c (.rcv s w) 0 ((oweList c).drop k) rfl (if_neg hw) sem hs hl hN) $$ [HP HC HO]
  · isplitr; · iexact HR
    iframe
  dsimp only [pay]
  rw [dst_g c s w ht, srcO_g m ρ c s hw]
  iintro ⟨HZ, HO, Hg, He⟩
  ihave Hg := (owns_halves (c : Thread nD τ) (gP (px c w) s) fullShare (xp m ρ (px c w) s)).1 $$ Hg
  icases Hg with ⟨Hl, Hr⟩
  iapply Hk
  unfold gL
  iframe
/-- The wait for a piece of the last step. -/
theorem s_wv (hw : w ≠ 0) (j : Fin 4) (ht : tOf s w = 2 ∧ slotOf s w = j) (hs : SemLoc.dma sem = cloc (.rcv s w))
    (hl : (((oweList c).drop k).all fun p => decide (lev (.rcv s w) < lev p.2)) = true) (hN : dstw.view.dmaCredit = amt (.rcv s w))
    {α : Type} {Q : α → sProp 𝕄} {kk : PUnit → Prog (TpuEff nD τ sig (Elt F) Λ₀ (c : Thread nD τ).2) α} :
    iprop(Recs m ρ K ∗ RV c s w ∗ Ow c k ∗ ((Zero c (.rcv s w) ∗ Ow c k ∗ vG m ρ c s j (px c w)) -∗ WP c (kk ⟨⟩) Q))
      ⊢ WP c (.op (.waitDma2 sem srcw dstw hsrc hdst) kk) Q := by
  unfold Ow RV
  iintro ⟨#HR, ⟨HP, HC⟩, HO, Hk⟩
  iapply (st_waitz m ρ K c (.rcv s w) 0 ((oweList c).drop k) rfl (if_neg hw) sem hs hl hN) $$ [HP HC HO]
  · isplitr; · iexact HR
    iframe
  dsimp only [pay]
  rw [dst_v c s w j ht]
  iintro ⟨HZ, HO, Hg, He⟩
  iapply Hk
  unfold vG
  iframe
end Waits

end Cert.GatherProof
-- ==== Proof.Ops2.lean ====
/-
# Staging slots, loads, stores and the maxima
-/
module

public import proofs.«01_k».proof.Proof.Ops
public import Idealize.ShloMosaic.Lib.VecWindow

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## Staging slots -/

theorem sP_sub (j : Fin 2) : (sP j .c).view.set ⊆ (sP j .a).view.set := by
  have e1 : (sP j .c).view.set = (sM.view.slice (sR j .c)).set := View.set_reshape _ _
  have e2 : (sP j .a).view.set = (sM.view.slice (sR j .a)).set := View.set_reshape _ _
  rw [e1, e2, View.set_slice, View.set_slice]
  refine Finset.map_subset_map.mpr fun i hi => ?_
  have h := (Rect.mem_set_unit (s := S2x512x1408) (inb := sR_inb' j)).mp hi
  refine (Rect.mem_set_unit (s := S2x512x1408) (inb := sR_inb j)).mpr fun a => ⟨(h a).1, lt_of_lt_of_le (h a).2 (Nat.add_le_add_left ?_ _)⟩
  revert a; decide

/-- A staging slot is a piece of any part and the rest. -/
theorem SE_split (c : Dev nD) (j : Fin 2) : ∀ s : Part, SE (F := F) c j ⊢ iprop((∃ Z, SG c j s Z) ∗ sRem c j s)
  | .a => by
    unfold SE sRem SG; iintro ⟨%f, H⟩
    isplitl [H]; · iexists _; iapply (owns_intro (c : Thread nD τ) (sP j .a) fullShare f); iexact H
    iempintro
  | .b => by
    unfold SE sRem SG; iintro ⟨%f, H⟩
    isplitl [H]; · iexists _; iapply (owns_intro (c : Thread nD τ) (sP j .b) fullShare f); iexact H
    iempintro
  | .c => by
    unfold SE sRem SG; iintro ⟨%f, H⟩
    ihave H := (pointsTo_split_subset (sP_sub j)).1 $$ H
    icases H with ⟨H1, H2⟩
    isplitl [H1]; · iexists _; iapply (owns_intro (c : Thread nD τ) (sP j .c) fullShare f); iexact H1
    iexists f; iexact H2

theorem SE_join (c : Dev nD) (j : Fin 2) : ∀ (s : Part) (Y : (psh s).Idx → F .f32), iprop(SG c j s Y ∗ sRem c j s) ⊢ SE (F := F) c j
  | .a, Y => by
    unfold SE sRem SG owns; iintro ⟨⟨%f, -, H⟩, -⟩
    iexists f; iexact H
  | .b, Y => by
    unfold SE sRem SG owns; iintro ⟨⟨%f, -, H⟩, -⟩
    iexists f; iexact H
  | .c, Y => by
    unfold SE sRem SG owns; iintro ⟨⟨%f, -, H⟩, ⟨%g, H2⟩⟩
    iexists _
    iapply (pointsTo_join_subset (sP_sub j)) $$ [H H2]
    isplitl [H]; · iexact H
    iexact H2

section Local
variable (c : Dev nD) (j : Fin 2) (s : Part) (v : Fin 8)

/-- The start of a local copy of block `v` of part `s` into slot `j`. -/
theorem s_loc {M1' : Memref sig .tc .hbm (psh s) .f32} (h1 : M1' = gP (px c v) s) {M2' : Memref sig (c : Thread nD τ).2.kind .vmem (psh s) .f32} (h2 : M2' = sP j s)
    {q1 : DmaSem sig} (hq : q1 = csm j)
    {hsrc : M1'.view.WordExact} {hdst : M2'.view.WordExact} {hsem : DmaTarget.Typed (nD := nD) .hbm (.dma q1) (.here M2')}
    {α : Type} {Q : α → sProp 𝕄} {kk : PUnit → Prog (TpuEff nD τ sig (Elt F) Λ₀ .tc) α} :
    iprop(SE c j ∗ CS c j ∗ gL m ρ c s v ∗ (Fly m ρ c j s v -∗ WP c (kk ⟨⟩) Q))
      ⊢ WP c (.op (.enqueueDma M1' (.here M2') (.dma q1) hsrc hdst hsem) kk) Q := by
  subst h2 hq
  iintro ⟨HS, HC, Hg, Hk⟩
  ihave HS := (SE_split c j s) $$ HS
  icases HS with ⟨HZ, HR⟩
  unfold CS gL
  iapply (st_local c (gP (px c v) s) M1' h1 (sP j s) (csm j) (by rw [sP_cr]; exact crP_pos s) fullShare.left (xp m ρ (px c v) s)) $$ [HZ HC Hg]
  · unfold SG; iframe
  rw [sP_cr]
  iintro HF
  iapply Hk
  unfold Fly SG gL
  iframe

/-- The wait for a local copy. -/
theorem s_wl (k : ℕ) {q1 : DmaSem sig} (hq : q1 = csm j) (hl : (((oweList c).drop k).all fun p => decide (levS (.dma (csm j)) < lev p.2)) = true)
    {sp sp' : Space} {sh sh' : Shape} {e e' : EltTy} {κ' : Kind}
    {srcw : Memref sig (c : Thread nD τ).2.kind sp' sh' e'} {dstw : Memref sig κ' sp sh e} {hsrc : srcw.view.WordExact} {hdst : dstw.view.WordExact}
    (hN : dstw.view.dmaCredit = crP s)
    {α : Type} {Q : α → sProp 𝕄} {kk : PUnit → Prog (TpuEff nD τ sig (Elt F) Λ₀ (c : Thread nD τ).2) α} :
    iprop(Recs m ρ K ∗ Fly m ρ c j s v ∗ Ow c k
        ∗ ((SG c j s (xp m ρ (px c v) s) ∗ sRem c j s ∗ CS c j ∗ gL m ρ c s v ∗ Ow c k) -∗ WP c (kk ⟨⟩) Q))
      ⊢ WP c (.op (.waitDma2 q1 srcw dstw hsrc hdst) kk) Q := by
  subst hq
  unfold Fly Ow
  iintro ⟨#HR, ⟨HF, Hr⟩, HO, Hk⟩
  iapply (st_waitlocal m ρ K c ((oweList c).drop k) (csm j) hl hN) $$ [HF HO]
  · isplitr; · iexact HR
    iframe
  iintro ⟨⟨H1, H2⟩, H3, H4⟩
  iapply Hk
  unfold CS
  iframe
end Local

/-! ## Loads and stores -/

/-- A load of a piece through its unsqueezed rectangle. -/
theorem s_ldq (c : Dev nD) {s s' : Shape} {e : EltTy} {cs : CoreSpace} (M : Memref sig .tc cs s e) (off off' : Fin s.rank → ℕ) (h : off' = off)
    (size : Fin s.rank → ℕ) (i : ∀ a, off a + size a ≤ s.size a) (i' : ∀ a, off' a + size a ≤ s.size a)
    (hsq : (⟨s.rank, size⟩ : Shape).Squeezes s') (q : PosShare TreeShare) (Y : s'.Idx → Elt F e)
    {hl : M.view.LoadsAt (Rect.unit (s := s) off' size i').toLoadRect}
    {α : Type} {Q : α → sProp 𝕄} {kk : ((⟨s.rank, size⟩ : Shape).Idx → Elt F e) → Prog (TpuEff nD τ sig (Elt F) Λ₀ .tc) α} :
    iprop(owns (c : Thread nD τ) ((M.slice (Rect.unit (s := s) off size i) (fun _ => rfl)).squeeze s' hsq : Memref sig .tc cs s' e) q Y
        ∗ (owns (c : Thread nD τ) ((M.slice (Rect.unit (s := s) off size i) (fun _ => rfl)).squeeze s' hsq : Memref sig .tc cs s' e) q Y -∗ WP c (kk (unsq hsq.numel_eq Y)) Q))
      ⊢ WP c (.op (.load M (Rect.unit (s := s) off' size i').toLoadRect hl) kk) Q := by
  rw [owns_squeeze]
  iintro ⟨H, Hk⟩
  iapply (st_load c M off off' h size i i' q _) $$ H
  iexact Hk

/-- A load of any rectangle of a memref that is owned. -/
theorem s_ldr (c : Dev nD) {s : Shape} {e : EltTy} {cs : CoreSpace} (M : Memref sig .tc cs s e) (q : PosShare TreeShare) (Y : s.Idx → Elt F e) (r : Rect s)
    {hl : M.view.LoadsAt r.toLoadRect}
    {α : Type} {Q : α → sProp 𝕄} {kk : (r.shape.Idx → Elt F e) → Prog (TpuEff nD τ sig (Elt F) Λ₀ .tc) α} :
    iprop(owns (c : Thread nD τ) M q Y ∗ (owns (c : Thread nD τ) M q Y -∗ WP c (kk fun j => Y (r.emb j)) Q))
      ⊢ WP c (.op (.load M r.toLoadRect hl) kk) Q := by
  iintro ⟨H, Hk⟩
  ihave H := (show owns (c : Thread nD τ) M q Y
    ⊢ iprop(∃ f, ⌜M.view.read (Elt F) f = Y⌝ ∗ M.view.loc (c : Thread nD τ) ↦[M.view.set]{q} f) from .rfl) $$ H
  icases H with ⟨%f, %hf, H⟩
  iapply (wp_load_rect 𝒱₀ (c : Thread nD τ) none Set.univ (m := M) (r := r) (View.set_slice_subset M.view r)) $$ H
  iintro H
  rw [show (M.access r).read (Elt F) f = fun j => Y (r.emb j) from by rw [← hf]; rfl]
  iapply Hk
  iapply (show iprop(∃ f, ⌜M.view.read (Elt F) f = Y⌝ ∗ M.view.loc (c : Thread nD τ) ↦[M.view.set]{q} f)
    ⊢ owns (c : Thread nD τ) M q Y from .rfl)
  iexists f; isplitr; · ipureintro; exact hf
  iexact H

/-- A load of the whole of a memref. -/
theorem s_ldf (c : Dev nD) {s : Shape} {e : EltTy} {cs : CoreSpace} (M : Memref sig .tc cs s e) (q : PosShare TreeShare) (Y : s.Idx → Elt F e)
    {off : Fin s.rank → ℕ} {inb : ∀ a, off a + s.size a ≤ s.size a}
    {hl : M.view.LoadsAt (Rect.unit off s.size inb).toLoadRect}
    {α : Type} {Q : α → sProp 𝕄} {kk : (s.Idx → Elt F e) → Prog (TpuEff nD τ sig (Elt F) Λ₀ .tc) α} :
    iprop(owns (c : Thread nD τ) M q Y ∗ (owns (c : Thread nD τ) M q Y -∗ WP c (kk Y) Q))
      ⊢ WP c (.op (.load M (Rect.unit off s.size inb).toLoadRect hl) kk) Q := by
  have h := s_ldr c M q Y (Rect.unit off s.size inb) (hl := hl) (Q := Q) (kk := kk)
  have e : (fun j => Y ((Rect.unit off s.size inb).emb j)) = Y := funext fun j => congrArg Y (Rect.emb_unit_full inb j)
  rw [e] at h
  exact h

section Slots
variable (c : Dev nD)

theorem s_ls_a (j : Fin 2) (Y : S512x1408.Idx → F .f32) {off : Fin 3 → ℕ} (h : off = ![j.val, 0, 0]) {i}
    {hl : (sM : Memref sig .tc .vmem S2x512x1408 .f32).view.LoadsAt (Rect.unit (s := S2x512x1408) off S1x512x1408.size i).toLoadRect}
    {α : Type} {Q : α → sProp 𝕄} {kk : (S1x512x1408.Idx → Elt F .f32) → Prog (TpuEff nD τ sig (Elt F) Λ₀ .tc) α} :
    iprop(SG c j .a Y ∗ sRem c j .a ∗ (SE c j -∗ WP c (kk (unsq Facts₀.squeezes_S1x512x1408_S512x1408.numel_eq Y)) Q))
      ⊢ WP c (.op (.load sM (Rect.unit (s := S2x512x1408) off S1x512x1408.size i).toLoadRect hl) kk) Q := by
  iintro ⟨H, Hr, Hk⟩
  iapply (s_ldq c sM ![j.val, 0, 0] off h S1x512x1408.size (sR_inb j) i Facts₀.squeezes_S1x512x1408_S512x1408 fullShare Y)
  unfold SG
  iframe
  iintro H
  iapply Hk
  iapply (SE_join c j .a Y)
  unfold SG
  iframe
theorem s_ls_b (j : Fin 2) (Y : S512x1408.Idx → F .f32) {off : Fin 3 → ℕ} (h : off = ![j.val, 0, 0]) {i}
    {hl : (sM : Memref sig .tc .vmem S2x512x1408 .f32).view.LoadsAt (Rect.unit (s := S2x512x1408) off S1x512x1408.size i).toLoadRect}
    {α : Type} {Q : α → sProp 𝕄} {kk : (S1x512x1408.Idx → Elt F .f32) → Prog (TpuEff nD τ sig (Elt F) Λ₀ .tc) α} :
    iprop(SG c j .b Y ∗ sRem c j .b ∗ (SE c j -∗ WP c (kk (unsq Facts₀.squeezes_S1x512x1408_S512x1408.numel_eq Y)) Q))
      ⊢ WP c (.op (.load sM (Rect.unit (s := S2x512x1408) off S1x512x1408.size i).toLoadRect hl) kk) Q :=
  s_ls_a c j Y h
theorem s_ls_c (j : Fin 2) (Y : S512x1280.Idx → F .f32) {off : Fin 3 → ℕ} (h : off = ![j.val, 0, 0]) {i}
    {hl : (sM : Memref sig .tc .vmem S2x512x1408 .f32).view.LoadsAt (Rect.unit (s := S2x512x1408) off S1x512x1280.size i).toLoadRect}
    {α : Type} {Q : α → sProp 𝕄} {kk : (S1x512x1280.Idx → Elt F .f32) → Prog (TpuEff nD τ sig (Elt F) Λ₀ .tc) α} :
    iprop(SG c j .c Y ∗ sRem c j .c ∗ (SE c j -∗ WP c (kk (unsq Facts₀.squeezes_S1x512x1280_S512x1280.numel_eq Y)) Q))
      ⊢ WP c (.op (.load sM (Rect.unit (s := S2x512x1408) off S1x512x1280.size i).toLoadRect hl) kk) Q := by
  iintro ⟨H, Hr, Hk⟩
  iapply (s_ldq c sM ![j.val, 0, 0] off h S1x512x1280.size (sR_inb' j) i Facts₀.squeezes_S1x512x1280_S512x1280 fullShare Y)
  unfold SG
  iframe
  iintro H
  iapply Hk
  iapply (SE_join c j .c Y)
  unfold SG
  iframe

theorem s_lv_a (j : Fin 4) (b : Dev nD) {off : Fin 4 → ℕ} (h : off = ![(0 : Fin 3).val, j.val, 0, 0]) {i}
    {hl : (vM : Memref sig .tc .vmem S3x4x512x1408 .f32).view.LoadsAt (Rect.unit (s := S3x4x512x1408) off S1x1x512x1408.size i).toLoadRect}
    {α : Type} {Q : α → sProp 𝕄} {kk : (S1x1x512x1408.Idx → Elt F .f32) → Prog (TpuEff nD τ sig (Elt F) Λ₀ .tc) α} :
    iprop(vG m ρ c .a j b ∗ (vE c .a j -∗ WP c (kk (unsq Facts₀.squeezes_S1x1x512x1408_S512x1408.numel_eq (xp m ρ b .a))) Q))
      ⊢ WP c (.op (.load vM (Rect.unit (s := S3x4x512x1408) off S1x1x512x1408.size i).toLoadRect hl) kk) Q := by
  iintro ⟨H, Hk⟩
  iapply (s_ldq c vM ![(0 : Fin 3).val, j.val, 0, 0] off h S1x1x512x1408.size (vR_inb1 0 j) i Facts₀.squeezes_S1x1x512x1408_S512x1408 fullShare (xp m ρ b .a))
  unfold vG
  iframe
  iintro H
  iapply Hk
  unfold vE
  iexists _; iexact H
theorem s_lv_b (j : Fin 4) (b : Dev nD) {off : Fin 4 → ℕ} (h : off = ![(1 : Fin 3).val, j.val, 0, 0]) {i}
    {hl : (vM : Memref sig .tc .vmem S3x4x512x1408 .f32).view.LoadsAt (Rect.unit (s := S3x4x512x1408) off S1x1x512x1408.size i).toLoadRect}
    {α : Type} {Q : α → sProp 𝕄} {kk : (S1x1x512x1408.Idx → Elt F .f32) → Prog (TpuEff nD τ sig (Elt F) Λ₀ .tc) α} :
    iprop(vG m ρ c .b j b ∗ (vE c .b j -∗ WP c (kk (unsq Facts₀.squeezes_S1x1x512x1408_S512x1408.numel_eq (xp m ρ b .b))) Q))
      ⊢ WP c (.op (.load vM (Rect.unit (s := S3x4x512x1408) off S1x1x512x1408.size i).toLoadRect hl) kk) Q := by
  iintro ⟨H, Hk⟩
  iapply (s_ldq c vM ![(1 : Fin 3).val, j.val, 0, 0] off h S1x1x512x1408.size (vR_inb1 1 j) i Facts₀.squeezes_S1x1x512x1408_S512x1408 fullShare (xp m ρ b .b))
  unfold vG
  iframe
  iintro H
  iapply Hk
  unfold vE
  iexists _; iexact H
theorem s_lv_c (j : Fin 4) (b : Dev nD) {off : Fin 4 → ℕ} (h : off = ![(2 : Fin 3).val, j.val, 0, 0]) {i}
    {hl : (vM : Memref sig .tc .vmem S3x4x512x1408 .f32).view.LoadsAt (Rect.unit (s := S3x4x512x1408) off S1x1x512x1280.size i).toLoadRect}
    {α : Type} {Q : α → sProp 𝕄} {kk : (S1x1x512x1280.Idx → Elt F .f32) → Prog (TpuEff nD τ sig (Elt F) Λ₀ .tc) α} :
    iprop(vG m ρ c .c j b ∗ (vE c .c j -∗ WP c (kk (unsq Facts₀.squeezes_S1x1x512x1280_S512x1280.numel_eq (xp m ρ b .c))) Q))
      ⊢ WP c (.op (.load vM (Rect.unit (s := S3x4x512x1408) off S1x1x512x1280.size i).toLoadRect hl) kk) Q := by
  iintro ⟨H, Hk⟩
  iapply (s_ldq c vM ![(2 : Fin 3).val, j.val, 0, 0] off h S1x1x512x1280.size (vR_inb3 2 j) i Facts₀.squeezes_S1x1x512x1280_S512x1280 fullShare (xp m ρ b .c))
  unfold vG
  iframe
  iintro H
  iapply Hk
  unfold vE
  iexists _; iexact H

theorem s_lw_a {i} {hl : (wM : Memref sig .tc .vmem S4096x256 .f32).view.LoadsAt (Rect.unit (s := S4096x256) ![0, 0] S1408x256.size i).toLoadRect}
    {α : Type} {Q : α → sProp 𝕄} {kk : (S1408x256.Idx → Elt F .f32) → Prog (TpuEff nD τ sig (Elt F) Λ₀ .tc) α} :
    iprop(wA m ρ c ∗ (wA m ρ c -∗ WP c (kk (wp' m ρ c .a)) Q))
      ⊢ WP c (.op (.load wM (Rect.unit (s := S4096x256) ![0, 0] S1408x256.size i).toLoadRect hl) kk) Q :=
  s_ldr c wM fullShare (wv m ρ c) (Rect.unit (s := S4096x256) ![0, 0] S1408x256.size i)
theorem s_lw_b {i} {hl : (wM : Memref sig .tc .vmem S4096x256 .f32).view.LoadsAt (Rect.unit (s := S4096x256) ![1408, 0] S1408x256.size i).toLoadRect}
    {α : Type} {Q : α → sProp 𝕄} {kk : (S1408x256.Idx → Elt F .f32) → Prog (TpuEff nD τ sig (Elt F) Λ₀ .tc) α} :
    iprop(wA m ρ c ∗ (wA m ρ c -∗ WP c (kk (wp' m ρ c .b)) Q))
      ⊢ WP c (.op (.load wM (Rect.unit (s := S4096x256) ![1408, 0] S1408x256.size i).toLoadRect hl) kk) Q :=
  s_ldr c wM fullShare (wv m ρ c) (Rect.unit (s := S4096x256) ![1408, 0] S1408x256.size i)
theorem s_lw_c {i} {hl : (wM : Memref sig .tc .vmem S4096x256 .f32).view.LoadsAt (Rect.unit (s := S4096x256) ![2816, 0] S1280x256.size i).toLoadRect}
    {α : Type} {Q : α → sProp 𝕄} {kk : (S1280x256.Idx → Elt F .f32) → Prog (TpuEff nD τ sig (Elt F) Λ₀ .tc) α} :
    iprop(wA m ρ c ∗ (wA m ρ c -∗ WP c (kk (wp' m ρ c .c)) Q))
      ⊢ WP c (.op (.load wM (Rect.unit (s := S4096x256) ![2816, 0] S1280x256.size i).toLoadRect hl) kk) Q :=
  s_ldr c wM fullShare (wv m ρ c) (Rect.unit (s := S4096x256) ![2816, 0] S1280x256.size i)

variable (v : Fin 8)
/-- A load of row block `v` of the result. -/
theorem s_lo (Y : FVec F S512x256 .f32) {off : Fin 2 → ℕ} (h : off = k0_off4 c (BitVec.ofNat 32 v.val)) {i}
    {hl : (oM : Memref sig .tc .vmem S4096x256 .f32).view.LoadsAt (Rect.unit (s := S4096x256) off S512x256.size i).toLoadRect}
    {α : Type} {Q : α → sProp 𝕄} {kk : (S512x256.Idx → Elt F .f32) → Prog (TpuEff nD τ sig (Elt F) Λ₀ .tc) α} :
    iprop(OB c v Y ∗ (OB c v Y -∗ WP c (kk Y) Q))
      ⊢ WP c (.op (.load oM (Rect.unit (s := S4096x256) off S512x256.size i).toLoadRect hl) kk) Q := by
  iintro ⟨H, Hk⟩
  unfold OB
  iapply (st_load c oM ![512 * (px c v).val, 0] off (h.trans (off4_eq c v)) S512x256.size (oR_inb (px c v)) i fullShare Y) $$ H
  iexact Hk
/-- A load of row block `v` of the result before it is written, whose value is not used. -/
theorem s_loE {off : Fin 2 → ℕ} (h : off = k0_off4 c (BitVec.ofNat 32 v.val)) {i}
    {hl : (oM : Memref sig .tc .vmem S4096x256 .f32).view.LoadsAt (Rect.unit (s := S4096x256) off S512x256.size i).toLoadRect}
    {α : Type} {Q : α → sProp 𝕄} {kk : (S512x256.Idx → Elt F .f32) → Prog (TpuEff nD τ sig (Elt F) Λ₀ .tc) α} :
    iprop(OE c v ∗ (∀ Y, OE c v -∗ WP c (kk Y) Q))
      ⊢ WP c (.op (.load oM (Rect.unit (s := S4096x256) off S512x256.size i).toLoadRect hl) kk) Q := by
  unfold OE
  iintro ⟨⟨%Y, H⟩, Hk⟩
  iapply (s_lo c v Y h)
  iframe
  iintro H
  iapply Hk
  iexists _; iexact H
/-- A store to row block `v` of the result. -/
theorem s_st (Y : FVec F S512x256 .f32) {off : Fin 2 → ℕ} (h : off = k0_off4 c (BitVec.ofNat 32 v.val)) {i} {Y' : S512x256.Idx → F .f32} (hY : Y' = Y)
    {hx : ((oM : Memref sig .tc .vmem S4096x256 .f32).access (Rect.unit (s := S4096x256) off S512x256.size i)).Stores Finset.univ}
    {hm : (Finset.univ : Finset (Rect.unit (s := S4096x256) off S512x256.size i).shape.Idx) = Finset.univ ∨ ∀ a, (Rect.unit (s := S4096x256) off S512x256.size i).stride a = 1}
    {α : Type} {Q : α → sProp 𝕄} {kk : PUnit → Prog (TpuEff nD τ sig (Elt F) Λ₀ .tc) α} :
    iprop(OE c v ∗ (OB c v Y -∗ WP c (kk ⟨⟩) Q))
      ⊢ WP c (.op (.store oM (Rect.unit (s := S4096x256) off S512x256.size i) Y' Finset.univ hx hm) kk) Q := by
  subst hY
  unfold OE OB
  iintro ⟨⟨%Z, H⟩, Hk⟩
  iapply (st_store c oM ![512 * (px c v).val, 0] off (h.trans (off4_eq c v)) S512x256.size (oR_inb (px c v)) i Z Y') $$ H
  iexact Hk
theorem OB_OE (Y : FVec F S512x256 .f32) : OB c v Y ⊢ OE (F := F) c v := by
  unfold OE; iintro H; iexists _; iexact H
/-- A store over a value already in row block `v` of the result. -/
theorem s_st' (Z Y : FVec F S512x256 .f32) {off : Fin 2 → ℕ} (h : off = k0_off4 c (BitVec.ofNat 32 v.val)) {i} {Y' : S512x256.Idx → F .f32} (hY : Y' = Y)
    {hx : ((oM : Memref sig .tc .vmem S4096x256 .f32).access (Rect.unit (s := S4096x256) off S512x256.size i)).Stores Finset.univ}
    {hm : (Finset.univ : Finset (Rect.unit (s := S4096x256) off S512x256.size i).shape.Idx) = Finset.univ ∨ ∀ a, (Rect.unit (s := S4096x256) off S512x256.size i).stride a = 1}
    {α : Type} {Q : α → sProp 𝕄} {kk : PUnit → Prog (TpuEff nD τ sig (Elt F) Λ₀ .tc) α} :
    iprop(OB c v Z ∗ (OB c v Y -∗ WP c (kk ⟨⟩) Q))
      ⊢ WP c (.op (.store oM (Rect.unit (s := S4096x256) off S512x256.size i) Y' Finset.univ hx hm) kk) Q := by
  iintro ⟨H, Hk⟩
  iapply (s_st c v Y h hY)
  iframe
  iapply (OB_OE c v Z); iexact H
end Slots

/-! ## The maxima -/

section Maxima
variable (c : Dev nD)

/-- Slot `p` of the maxima array at share `q`, holding device `p`'s maximum. -/
noncomputable def AM (p : Dev nD) (q : PosShare TreeShare) : sProp 𝕄 := owns (c : Thread nD τ) (aP p) q (amS m ρ p)

theorem s_la {i} {hl : (aM : Memref sig .tc .vmem S8x8x128 .f32).view.LoadsAt (Rect.unit (s := S8x8x128) (k0_off5 c) S1x8x128.size i).toLoadRect}
    {α : Type} {Q : α → sProp 𝕄} {kk : (S1x8x128.Idx → Elt F .f32) → Prog (TpuEff nD τ sig (Elt F) Λ₀ .tc) α} :
    iprop(amE c c ∗ (∀ Y, amE c c -∗ WP c (kk Y) Q))
      ⊢ WP c (.op (.load aM (Rect.unit (s := S8x8x128) (k0_off5 c) S1x8x128.size i).toLoadRect hl) kk) Q := by
  unfold amE
  iintro ⟨⟨%Y, H⟩, Hk⟩
  iapply (s_ldq c aM ![c.val, 0, 0] (k0_off5 c) (k0_off5_eq c) S1x8x128.size (aR_inb c) i Facts₀.squeezes_S1x8x128_S8x128 fullShare Y)
  iframe
  iintro H
  iapply Hk
  iexists _; iexact H
theorem s_sa {i} {Y' : S1x8x128.Idx → F .f32} (hY : Y' = fun _ => amv m ρ c)
    {hx : ((aM : Memref sig .tc .vmem S8x8x128 .f32).access (Rect.unit (s := S8x8x128) (k0_off5 c) S1x8x128.size i)).Stores Finset.univ}
    {hm : (Finset.univ : Finset (Rect.unit (s := S8x8x128) (k0_off5 c) S1x8x128.size i).shape.Idx) = Finset.univ ∨ ∀ a, (Rect.unit (s := S8x8x128) (k0_off5 c) S1x8x128.size i).stride a = 1}
    {α : Type} {Q : α → sProp 𝕄} {kk : PUnit → Prog (TpuEff nD τ sig (Elt F) Λ₀ .tc) α} :
    iprop(amE c c ∗ (AM m ρ c c fullShare -∗ WP c (kk ⟨⟩) Q))
      ⊢ WP c (.op (.store aM (Rect.unit (s := S8x8x128) (k0_off5 c) S1x8x128.size i) Y' Finset.univ hx hm) kk) Q := by
  subst hY
  unfold amE AM
  simp only [owns_squeeze]
  iintro ⟨⟨%Y, H⟩, Hk⟩
  iapply (st_store c aM ![c.val, 0, 0] (k0_off5 c) (k0_off5_eq c) S1x8x128.size (aR_inb c) i _ (fun _ => amv m ρ c)) $$ H
  iexact Hk

/-- What the send of the maximum to the device `d` further is given; that send on its way; and what is held of a receive. -/
noncomputable def AS (d : Fin 8) : sProp 𝕄 := iprop(Pos c (.asnd d) 0 ∗ Tok c (.asnd d) 0 0 ∗ Tok (c + d) (.arcv c) 0 0)
noncomputable def AT (d : Fin 8) : sProp 𝕄 := iprop(AM m ρ c c (aq d) ∗ amE (c + d) c)
noncomputable def AW (d : Fin 8) : sProp 𝕄 := iprop(Pos c (.asnd d) 0 ∗ Cred c (.asnd d))
noncomputable def AR (p : Dev nD) : sProp 𝕄 := iprop(Pos c (.arcv p) 0 ∗ Cred c (.arcv p))

theorem ne_add : ∀ c d : Fin 8, d ≠ 0 → c ≠ c + d := by decide +kernel
/-- The device's maximum to the device `d` further. -/
theorem s_am (d : Fin 8) (hd : d ≠ 0) (k : ℕ) (hk : (oweList c).drop k = (c + d, .arcv c) :: (oweList c).drop (k + 1))
    {M1' M2' : Memref sig .tc .vmem S8x128 .f32} (h1 : M1' = aP c) (h2 : M2' = aP c)
    {n' : Dev nD} (hn : n' = c + d) {q1 q2 : DmaSem sig} (hq1 : SemLoc.dma q1 = cloc (.asnd d)) (hq2 : SemLoc.dma q2 = cloc (.arcv c))
    {hsc : M2'.view.ref.isScScratch = false} {hsrc : M1'.view.WordExact} {hdst : M2'.view.WordExact}
    {hsem : DmaTarget.Typed .vmem (.dma q2) (.remote (Dev.tc n' : Thread nD τ) M2' (.dma q1) hsc)}
    {α : Type} {Q : α → sProp 𝕄} {kk : PUnit → Prog (TpuEff nD τ sig (Elt F) Λ₀ .tc) α} :
    iprop(Recs m ρ K ∗ AS c d ∗ AT m ρ c d ∗ Ow c k ∗ ((AW c d ∗ Ow c (k + 1)) -∗ WP c (kk ⟨⟩) Q))
      ⊢ WP c (.op (.enqueueDma M1' (.remote (Dev.tc n' : Thread nD τ) M2' (.dma q1) hsc) (.dma q2) hsrc hdst hsem) kk) Q := by
  unfold Ow AS AT AW amE AM
  rw [hk]
  iintro ⟨#HR, ⟨HP, Ht1, Ht2⟩, ⟨Hs, Hd⟩, HO, Hk⟩
  iapply (st_copy m ρ K c (c + d) (.asnd d) (.arcv c) 0 ((oweList c).drop (k + 1)) rfl rfl
    (by show 0 < (if d = 0 then 0 else 1); rw [if_neg hd]; exact Nat.one_pos)
    (by show 0 < (if c = c + d then 0 else 1); rw [if_neg (ne_add c d hd)]; exact Nat.one_pos)
    crA rfl rfl (aP c) M1' h1 (aP c) M2' h2 n' hn q1 q2 hq1 hq2 rfl (aq d) (amS m ρ c) iprop(emp)
    (BI.Entails.refl _) BI.Laws.sep_emp.1) $$ [HP Ht1 Ht2 Hs Hd HO]
  · isplitr; · iexact HR
    iframe
  iintro ⟨HP, HC, HO⟩
  iapply Hk
  iframe

variable (k : ℕ)
  {sp sp' : Space} {sh sh' : Shape} {e e' : EltTy} {κ' : Kind} {sem : DmaSem sig}
  {srcw : Memref sig (c : Thread nD τ).2.kind sp' sh' e'} {dstw : Memref sig κ' sp sh e} {hsrc : srcw.view.WordExact} {hdst : dstw.view.WordExact}
/-- The wait for another device's maximum. -/
theorem s_war (p : Dev nD) (hp : p ≠ c) (hs : SemLoc.dma sem = cloc (.arcv p))
    (hl : (((oweList c).drop k).all fun x => decide (lev (.arcv p) < lev x.2)) = true) (hN : dstw.view.dmaCredit = crA)
    {α : Type} {Q : α → sProp 𝕄} {kk : PUnit → Prog (TpuEff nD τ sig (Elt F) Λ₀ (c : Thread nD τ).2) α} :
    iprop(Recs m ρ K ∗ AR c p ∗ Ow c k ∗ ((Zero c (.arcv p) ∗ Ow c k ∗ AM m ρ c p fullShare) -∗ WP c (kk ⟨⟩) Q))
      ⊢ WP c (.op (.waitDma2 sem srcw dstw hsrc hdst) kk) Q := by
  unfold Ow AR
  iintro ⟨#HR, ⟨HP, HC⟩, HO, Hk⟩
  iapply (st_waitz m ρ K c (.arcv p) 0 ((oweList c).drop k) rfl (if_neg hp) sem hs hl hN) $$ [HP HC HO]
  · isplitr; · iexact HR
    iframe
  iexact Hk
/-- The wait for the send of the maximum. -/
theorem s_was (d : Fin 8) (hd : d ≠ 0) (hs : SemLoc.dma sem = cloc (.asnd d))
    (hl : (((oweList c).drop k).all fun x => decide (lev (.asnd d) < lev x.2)) = true) (hN : dstw.view.dmaCredit = crA)
    {α : Type} {Q : α → sProp 𝕄} {kk : PUnit → Prog (TpuEff nD τ sig (Elt F) Λ₀ (c : Thread nD τ).2) α} :
    iprop(Recs m ρ K ∗ AW c d ∗ Ow c k ∗ ((Zero c (.asnd d) ∗ Ow c k ∗ AM m ρ c c (aq d)) -∗ WP c (kk ⟨⟩) Q))
      ⊢ WP c (.op (.waitDma2 sem srcw dstw hsrc hdst) kk) Q := by
  unfold Ow AW
  iintro ⟨#HR, ⟨HP, HC⟩, HO, Hk⟩
  iapply (st_waitz m ρ K c (.asnd d) 0 ((oweList c).drop k) rfl (if_neg hd) sem hs hl hN) $$ [HP HC HO]
  · isplitr; · iexact HR
    iframe
  iexact Hk

/-- A store of the whole result. -/
theorem s_sto (Z Y : S4096x256.Idx → F .f32) {inb}
    {hx : ((oM : Memref sig .tc .vmem S4096x256 .f32).access (Rect.unit (s := S4096x256) ![0, 0] S4096x256.size inb)).Stores Finset.univ}
    {hm : (Finset.univ : Finset (Rect.unit (s := S4096x256) ![0, 0] S4096x256.size inb).shape.Idx) = Finset.univ ∨ ∀ a, (Rect.unit (s := S4096x256) ![0, 0] S4096x256.size inb).stride a = 1}
    {α : Type} {Q : α → sProp 𝕄} {kk : PUnit → Prog (TpuEff nD τ sig (Elt F) Λ₀ .tc) α} :
    iprop(owns (c : Thread nD τ) oM fullShare Z ∗ (owns (c : Thread nD τ) oM fullShare Y -∗ WP c (kk ⟨⟩) Q))
      ⊢ WP c (.op (.store oM (Rect.unit (s := S4096x256) ![0, 0] S4096x256.size inb) Y Finset.univ hx hm) kk) Q := by
  rw [owns_whole, owns_whole]
  iintro ⟨H, Hk⟩
  iapply (wp_store 𝒱₀ (c : Thread nD τ) none Set.univ (m := oM) (r := Rect.unit (s := S4096x256) ![0, 0] S4096x256.size inb) (Mk := Finset.univ)
    (f := Z) (Finset.subset_univ _)) $$ H
  have e : View.write (Elt F) ((oM : Memref sig .tc .vmem S4096x256 .f32).access (Rect.unit (s := S4096x256) ![0, 0] S4096x256.size inb)) Z Y Finset.univ = Y :=
    Memref.write_access_unit_zero_univ (Elt F) cc0_stg2_0 (off := ![0, 0]) (by funext a; fin_cases a <;> rfl) inb Z Y
  rw [e]
  iexact Hk
end Maxima

end Cert.GatherProof
-- ==== Proof.Vals.lean ====
/-
# What the body computes, and its remaining operations
-/
module

public import proofs.«01_k».proof.Proof.Ops2
public import Idealize.ShloMosaic.Lib.Pipeline.Value

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## What the body computes -/

section Vals
variable (c : Dev nD)

theorem mx_cons (v : Fin 8) (hv : v ≠ 0) (l : List (Fin 8)) : mx m ρ c (v :: l) = Scalar.maximumf (mx m ρ c l) (bmax (y3 m ρ c v)) := by
  show Scalar.maximumf (mx m ρ c l) (bmax (yv m ρ c v)) = _
  rw [yv, if_neg hv]
/-- The largest element of a block, as a one-element array. -/
noncomputable def bmx (y : FVec F S512x256 .f32) : FVec F S1x1x1 .f32 :=
  shapeCast S1x1x1 (multiReduction .maximumf [1, 2] S1 (shapeCast S1x512x256 y shapeCasts_S512x256_S1x512x256) 0xFF800000#32
    reduces_S1x512x256_S1 (.inl rfl) rfl) shapeCasts_S1_S1x1x1

/-- A staged piece of part `s` of block `v`, and a landed one, as a load reads them. -/
noncomputable abbrev uA (v : Fin 8) := unsq Facts₀.squeezes_S1x512x1408_S512x1408.numel_eq (xp m ρ (px c v) .a)
noncomputable abbrev uB (v : Fin 8) := unsq Facts₀.squeezes_S1x512x1408_S512x1408.numel_eq (xp m ρ (px c v) .b)
noncomputable abbrev uC (v : Fin 8) := unsq Facts₀.squeezes_S1x512x1280_S512x1280.numel_eq (xp m ρ (px c v) .c)
noncomputable abbrev rA (v : Fin 8) := unsq Facts₀.squeezes_S1x1x512x1408_S512x1408.numel_eq (xp m ρ (px c v) .a)
noncomputable abbrev rB (v : Fin 8) := unsq Facts₀.squeezes_S1x1x512x1408_S512x1408.numel_eq (xp m ρ (px c v) .b)
noncomputable abbrev rC (v : Fin 8) := unsq Facts₀.squeezes_S1x1x512x1280_S512x1280.numel_eq (xp m ρ (px c v) .c)

theorem kv1 : k0_pay1 (F := F) (xv m ρ c) (wv m ρ c) = yv m ρ c 0 := by simp only [k0_pay1, shapeCast_self]; rfl
theorem kv2 : k0_pay2 (F := F) (xv m ρ c) (wv m ρ c) = mx m ρ c [] := by simp only [k0_pay2, kv1]; rfl
theorem kv3 : k0_pay3 (F := F) (uA m ρ c 1) (wp' m ρ c .a) = y1 m ρ c 1 := by simp only [k0_pay3, shapeCast_self, shapeCast_unsq]; rfl
theorem kv4 : k0_pay4 (F := F) (uB m ρ c 3) (wp' m ρ c .b) = y1 m ρ c 3 := by simp only [k0_pay4, shapeCast_self, shapeCast_unsq]; rfl
theorem kv5 : k0_pay5 (F := F) (uC m ρ c 4) = xp m ρ (px c 4) .c := by simp only [k0_pay5, shapeCast_unsq]
theorem kv6 : k0_pay6 (F := F) (xp m ρ (px c 4) .c) (wp' m ρ c .c) = y1 m ρ c 4 := by simp only [k0_pay6, shapeCast_self]; rfl
theorem kv7 : k0_pay7 (F := F) (uA m ρ c 2) (wp' m ρ c .a) = y1 m ρ c 2 := by simp only [k0_pay7, shapeCast_self, shapeCast_unsq]; rfl
theorem kv8 : k0_pay8 (F := F) (uA m ρ c 3) (wp' m ρ c .a) (y1 m ρ c 3) = y2 m ρ c 3 := by simp only [k0_pay8, shapeCast_self, shapeCast_unsq]; rfl
theorem kv9 : k0_pay9 (F := F) (uB m ρ c 4) (wp' m ρ c .b) (y1 m ρ c 4) = y2 m ρ c 4 := by simp only [k0_pay9, shapeCast_self, shapeCast_unsq]; rfl
theorem kv10 : k0_pay10 (F := F) (uB m ρ c 7) (wp' m ρ c .b) = y1 m ρ c 7 := by simp only [k0_pay10, shapeCast_self, shapeCast_unsq]; rfl
theorem kv11 : k0_pay11 (F := F) (uC m ρ c 1) (wp' m ρ c .c) (y1 m ρ c 1) = y2 m ρ c 1 := by simp only [k0_pay11, shapeCast_self, shapeCast_unsq]; rfl
theorem kv12 : k0_pay12 (F := F) (uC m ρ c 5) (wp' m ρ c .c) = y1 m ρ c 5 := by simp only [k0_pay12, shapeCast_self, shapeCast_unsq]; rfl
theorem kv13 : k0_pay13 (F := F) (rA m ρ c 4) (wp' m ρ c .a) (y2 m ρ c 4) = y3 m ρ c 4 := by simp only [k0_pay13, shapeCast_self, shapeCast_unsq]; rfl
theorem kv14 : k0_pay14 (F := F) (rA m ρ c 4) (wp' m ρ c .a) (y2 m ρ c 4) = bmx (y3 m ρ c 4) := by simp only [k0_pay14, kv13]; rfl
theorem kv15 : k0_pay15 (F := F) (rB m ρ c 1) (wp' m ρ c .b) (y2 m ρ c 1) = y3 m ρ c 1 := by simp only [k0_pay15, shapeCast_self, shapeCast_unsq]; rfl
theorem kv16 : k0_pay16 (F := F) (mx m ρ c []) (bmx (y3 m ρ c 4)) (rB m ρ c 1) (wp' m ρ c .b) (y2 m ρ c 1) = mx m ρ c [1, 4] := by
  rw [mx_cons _ _ _ _ (by decide), mx_cons _ _ _ _ (by decide)]; simp only [k0_pay16, kv15]; rfl
theorem kv17 : k0_pay17 (F := F) (rC m ρ c 3) (wp' m ρ c .c) (y2 m ρ c 3) = y3 m ρ c 3 := by simp only [k0_pay17, shapeCast_self, shapeCast_unsq]; rfl
theorem kv18 (l : List (Fin 8)) : k0_pay18 (F := F) (mx m ρ c l) (rC m ρ c 3) (wp' m ρ c .c) (y2 m ρ c 3) = mx m ρ c (3 :: l) := by
  rw [mx_cons _ _ _ _ (by decide)]; simp only [k0_pay18, kv17]; rfl
theorem kv19 : k0_pay19 (F := F) (rA m ρ c 5) (wp' m ρ c .a) (y1 m ρ c 5) = y2 m ρ c 5 := by simp only [k0_pay19, shapeCast_self, shapeCast_unsq]; rfl
theorem kv20 : k0_pay20 (F := F) (rB m ρ c 2) (wp' m ρ c .b) (y1 m ρ c 2) = y2 m ρ c 2 := by simp only [k0_pay20, shapeCast_self, shapeCast_unsq]; rfl
theorem kv21 : k0_pay21 (F := F) (rC m ρ c 7) = xp m ρ (px c 7) .c := by simp only [k0_pay21, shapeCast_unsq]
theorem kv22 : k0_pay22 (F := F) (wp' m ρ c .c) = wp' m ρ c .c := by simp only [k0_pay22, shapeCast_self]
theorem kv23 : k0_pay23 (F := F) (xp m ρ (px c 7) .c) (wp' m ρ c .c) (constant S512x256 .f32 0x00000000#32) (y1 m ρ c 7) = y2 m ρ c 7 := by
  simp only [k0_pay23, shapeCast_self]; rfl
theorem kv24 : k0_pay24 (F := F) (rA m ρ c 6) (wp' m ρ c .a) = y1 m ρ c 6 := by simp only [k0_pay24, shapeCast_self, shapeCast_unsq]; rfl
theorem kv25 : k0_pay25 (F := F) (rB m ρ c 5) (wp' m ρ c .b) (y2 m ρ c 5) = y3 m ρ c 5 := by simp only [k0_pay25, shapeCast_self, shapeCast_unsq]; rfl
theorem kv26 (l : List (Fin 8)) : k0_pay26 (F := F) (mx m ρ c l) (rB m ρ c 5) (wp' m ρ c .b) (y2 m ρ c 5) = mx m ρ c (5 :: l) := by
  rw [mx_cons _ _ _ _ (by decide)]; simp only [k0_pay26, kv25]; rfl
theorem kv27 : k0_pay27 (F := F) (rC m ρ c 2) (wp' m ρ c .c) (y2 m ρ c 2) = y3 m ρ c 2 := by simp only [k0_pay27, shapeCast_self, shapeCast_unsq]; rfl
theorem kv28 (l : List (Fin 8)) : k0_pay28 (F := F) (mx m ρ c l) (rC m ρ c 2) (wp' m ρ c .c) (y2 m ρ c 2) = mx m ρ c (2 :: l) := by
  rw [mx_cons _ _ _ _ (by decide)]; simp only [k0_pay28, kv27]; rfl
theorem kv29 : k0_pay29 (F := F) (rA m ρ c 7) (wp' m ρ c .a) (y2 m ρ c 7) = y3 m ρ c 7 := by simp only [k0_pay29, shapeCast_self, shapeCast_unsq]; rfl
theorem kv30 (l : List (Fin 8)) : k0_pay30 (F := F) (mx m ρ c l) (rA m ρ c 7) (wp' m ρ c .a) (y2 m ρ c 7) = mx m ρ c (7 :: l) := by
  rw [mx_cons _ _ _ _ (by decide)]; simp only [k0_pay30, kv29]; rfl
theorem kv31 : k0_pay31 (F := F) (rB m ρ c 6) (wp' m ρ c .b) (y1 m ρ c 6) = y2 m ρ c 6 := by simp only [k0_pay31, shapeCast_self, shapeCast_unsq]; rfl
theorem kv32 : k0_pay32 (F := F) (rC m ρ c 6) = xp m ρ (px c 6) .c := by simp only [k0_pay32, shapeCast_unsq]
theorem kv33 : k0_pay33 (F := F) (wp' m ρ c .c) = wp' m ρ c .c := by simp only [k0_pay33, shapeCast_self]
theorem kv34 : k0_pay34 (F := F) (xp m ρ (px c 6) .c) (wp' m ρ c .c) (y2 m ρ c 6) = y3 m ρ c 6 := by simp only [k0_pay34, shapeCast_self]; rfl
theorem kv35 (l : List (Fin 8)) : k0_pay35 (F := F) (mx m ρ c l) (xp m ρ (px c 6) .c) (wp' m ρ c .c) (y2 m ρ c 6) = mx m ρ c (6 :: l) := by
  rw [mx_cons _ _ _ _ (by decide)]; simp only [k0_pay35, kv34]; rfl
theorem kv36 : k0_pay36 (F := F) (amv m ρ c) = fun _ => amv m ρ c := by simp only [k0_pay36, shapeCast_self]; rfl
end Vals

/-! ## The semaphores of the maxima, and the barrier -/

theorem sem6 : ∀ (c : Fin 8) (i), SemLoc.dma ((cc0_scratch7.slice (Rect.unit (s := S8) (k0_off6 c) S1.size i)).squeeze S_ Facts₀.squeezes_S1_S_).sem = cloc (.arcv c) := by
  decide +kernel
theorem sem8 : ∀ (c : Fin 8) (r : Fin 7) (i), SemLoc.dma ((cc0_scratch7.slice (Rect.unit (s := S8) (k0_off8 c (BitVec.ofNat 32 (1 + r.val))) S1.size i)).squeeze S_ Facts₀.squeezes_S1_S_).sem
    = cloc (.arcv (c + ⟨1 + r.val, by omega⟩)) := by
  decide +kernel

section Steps
variable (c : Dev nD) {α : Type} {Q : α → sProp (MT nD τ sig Unit (Elt F) ℕ UU ℕ)}

/-- A barrier signal. -/
theorem s_sig (d : Fin 8) (k : ℕ) (hd : d ∈ dset .bar) (hk : (oweList c).drop k = (px c d, .bar) :: (oweList c).drop (k + 1)) {n' : Dev nD} (hn : n' = px c d)
    {kk : PUnit → Prog (TpuEff nD τ sig (Elt F) Λ₀ .tc) α} :
    iprop(Recs m ρ K ∗ Tok (px c d) .bar 0 d ∗ barPay c d ∗ Ow c k ∗ (Ow c (k + 1) -∗ WP c (kk ⟨⟩) Q))
      ⊢ WP c (.op (.semSignal (n' : Thread nD τ) barS 1) kk) Q := by
  unfold Ow
  rw [hk]
  iintro ⟨#HR, Ht, Hp, HO, Hk⟩
  iapply (st_signal m ρ K c (px c d) d ((oweList c).drop (k + 1)) (by unfold dut; rw [if_pos (by exact Nat.one_pos)]; exact hd) n' hn) $$ [Ht Hp HO]
  · isplitr; · iexact HR
    rw [px_px]
    iframe
  iexact Hk

/-- The wait for the barrier. -/
theorem s_bar (k : ℕ) (hl : (((oweList c).drop k).all fun p => decide (levS (cloc .bar) < lev p.2)) = true)
    {kk : PUnit → Prog (TpuEff nD τ sig (Elt F) Λ₀ .tc) α} :
    iprop(Recs m ρ K ∗ Pos c .bar 0 ∗ cred (tallyAt (cell c .bar) () 3) ∗ Ow c k
        ∗ ((Zero c .bar ∗ Ow c k ∗ barPay (px c 1) 1 ∗ barPay (px c 3) 3 ∗ barPay (px c 4) 4) -∗ WP c (kk ⟨⟩) Q))
      ⊢ WP c (.op (.semWait barS 3) kk) Q := by
  unfold Ow
  iintro ⟨#HR, HP, HC, HO, Hk⟩
  iapply (st_barwait m ρ K c ((oweList c).drop k) hl) $$ [HP HC HO]
  · isplitr; · iexact HR
    iframe
  iexact Hk

/-- The loads of the staged `x`, `w` and result, and of all maxima. -/
theorem s_lx {i} {hl : (xM : Memref sig .tc .vmem S512x4096 .f32).view.LoadsAt (Rect.unit (s := S512x4096) ![0, 0] S512x4096.size i).toLoadRect}
    {kk : (S512x4096.Idx → Elt F .f32) → Prog (TpuEff nD τ sig (Elt F) Λ₀ .tc) α} :
    iprop(xA m ρ c ∗ (xA m ρ c -∗ WP c (kk (xv m ρ c)) Q))
      ⊢ WP c (.op (.load xM (Rect.unit (s := S512x4096) ![0, 0] S512x4096.size i).toLoadRect hl) kk) Q :=
  s_ldf c xM fullShare.left (xv m ρ c)
theorem s_lw {i} {hl : (wM : Memref sig .tc .vmem S4096x256 .f32).view.LoadsAt (Rect.unit (s := S4096x256) ![0, 0] S4096x256.size i).toLoadRect}
    {kk : (S4096x256.Idx → Elt F .f32) → Prog (TpuEff nD τ sig (Elt F) Λ₀ .tc) α} :
    iprop(wA m ρ c ∗ (wA m ρ c -∗ WP c (kk (wv m ρ c)) Q))
      ⊢ WP c (.op (.load wM (Rect.unit (s := S4096x256) ![0, 0] S4096x256.size i).toLoadRect hl) kk) Q :=
  s_ldf c wM fullShare (wv m ρ c)
noncomputable def oA (Y : S4096x256.Idx → F .f32) : sProp (MT nD τ sig Unit (Elt F) ℕ UU ℕ) := owns (c : Thread nD τ) oM fullShare Y
noncomputable def mA : sProp (MT nD τ sig Unit (Elt F) ℕ UU ℕ) := owns (c : Thread nD τ) aM fullShare (amAll m ρ)
theorem s_loA (Y : S4096x256.Idx → F .f32) {i} {hl : (oM : Memref sig .tc .vmem S4096x256 .f32).view.LoadsAt (Rect.unit (s := S4096x256) ![0, 0] S4096x256.size i).toLoadRect}
    {kk : (S4096x256.Idx → Elt F .f32) → Prog (TpuEff nD τ sig (Elt F) Λ₀ .tc) α} :
    iprop(oA c Y ∗ (oA c Y -∗ WP c (kk Y) Q))
      ⊢ WP c (.op (.load oM (Rect.unit (s := S4096x256) ![0, 0] S4096x256.size i).toLoadRect hl) kk) Q :=
  s_ldf c oM fullShare Y
theorem s_lm {i} {hl : (aM : Memref sig .tc .vmem S8x8x128 .f32).view.LoadsAt (Rect.unit (s := S8x8x128) ![0, 0, 0] S8x8x128.size i).toLoadRect}
    {kk : (S8x8x128.Idx → Elt F .f32) → Prog (TpuEff nD τ sig (Elt F) Λ₀ .tc) α} :
    iprop(mA m ρ c ∗ (mA m ρ c -∗ WP c (kk (amAll m ρ)) Q))
      ⊢ WP c (.op (.load aM (Rect.unit (s := S8x8x128) ![0, 0, 0] S8x8x128.size i).toLoadRect hl) kk) Q :=
  s_ldf c aM fullShare (amAll m ρ)
end Steps

end Cert.GatherProof
-- ==== Proof.Parts1.lean ====
/-
# The parts of the body: the gather
-/
module

public import proofs.«01_k».proof.Proof.Vals

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-- A part of the body on the launch's buffers and semaphores. -/
noncomputable abbrev ap {β : Sort*} (f : (a0 : Memref sig .tc .vmem S512x4096 .f32) → a0.IsWhole → (a1 : Memref sig .tc .vmem S4096x256 .f32) → a1.IsWhole
    → (a2 : Memref sig .tc .vmem S4096x256 .f32) → a2.IsWhole → (a3 : Memref sig .tc .hbm S4096x4096 .f32) → a3.IsWhole
    → (a4 : Memref sig .tc .vmem S3x4x512x1408 .f32) → a4.IsWhole → (a5 : Memref sig .tc .vmem S2x512x1408 .f32) → a5.IsWhole
    → (a6 : Memref sig .tc .vmem S8x8x128 .f32) → a6.IsWhole → DmaSems sig S3x8 → DmaSems sig S3x8 → DmaSems sig S2 → DmaSems sig S8 → DmaSems sig S8 → β) : β :=
  f xM (Memref.isWhole_whole _) wM (Memref.isWhole_whole _) oM (Memref.isWhole_whole _) gM (Memref.isWhole_whole _) vM (Memref.isWhole_whole _)
    sM (Memref.isWhole_whole _) aM (Memref.isWhole_whole _) cc0_scratch3 cc0_scratch4 cc0_scratch5 cc0_scratch6 cc0_scratch7

theorem dg_a (off i h) : ((gM : Memref sig .tc .hbm S4096x4096 .f32).slice (Rect.unit (s := S4096x4096) off S512x1408.size i) h).view.dmaCredit = crP .a :=
  (show _ = (gP 0 .a).view.dmaCredit from rfl).trans (gP_cr 0 .a)
theorem dg_b (off i h) : ((gM : Memref sig .tc .hbm S4096x4096 .f32).slice (Rect.unit (s := S4096x4096) off S512x1408.size i) h).view.dmaCredit = crP .b :=
  (show _ = (gP 0 .b).view.dmaCredit from rfl).trans (gP_cr 0 .b)
theorem dg_c (off i h) : ((gM : Memref sig .tc .hbm S4096x4096 .f32).slice (Rect.unit (s := S4096x4096) off S512x1280.size i) h).view.dmaCredit = crP .c :=
  (show _ = (gP 0 .c).view.dmaCredit from rfl).trans (gP_cr 0 .c)

section Parts
variable (c : Dev nD) {α : Type} {Q : α → sProp (MT nD τ sig Unit (Elt F) ℕ UU ℕ)}

/-- The first sends. -/
theorem part2 (v2 : BitVec 32) {kk : _ → Prog (TpuEff nD τ sig (Elt F) Λ₀ .tc) α} :
    iprop(Recs m ρ K ∗ SS m ρ c .a 0 0 ∗ SR c .a 0 1 1 0 ∗ Ow c 3 ∗ SS m ρ c .b 0 0 ∗ SR c .b 0 3 3 0 ∗ ext (px c 3) .b 3 ∗ SS m ρ c .c 0 0 ∗ SR c .c 0 4 4 0 ∗ ext (px c 4) .c 4
        ∗ (∀ r, (SW c .a 0 0 ∗ SW c .b 0 0 ∗ SW c .c 0 0 ∗ Ow c 6) -∗ WP c (kk r) Q))
      ⊢ WP c (ap (k0_part2 (F := F)) c v2 >>= kk) Q := by
  rw [k0_part2_eq_skeleton]; unfold k0_part2_skel
  simp only [Prog.lift, Prog.bind_op, Prog.bind_ret, Prog.pure_eq_ret]
  iintro ⟨#HR, P0, P1, P2, P3, P4, P5, P6, P7, P8, Hk⟩
  iapply (s_xg m ρ K c .a 1 1 0 3 rfl (dv4 c) rfl iprop(emp) (BI.Entails.refl _) rfl (by decide) (by decide) rfl (gE1 c 0 _ _)); iframe # ∗; iintro ⟨H1, H2⟩
  iapply (s_xg m ρ K c .b 3 3 0 4 rfl (dv5 c) rfl (ext (px c 3) .b 3) (BI.Entails.refl _) rfl (by decide) (by decide) rfl (gE2 c 0 _ _)); iframe # ∗; iintro ⟨H3, H4⟩
  iapply (s_xg m ρ K c .c 4 4 0 5 rfl (dv6 c) rfl (ext (px c 4) .c 4) (BI.Entails.refl _) rfl (by decide) (by decide) rfl (gE3 c 0 _ _)); iframe # ∗; iintro ⟨H5, H6⟩
  iapply Hk; iframe

/-- The own block, and the first sends' waits. -/
theorem part3 (v2 : BitVec 32) {kk : _ → Prog (TpuEff nD τ sig (Elt F) Λ₀ .tc) α} :
    iprop(Recs m ρ K ∗ xA m ρ c ∗ wA m ρ c ∗ OE c 0 ∗ SW c .a 0 0 ∗ Ow c 6 ∗ SW c .b 0 0
        ∗ ((xA m ρ c ∗ wA m ρ c ∗ OB c 0 (yv m ρ c 0) ∗ SS m ρ c .a 0 1 ∗ SS m ρ c .b 0 1 ∗ Ow c 6) -∗ WP c (kk (mx m ρ c [])) Q))
      ⊢ WP c (ap (k0_part3 (F := F)) c v2 >>= kk) Q := by
  rw [k0_part3_eq_skeleton]; unfold k0_part3_skel
  simp only [Prog.lift, Prog.bind_op, Prog.bind_ret, Prog.pure_eq_ret]
  iintro ⟨#HR, P0, P1, P2, P3, P4, P5, Hk⟩
  iapply (s_lx m ρ c); iframe # ∗; iintro H1
  iapply (s_lw m ρ c); iframe # ∗; iintro H2
  iapply (s_loE c 0 rfl); iframe # ∗; iintro %y2 H3
  iapply (s_st c 0 (yv m ρ c 0) rfl (kv1 m ρ c)); iframe # ∗; iintro H4
  iapply (s_ws m ρ K c .a 0 0 6 (by decide) rfl rfl (rfl)); iframe # ∗; iintro ⟨H5, H6⟩
  iapply (s_ws m ρ K c .b 0 0 6 (by decide) rfl rfl (rfl)); iframe # ∗; iintro ⟨H7, H8⟩
  rw [kv2]
  iapply Hk; iframe

/-- The sends of the second step. -/
theorem part4 (v2 : BitVec 32) {kk : _ → Prog (TpuEff nD τ sig (Elt F) Λ₀ .tc) α} :
    iprop(Recs m ρ K ∗ SW c .c 0 0 ∗ Ow c 6 ∗ SS m ρ c .a 0 1 ∗ SR c .a 0 3 3 1 ∗ SS m ρ c .b 0 1 ∗ SR c .b 0 4 4 1
        ∗ (∀ r, (SS m ρ c .c 0 1 ∗ SW c .a 0 1 ∗ SW c .b 0 1 ∗ Ow c 8) -∗ WP c (kk r) Q))
      ⊢ WP c (ap (k0_part4 (F := F)) c v2 >>= kk) Q := by
  rw [k0_part4_eq_skeleton]; unfold k0_part4_skel
  simp only [Prog.lift, Prog.bind_op, Prog.bind_ret, Prog.pure_eq_ret]
  iintro ⟨#HR, P0, P1, P2, P3, P4, P5, Hk⟩
  iapply (s_ws m ρ K c .c 0 0 6 (by decide) rfl rfl (rfl)); iframe # ∗; iintro ⟨H1, H2⟩
  iapply (s_xg m ρ K c .a 3 3 1 6 rfl (dv7 c) rfl iprop(emp) (BI.Entails.refl _) rfl (by decide) (by decide) rfl (gE1 c 0 _ _)); iframe # ∗; iintro ⟨H3, H4⟩
  iapply (s_xg m ρ K c .b 4 4 1 7 rfl (dv8 c) rfl iprop(emp) (BI.Entails.refl _) rfl (by decide) (by decide) rfl (gE2 c 0 _ _)); iframe # ∗; iintro ⟨H5, H6⟩
  iapply Hk; iframe

theorem part5 (v2 : BitVec 32) (v13 : BitVec 32) (v26 : BitVec 32) (v104 : BitVec 32) {kk : _ → Prog (TpuEff nD τ sig (Elt F) Λ₀ .tc) α} :
    iprop(Recs m ρ K ∗ SS m ρ c .c 0 1 ∗ SR c .c 0 1 1 1 ∗ Ow c 8 ∗ RG c .a 1 ∗ RG c .b 3
        ∗ (∀ r, (SW c .c 0 1 ∗ Zero c (.rcv .a 1) ∗ gL m ρ c .a 1 ∗ SS m ρ c .a 1 0 ∗ Zero c (.rcv .b 3) ∗ Ow c 9 ∗ gL m ρ c .b 3 ∗ SS m ρ c .b 3 0 ∗ ext c .b 3) -∗ WP c (kk r) Q))
      ⊢ WP c (ap (k0_part5 (F := F)) c v2 v13 v26 v104 >>= kk) Q := by
  rw [k0_part5_eq_skeleton]; unfold k0_part5_skel
  simp only [Prog.lift, Prog.bind_op, Prog.bind_ret, Prog.pure_eq_ret]
  iintro ⟨#HR, P0, P1, P2, P3, P4, Hk⟩
  iapply (s_xg m ρ K c .c 1 1 1 8 rfl (dv9 c) rfl iprop(emp) (BI.Entails.refl _) rfl (by decide) (by decide) rfl (gE3 c 0 _ _)); iframe # ∗; iintro ⟨H1, H2⟩
  iapply (s_wg m ρ K c .a 1 9 (by decide) (by decide) rfl rfl (dg_a _ _ _)); iframe # ∗; iintro ⟨H3, H4, H5, H6, H7⟩
  iapply (s_wg m ρ K c .b 3 9 (by decide) (by decide) rfl rfl (dg_b _ _ _)); iframe # ∗; iintro ⟨H8, H9, H10, H11, H12⟩
  iapply Hk; iframe

theorem part6 (v2 : BitVec 32) (v39 : BitVec 32) {kk : _ → Prog (TpuEff nD τ sig (Elt F) Λ₀ .tc) α} :
    iprop(Recs m ρ K ∗ RG c .c 4 ∗ Ow c 9 ∗ SS m ρ c .a 1 0 ∗ SR c .a 1 2 3 0
        ∗ (∀ r, (Zero c (.rcv .c 4) ∗ gL m ρ c .c 4 ∗ SS m ρ c .c 4 0 ∗ ext c .c 4 ∗ SW c .a 1 0 ∗ Ow c 10) -∗ WP c (kk r) Q))
      ⊢ WP c (ap (k0_part6 (F := F)) c v2 v39 >>= kk) Q := by
  rw [k0_part6_eq_skeleton]; unfold k0_part6_skel
  simp only [Prog.lift, Prog.bind_op, Prog.bind_ret, Prog.pure_eq_ret]
  iintro ⟨#HR, P0, P1, P2, P3, Hk⟩
  iapply (s_wg m ρ K c .c 4 9 (by decide) (by decide) rfl rfl (dg_c _ _ _)); iframe # ∗; iintro ⟨H1, H2, H3, H4, H5⟩
  iapply (s_gg m ρ K c .a 1 2 3 0 9 rfl (dv10 c) rfl iprop(emp) (BI.Entails.refl _) rfl (by decide) (by decide) (by decide) (gE1 c 1 _ _) (gE1 c 1 _ _)); iframe # ∗; iintro ⟨H6, H7⟩
  iapply Hk; iframe

theorem part7 (v2 : BitVec 32) (v150 : BitVec 32) {kk : _ → Prog (TpuEff nD τ sig (Elt F) Λ₀ .tc) α} :
    iprop(Recs m ρ K ∗ SS m ρ c .b 3 0 ∗ SR c .b 3 7 4 0 ∗ ext (px c 4) .b 7 ∗ Ow c 10 ∗ SS m ρ c .c 4 0 ∗ SR c .c 4 5 1 0 ∗ SE c 0 ∗ CS c 0 ∗ gL m ρ c .a 1
        ∗ (∀ r, (SW c .b 3 0 ∗ SW c .c 4 0 ∗ Ow c 12 ∗ Fly m ρ c 0 .a 1) -∗ WP c (kk r) Q))
      ⊢ WP c (ap (k0_part7 (F := F)) c v2 v150 >>= kk) Q := by
  rw [k0_part7_eq_skeleton]; unfold k0_part7_skel
  simp only [Prog.lift, Prog.bind_op, Prog.bind_ret, Prog.pure_eq_ret]
  iintro ⟨#HR, P0, P1, P2, P3, P4, P5, P6, P7, P8, Hk⟩
  iapply (s_gg m ρ K c .b 3 7 4 0 10 rfl (dv11 c) rfl (ext (px c 4) .b 7) (BI.Entails.refl _) rfl (by decide) (by decide) (by decide) (gE2 c 3 _ _) (gE2 c 3 _ _)); iframe # ∗; iintro ⟨H1, H2⟩
  iapply (s_gg m ρ K c .c 4 5 1 0 11 rfl (dv12 c) rfl iprop(emp) (BI.Entails.refl _) rfl (by decide) (by decide) (by decide) (gE3 c 4 _ _) (gE3 c 4 _ _)); iframe # ∗; iintro ⟨H3, H4⟩
  iapply (s_loc m ρ c 0 .a 1 (gE1 c 1 _ _) rfl rfl); iframe # ∗; iintro H5
  iapply Hk; iframe

/-- The first pieces of the products. -/
theorem part8 (v2 : BitVec 32) (v3 : BitVec 32) {kk : _ → Prog (TpuEff nD τ sig (Elt F) Λ₀ .tc) α} :
    iprop(Recs m ρ K ∗ SE c 1 ∗ CS c 1 ∗ gL m ρ c .b 3 ∗ Fly m ρ c 0 .a 1 ∗ Ow c 12 ∗ wA m ρ c ∗ OE c 1
        ∗ (∀ r, (Fly m ρ c 1 .b 3 ∗ CS c 0 ∗ Ow c 12 ∗ SE c 0 ∗ wA m ρ c ∗ OB c 1 (y1 m ρ c 1)) -∗ WP c (kk r) Q))
      ⊢ WP c (ap (k0_part8 (F := F)) c v2 v3 >>= kk) Q := by
  rw [k0_part8_eq_skeleton]; unfold k0_part8_skel
  simp only [Prog.lift, Prog.bind_op, Prog.bind_ret, Prog.pure_eq_ret]
  iintro ⟨#HR, P0, P1, P2, P3, P4, P5, P6, Hk⟩
  iapply (s_loc m ρ c 1 .b 3 (gE2 c 3 _ _) rfl rfl); iframe # ∗; iintro H1
  iapply (s_wl m ρ K c 0 .a 1 12 rfl rfl (sP_cr 0 .a)); iframe # ∗; iintro ⟨H2, H3, H4, H5, H6⟩
  iapply (s_ls_a c 0 (xp m ρ (px c 1) .a) rfl); iframe # ∗; iintro H7
  iapply (s_lw_a m ρ c); iframe # ∗; iintro H8
  iapply (s_loE c 1 rfl); iframe # ∗; iintro %y8 H9
  iapply (s_st c 1 (y1 m ρ c 1) rfl (kv3 m ρ c)); iframe # ∗; iintro H10
  iapply Hk; iframe

theorem part9 (v2 : BitVec 32) {kk : _ → Prog (TpuEff nD τ sig (Elt F) Λ₀ .tc) α} :
    iprop(Recs m ρ K ∗ SE c 0 ∗ CS c 0 ∗ gL m ρ c .c 4 ∗ Fly m ρ c 1 .b 3 ∗ Ow c 12 ∗ wA m ρ c ∗ OE c 3
        ∗ ((CS c 1 ∗ SE c 1 ∗ OB c 3 (y1 m ρ c 3) ∗ CS c 0 ∗ Ow c 12 ∗ SE c 0 ∗ wA m ρ c) -∗ WP c (kk ⟨xp m ρ (px c 4) .c, wp' m ρ c .c⟩) Q))
      ⊢ WP c (ap (k0_part9 (F := F)) c v2 >>= kk) Q := by
  rw [k0_part9_eq_skeleton]; unfold k0_part9_skel
  simp only [Prog.lift, Prog.bind_op, Prog.bind_ret, Prog.pure_eq_ret]
  iintro ⟨#HR, P0, P1, P2, P3, P4, P5, P6, Hk⟩
  iapply (s_loc m ρ c 0 .c 4 (gE3 c 4 _ _) rfl rfl); iframe # ∗; iintro H1
  iapply (s_wl m ρ K c 1 .b 3 12 rfl rfl (sP_cr 1 .b)); iframe # ∗; iintro ⟨H2, H3, H4, H5, H6⟩
  iapply (s_ls_b c 1 (xp m ρ (px c 3) .b) rfl); iframe # ∗; iintro H7
  iapply (s_lw_b m ρ c); iframe # ∗; iintro H8
  iapply (s_loE c 3 rfl); iframe # ∗; iintro %y8 H9
  iapply (s_st c 3 (y1 m ρ c 3) rfl (kv4 m ρ c)); iframe # ∗; iintro H10
  iapply (s_wl m ρ K c 0 .c 4 12 rfl rfl (sP_cr 0 .c)); iframe # ∗; iintro ⟨H11, H12, H13, H14, H15⟩
  iapply (s_ls_c c 0 (xp m ρ (px c 4) .c) rfl); iframe # ∗; iintro H16
  iapply (s_lw_c m ρ c); iframe # ∗; iintro H17
  rw [kv5]
  iapply Hk; iframe

theorem part10 (v2 : BitVec 32) {kk : _ → Prog (TpuEff nD τ sig (Elt F) Λ₀ .tc) α} :
    iprop(Recs m ρ K ∗ OE c 4 ∗ SW c .a 0 1 ∗ Ow c 12 ∗ SW c .b 0 1 ∗ SW c .c 0 1
        ∗ (∀ r, (OB c 4 (y1 m ρ c 4) ∗ SS m ρ c .a 0 2 ∗ SS m ρ c .b 0 2 ∗ SS m ρ c .c 0 2 ∗ Ow c 12) -∗ WP c (kk r) Q))
      ⊢ WP c (ap (k0_part10 (F := F)) c v2 (xp m ρ (px c 4) .c) (wp' m ρ c .c) >>= kk) Q := by
  rw [k0_part10_eq_skeleton]; unfold k0_part10_skel
  simp only [Prog.lift, Prog.bind_op, Prog.bind_ret, Prog.pure_eq_ret]
  iintro ⟨#HR, P0, P1, P2, P3, P4, Hk⟩
  iapply (s_loE c 4 rfl); iframe # ∗; iintro %y0 H1
  iapply (s_st c 4 (y1 m ρ c 4) rfl (kv6 m ρ c)); iframe # ∗; iintro H2
  iapply (s_ws m ρ K c .a 0 1 12 (by decide) rfl rfl (rfl)); iframe # ∗; iintro ⟨H3, H4⟩
  iapply (s_ws m ρ K c .b 0 1 12 (by decide) rfl rfl (rfl)); iframe # ∗; iintro ⟨H5, H6⟩
  iapply (s_ws m ρ K c .c 0 1 12 (by decide) rfl rfl (rfl)); iframe # ∗; iintro ⟨H7, H8⟩
  iapply Hk; iframe

/-- The sends of the last step. -/
theorem part11 (v2 : BitVec 32) {kk : _ → Prog (TpuEff nD τ sig (Elt F) Λ₀ .tc) α} :
    iprop(Recs m ρ K ∗ SW c .a 1 0 ∗ Ow c 12 ∗ SW c .b 3 0 ∗ SW c .c 4 0 ∗ SS m ρ c .a 0 2 ∗ SR c .a 0 4 4 2
        ∗ (∀ r, (SS m ρ c .a 1 1 ∗ SS m ρ c .b 3 1 ∗ SS m ρ c .c 4 1 ∗ SW c .a 0 2 ∗ Ow c 13) -∗ WP c (kk r) Q))
      ⊢ WP c (ap (k0_part11 (F := F)) c v2 >>= kk) Q := by
  rw [k0_part11_eq_skeleton]; unfold k0_part11_skel
  simp only [Prog.lift, Prog.bind_op, Prog.bind_ret, Prog.pure_eq_ret]
  iintro ⟨#HR, P0, P1, P2, P3, P4, P5, Hk⟩
  iapply (s_ws m ρ K c .a 1 0 12 (by decide) rfl rfl (dg_a _ _ _)); iframe # ∗; iintro ⟨H1, H2⟩
  iapply (s_ws m ρ K c .b 3 0 12 (by decide) rfl rfl (dg_b _ _ _)); iframe # ∗; iintro ⟨H3, H4⟩
  iapply (s_ws m ρ K c .c 4 0 12 (by decide) rfl rfl (dg_c _ _ _)); iframe # ∗; iintro ⟨H5, H6⟩
  iapply (s_xv m ρ K c .a 4 4 2 12 rfl (dv13 c) rfl iprop(emp) (BI.Entails.refl _) rfl (by decide) 0 (by decide) rfl rfl); iframe # ∗; iintro ⟨H7, H8⟩
  iapply Hk; iframe

theorem part12 (v2 : BitVec 32) (v273 : BitVec 32) {kk : _ → Prog (TpuEff nD τ sig (Elt F) Λ₀ .tc) α} :
    iprop(Recs m ρ K ∗ SS m ρ c .a 1 1 ∗ SR c .a 1 5 4 1 ∗ Ow c 13 ∗ SS m ρ c .b 0 2 ∗ SR c .b 0 1 1 2
        ∗ (∀ r, (SW c .a 1 1 ∗ SW c .b 0 2 ∗ Ow c 15) -∗ WP c (kk r) Q))
      ⊢ WP c (ap (k0_part12 (F := F)) c v2 v273 >>= kk) Q := by
  rw [k0_part12_eq_skeleton]; unfold k0_part12_skel
  simp only [Prog.lift, Prog.bind_op, Prog.bind_ret, Prog.pure_eq_ret]
  iintro ⟨#HR, P0, P1, P2, P3, P4, Hk⟩
  iapply (s_gv m ρ K c .a 1 5 4 1 13 rfl (dv14 c) rfl iprop(emp) (BI.Entails.refl _) rfl (by decide) (by decide) 1 (by decide) (gE1 c 1 _ _) rfl); iframe # ∗; iintro ⟨H1, H2⟩
  iapply (s_xv m ρ K c .b 1 1 2 14 rfl (dv15 c) rfl iprop(emp) (BI.Entails.refl _) rfl (by decide) 0 (by decide) rfl rfl); iframe # ∗; iintro ⟨H3, H4⟩
  iapply Hk; iframe

theorem part13 (v2 : BitVec 32) (v78 : BitVec 32) {kk : _ → Prog (TpuEff nD τ sig (Elt F) Λ₀ .tc) α} :
    iprop(Recs m ρ K ∗ SS m ρ c .b 3 1 ∗ SR c .b 3 2 1 1 ∗ Ow c 15 ∗ SS m ρ c .c 0 2 ∗ SR c .c 0 3 3 2 ∗ SS m ρ c .c 4 1 ∗ SR c .c 4 7 3 1
        ∗ (∀ r, (SW c .b 3 1 ∗ SW c .c 0 2 ∗ SW c .c 4 1 ∗ Ow c 18) -∗ WP c (kk r) Q))
      ⊢ WP c (ap (k0_part13 (F := F)) c v2 v78 >>= kk) Q := by
  rw [k0_part13_eq_skeleton]; unfold k0_part13_skel
  simp only [Prog.lift, Prog.bind_op, Prog.bind_ret, Prog.pure_eq_ret]
  iintro ⟨#HR, P0, P1, P2, P3, P4, P5, P6, Hk⟩
  iapply (s_gv m ρ K c .b 3 2 1 1 15 rfl (dv16 c) rfl iprop(emp) (BI.Entails.refl _) rfl (by decide) (by decide) 1 (by decide) (gE2 c 3 _ _) rfl); iframe # ∗; iintro ⟨H1, H2⟩
  iapply (s_xv m ρ K c .c 3 3 2 16 rfl (dv17 c) rfl iprop(emp) (BI.Entails.refl _) rfl (by decide) 1 (by decide) rfl rfl); iframe # ∗; iintro ⟨H3, H4⟩
  iapply (s_gv m ρ K c .c 4 7 3 1 17 rfl (dv18 c) rfl iprop(emp) (BI.Entails.refl _) rfl (by decide) (by decide) 3 (by decide) (gE3 c 4 _ _) rfl); iframe # ∗; iintro ⟨H5, H6⟩
  iapply Hk; iframe

theorem part14 (v91 : BitVec 32) (v104 : BitVec 32) (v135 : BitVec 32) (v150 : BitVec 32) (v336 : BitVec 32) (v0 : BitVec 32) {kk : _ → Prog (TpuEff nD τ sig (Elt F) Λ₀ .tc) α} :
    iprop(Recs m ρ K ∗ RG c .a 3 ∗ Ow c 18 ∗ RG c .b 4 ∗ RG c .c 1 ∗ RG c .a 2
        ∗ (∀ r, (Zero c (.rcv .a 3) ∗ gL m ρ c .a 3 ∗ SS m ρ c .a 3 0 ∗ Zero c (.rcv .b 4) ∗ gL m ρ c .b 4 ∗ SS m ρ c .b 4 0 ∗ Zero c (.rcv .c 1) ∗ gL m ρ c .c 1 ∗ SS m ρ c .c 1 0 ∗ Zero c (.rcv .a 2) ∗ Ow c 18 ∗ gL m ρ c .a 2 ∗ SS m ρ c .a 2 0) -∗ WP c (kk r) Q))
      ⊢ WP c (ap (k0_part14 (F := F)) c v91 v104 v135 v150 v336 v0 >>= kk) Q := by
  rw [k0_part14_eq_skeleton]; unfold k0_part14_skel
  simp only [Prog.lift, Prog.bind_op, Prog.bind_ret, Prog.pure_eq_ret]
  iintro ⟨#HR, P0, P1, P2, P3, P4, Hk⟩
  iapply (s_wg m ρ K c .a 3 18 (by decide) (by decide) rfl rfl (dg_a _ _ _)); iframe # ∗; iintro ⟨H1, H2, H3, H4, H5⟩
  iapply (s_wg m ρ K c .b 4 18 (by decide) (by decide) rfl rfl (dg_b _ _ _)); iframe # ∗; iintro ⟨H6, H7, H8, H9, H10⟩
  iapply (s_wg m ρ K c .c 1 18 (by decide) (by decide) rfl rfl (dg_c _ _ _)); iframe # ∗; iintro ⟨H11, H12, H13, H14, H15⟩
  iapply (s_wg m ρ K c .a 2 18 (by decide) (by decide) rfl rfl (dg_a _ _ _)); iframe # ∗; iintro ⟨H16, H17, H18, H19, H20⟩
  iapply Hk; iframe

theorem part15 (v2 : BitVec 32) (v165 : BitVec 32) (v360 : BitVec 32) (v0 : BitVec 32) {kk : _ → Prog (TpuEff nD τ sig (Elt F) Λ₀ .tc) α} :
    iprop(Recs m ρ K ∗ RG c .b 7 ∗ Ow c 18 ∗ RG c .c 5 ∗ SS m ρ c .a 2 0 ∗ SR c .a 2 6 4 0
        ∗ (∀ r, (Zero c (.rcv .b 7) ∗ gL m ρ c .b 7 ∗ SS m ρ c .b 7 0 ∗ ext c .b 7 ∗ Zero c (.rcv .c 5) ∗ gL m ρ c .c 5 ∗ SS m ρ c .c 5 0 ∗ SW c .a 2 0 ∗ Ow c 19) -∗ WP c (kk r) Q))
      ⊢ WP c (ap (k0_part15 (F := F)) c v2 v165 v360 v0 >>= kk) Q := by
  rw [k0_part15_eq_skeleton]; unfold k0_part15_skel
  simp only [Prog.lift, Prog.bind_op, Prog.bind_ret, Prog.pure_eq_ret]
  iintro ⟨#HR, P0, P1, P2, P3, P4, Hk⟩
  iapply (s_wg m ρ K c .b 7 18 (by decide) (by decide) rfl rfl (dg_b _ _ _)); iframe # ∗; iintro ⟨H1, H2, H3, H4, H5⟩
  iapply (s_wg m ρ K c .c 5 18 (by decide) (by decide) rfl rfl (dg_c _ _ _)); iframe # ∗; iintro ⟨H6, H7, H8, H9, H10⟩
  iapply (s_gv m ρ K c .a 2 6 4 0 18 rfl (dv19 c) rfl iprop(emp) (BI.Entails.refl _) rfl (by decide) (by decide) 2 (by decide) (gE1 c 2 _ _) rfl); iframe # ∗; iintro ⟨H11, H12⟩
  iapply Hk; iframe

theorem part16 (v2 : BitVec 32) (v372 : BitVec 32) {kk : _ → Prog (TpuEff nD τ sig (Elt F) Λ₀ .tc) α} :
    iprop(Recs m ρ K ∗ SS m ρ c .a 3 0 ∗ SR c .a 3 7 4 0 ∗ Ow c 19 ∗ SS m ρ c .b 4 0 ∗ SR c .b 4 5 1 0
        ∗ (∀ r, (SW c .a 3 0 ∗ SW c .b 4 0 ∗ Ow c 21) -∗ WP c (kk r) Q))
      ⊢ WP c (ap (k0_part16 (F := F)) c v2 v372 >>= kk) Q := by
  rw [k0_part16_eq_skeleton]; unfold k0_part16_skel
  simp only [Prog.lift, Prog.bind_op, Prog.bind_ret, Prog.pure_eq_ret]
  iintro ⟨#HR, P0, P1, P2, P3, P4, Hk⟩
  iapply (s_gv m ρ K c .a 3 7 4 0 19 rfl (dv20 c) rfl iprop(emp) (BI.Entails.refl _) rfl (by decide) (by decide) 3 (by decide) (gE1 c 3 _ _) rfl); iframe # ∗; iintro ⟨H1, H2⟩
  iapply (s_gv m ρ K c .b 4 5 1 0 20 rfl (dv21 c) rfl iprop(emp) (BI.Entails.refl _) rfl (by decide) (by decide) 2 (by decide) (gE2 c 4 _ _) rfl); iframe # ∗; iintro ⟨H3, H4⟩
  iapply Hk; iframe

theorem part17 (v2 : BitVec 32) {kk : _ → Prog (TpuEff nD τ sig (Elt F) Λ₀ .tc) α} :
    iprop(Recs m ρ K ∗ SS m ρ c .b 7 0 ∗ SR c .b 7 6 1 0 ∗ Ow c 21 ∗ SS m ρ c .c 1 0 ∗ SR c .c 1 2 3 0 ∗ SS m ρ c .c 5 0 ∗ SR c .c 5 6 3 0
        ∗ (∀ r, (SW c .b 7 0 ∗ SW c .c 1 0 ∗ SW c .c 5 0 ∗ Ow c 24) -∗ WP c (kk r) Q))
      ⊢ WP c (ap (k0_part17 (F := F)) c v2 >>= kk) Q := by
  rw [k0_part17_eq_skeleton]; unfold k0_part17_skel
  simp only [Prog.lift, Prog.bind_op, Prog.bind_ret, Prog.pure_eq_ret]
  iintro ⟨#HR, P0, P1, P2, P3, P4, P5, P6, Hk⟩
  iapply (s_gv m ρ K c .b 7 6 1 0 21 rfl (dv22 c) rfl iprop(emp) (BI.Entails.refl _) rfl (by decide) (by decide) 3 (by decide) (gE2 c 7 _ _) rfl); iframe # ∗; iintro ⟨H1, H2⟩
  iapply (s_gv m ρ K c .c 1 2 3 0 22 rfl (dv23 c) rfl iprop(emp) (BI.Entails.refl _) rfl (by decide) (by decide) 0 (by decide) (gE3 c 1 _ _) rfl); iframe # ∗; iintro ⟨H3, H4⟩
  iapply (s_gv m ρ K c .c 5 6 3 0 23 rfl (dv24 c) rfl iprop(emp) (BI.Entails.refl _) rfl (by decide) (by decide) 2 (by decide) (gE3 c 5 _ _) rfl); iframe # ∗; iintro ⟨H5, H6⟩
  iapply Hk; iframe

end Parts

end Cert.GatherProof
-- ==== Proof.Parts2.lean ====
/-
# The parts of the body: the products
-/
module

public import proofs.«01_k».proof.Proof.Parts1

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

section Parts
variable (c : Dev nD) {α : Type} {Q : α → sProp (MT nD τ sig Unit (Elt F) ℕ UU ℕ)}

/-- The second pieces of the products. -/
theorem part18 (v2 : BitVec 32) (v3 : BitVec 32) {kk : _ → Prog (TpuEff nD τ sig (Elt F) Λ₀ .tc) α} :
    iprop(Recs m ρ K ∗ SE c 0 ∗ CS c 0 ∗ gL m ρ c .a 2 ∗ SE c 1 ∗ CS c 1 ∗ gL m ρ c .a 3 ∗ Ow c 24 ∗ wA m ρ c
        ∗ ((Fly m ρ c 1 .a 3 ∗ CS c 0 ∗ Ow c 24 ∗ SE c 0 ∗ wA m ρ c) -∗ WP c (kk (y1 m ρ c 2)) Q))
      ⊢ WP c (ap (k0_part18 (F := F)) c v2 v3 >>= kk) Q := by
  rw [k0_part18_eq_skeleton]; unfold k0_part18_skel
  simp only [Prog.lift, Prog.bind_op, Prog.bind_ret, Prog.pure_eq_ret]
  iintro ⟨#HR, P0, P1, P2, P3, P4, P5, P6, P7, Hk⟩
  iapply (s_loc m ρ c 0 .a 2 (gE1 c 2 _ _) rfl rfl); iframe # ∗; iintro H1
  iapply (s_loc m ρ c 1 .a 3 (gE1 c 3 _ _) rfl rfl); iframe # ∗; iintro H2
  iapply (s_wl m ρ K c 0 .a 2 24 rfl rfl (sP_cr 0 .a)); iframe # ∗; iintro ⟨H3, H4, H5, H6, H7⟩
  iapply (s_ls_a c 0 (xp m ρ (px c 2) .a) rfl); iframe # ∗; iintro H8
  iapply (s_lw_a m ρ c); iframe # ∗; iintro H9
  rw [kv7]
  iapply Hk; iframe

theorem part19 (v2 : BitVec 32) {kk : _ → Prog (TpuEff nD τ sig (Elt F) Λ₀ .tc) α} :
    iprop(Recs m ρ K ∗ OE c 2 ∗ SE c 0 ∗ CS c 0 ∗ gL m ρ c .b 4 ∗ Fly m ρ c 1 .a 3 ∗ Ow c 24 ∗ wA m ρ c ∗ OB c 3 (y1 m ρ c 3)
        ∗ (∀ r, (OB c 2 (y1 m ρ c 2) ∗ Fly m ρ c 0 .b 4 ∗ CS c 1 ∗ Ow c 24 ∗ SE c 1 ∗ wA m ρ c ∗ OB c 3 (y2 m ρ c 3)) -∗ WP c (kk r) Q))
      ⊢ WP c (ap (k0_part19 (F := F)) c v2 (y1 m ρ c 2) >>= kk) Q := by
  rw [k0_part19_eq_skeleton]; unfold k0_part19_skel
  simp only [Prog.lift, Prog.bind_op, Prog.bind_ret, Prog.pure_eq_ret]
  iintro ⟨#HR, P0, P1, P2, P3, P4, P5, P6, P7, Hk⟩
  iapply (s_loE c 2 rfl); iframe # ∗; iintro %y0 H1
  iapply (s_st c 2 (y1 m ρ c 2) rfl (rfl)); iframe # ∗; iintro H2
  iapply (s_loc m ρ c 0 .b 4 (gE2 c 4 _ _) rfl rfl); iframe # ∗; iintro H3
  iapply (s_wl m ρ K c 1 .a 3 24 rfl rfl (sP_cr 1 .a)); iframe # ∗; iintro ⟨H4, H5, H6, H7, H8⟩
  iapply (s_ls_a c 1 (xp m ρ (px c 3) .a) rfl); iframe # ∗; iintro H9
  iapply (s_lw_a m ρ c); iframe # ∗; iintro H10
  iapply (s_lo c 3 (y1 m ρ c 3) rfl); iframe # ∗; iintro H11
  iapply (s_lo c 3 (y1 m ρ c 3) rfl); iframe # ∗; iintro H12
  iapply (s_st' c 3 (y1 m ρ c 3) (y2 m ρ c 3) rfl (kv8 m ρ c)); iframe # ∗; iintro H13
  iapply Hk; iframe

theorem part20 (v2 : BitVec 32) (v498 : BitVec 32) (v512 : BitVec 32) {kk : _ → Prog (TpuEff nD τ sig (Elt F) Λ₀ .tc) α} :
    iprop(Recs m ρ K ∗ SE c 1 ∗ CS c 1 ∗ gL m ρ c .b 7 ∗ Fly m ρ c 0 .b 4 ∗ Ow c 24 ∗ wA m ρ c ∗ OB c 4 (y1 m ρ c 4)
        ∗ (∀ r, (Fly m ρ c 1 .b 7 ∗ CS c 0 ∗ Ow c 24 ∗ SE c 0 ∗ wA m ρ c ∗ OB c 4 (y2 m ρ c 4)) -∗ WP c (kk r) Q))
      ⊢ WP c (ap (k0_part20 (F := F)) c v2 v498 v512 >>= kk) Q := by
  rw [k0_part20_eq_skeleton]; unfold k0_part20_skel
  simp only [Prog.lift, Prog.bind_op, Prog.bind_ret, Prog.pure_eq_ret]
  iintro ⟨#HR, P0, P1, P2, P3, P4, P5, P6, Hk⟩
  iapply (s_loc m ρ c 1 .b 7 (gE2 c 7 _ _) rfl rfl); iframe # ∗; iintro H1
  iapply (s_wl m ρ K c 0 .b 4 24 rfl rfl (sP_cr 0 .b)); iframe # ∗; iintro ⟨H2, H3, H4, H5, H6⟩
  iapply (s_ls_b c 0 (xp m ρ (px c 4) .b) rfl); iframe # ∗; iintro H7
  iapply (s_lw_b m ρ c); iframe # ∗; iintro H8
  iapply (s_lo c 4 (y1 m ρ c 4) rfl); iframe # ∗; iintro H9
  iapply (s_lo c 4 (y1 m ρ c 4) rfl); iframe # ∗; iintro H10
  iapply (s_st' c 4 (y1 m ρ c 4) (y2 m ρ c 4) rfl (kv9 m ρ c)); iframe # ∗; iintro H11
  iapply Hk; iframe

theorem part21 (v2 : BitVec 32) {kk : _ → Prog (TpuEff nD τ sig (Elt F) Λ₀ .tc) α} :
    iprop(Recs m ρ K ∗ SE c 0 ∗ CS c 0 ∗ gL m ρ c .c 1 ∗ Fly m ρ c 1 .b 7 ∗ Ow c 24 ∗ wA m ρ c ∗ OE c 7 ∗ gL m ρ c .c 5
        ∗ (∀ r, (Fly m ρ c 0 .c 1 ∗ Ow c 24 ∗ wA m ρ c ∗ OB c 7 (y1 m ρ c 7) ∗ Fly m ρ c 1 .c 5) -∗ WP c (kk r) Q))
      ⊢ WP c (ap (k0_part21 (F := F)) c v2 >>= kk) Q := by
  rw [k0_part21_eq_skeleton]; unfold k0_part21_skel
  simp only [Prog.lift, Prog.bind_op, Prog.bind_ret, Prog.pure_eq_ret]
  iintro ⟨#HR, P0, P1, P2, P3, P4, P5, P6, P7, Hk⟩
  iapply (s_loc m ρ c 0 .c 1 (gE3 c 1 _ _) rfl rfl); iframe # ∗; iintro H1
  iapply (s_wl m ρ K c 1 .b 7 24 rfl rfl (sP_cr 1 .b)); iframe # ∗; iintro ⟨H2, H3, H4, H5, H6⟩
  iapply (s_ls_b c 1 (xp m ρ (px c 7) .b) rfl); iframe # ∗; iintro H7
  iapply (s_lw_b m ρ c); iframe # ∗; iintro H8
  iapply (s_loE c 7 rfl); iframe # ∗; iintro %y8 H9
  iapply (s_st c 7 (y1 m ρ c 7) rfl (kv10 m ρ c)); iframe # ∗; iintro H10
  iapply (s_loc m ρ c 1 .c 5 (gE3 c 5 _ _) rfl rfl); iframe # ∗; iintro H11
  iapply Hk; iframe

theorem part22 (v2 : BitVec 32) {kk : _ → Prog (TpuEff nD τ sig (Elt F) Λ₀ .tc) α} :
    iprop(Recs m ρ K ∗ Fly m ρ c 0 .c 1 ∗ Ow c 24 ∗ wA m ρ c ∗ OB c 1 (y1 m ρ c 1) ∗ Fly m ρ c 1 .c 5
        ∗ ((CS c 0 ∗ SE c 0 ∗ OB c 1 (y2 m ρ c 1) ∗ CS c 1 ∗ Ow c 24 ∗ SE c 1 ∗ wA m ρ c) -∗ WP c (kk (y1 m ρ c 5)) Q))
      ⊢ WP c (ap (k0_part22 (F := F)) c v2 >>= kk) Q := by
  rw [k0_part22_eq_skeleton]; unfold k0_part22_skel
  simp only [Prog.lift, Prog.bind_op, Prog.bind_ret, Prog.pure_eq_ret]
  iintro ⟨#HR, P0, P1, P2, P3, P4, Hk⟩
  iapply (s_wl m ρ K c 0 .c 1 24 rfl rfl (sP_cr 0 .c)); iframe # ∗; iintro ⟨H1, H2, H3, H4, H5⟩
  iapply (s_ls_c c 0 (xp m ρ (px c 1) .c) rfl); iframe # ∗; iintro H6
  iapply (s_lw_c m ρ c); iframe # ∗; iintro H7
  iapply (s_lo c 1 (y1 m ρ c 1) rfl); iframe # ∗; iintro H8
  iapply (s_lo c 1 (y1 m ρ c 1) rfl); iframe # ∗; iintro H9
  iapply (s_st' c 1 (y1 m ρ c 1) (y2 m ρ c 1) rfl (kv11 m ρ c)); iframe # ∗; iintro H10
  iapply (s_wl m ρ K c 1 .c 5 24 rfl rfl (sP_cr 1 .c)); iframe # ∗; iintro ⟨H11, H12, H13, H14, H15⟩
  iapply (s_ls_c c 1 (xp m ρ (px c 5) .c) rfl); iframe # ∗; iintro H16
  iapply (s_lw_c m ρ c); iframe # ∗; iintro H17
  rw [kv12]
  iapply Hk; iframe

/-- The last pieces of the products. -/
theorem part23 (v2 : BitVec 32) (v273 : BitVec 32) {kk : _ → Prog (TpuEff nD τ sig (Elt F) Λ₀ .tc) α} :
    iprop(Recs m ρ K ∗ OE c 5 ∗ RV c .a 4 ∗ Ow c 24 ∗ wA m ρ c ∗ OB c 4 (y2 m ρ c 4)
        ∗ ((OB c 5 (y1 m ρ c 5) ∗ Zero c (.rcv .a 4) ∗ Ow c 24 ∗ vE c .a 0 ∗ wA m ρ c ∗ OB c 4 (y3 m ρ c 4)) -∗ WP c (kk (bmx (y3 m ρ c 4))) Q))
      ⊢ WP c (ap (k0_part23 (F := F)) c v2 v273 (y1 m ρ c 5) >>= kk) Q := by
  rw [k0_part23_eq_skeleton]; unfold k0_part23_skel
  simp only [Prog.lift, Prog.bind_op, Prog.bind_ret, Prog.pure_eq_ret]
  iintro ⟨#HR, P0, P1, P2, P3, P4, Hk⟩
  iapply (s_loE c 5 rfl); iframe # ∗; iintro %y0 H1
  iapply (s_st c 5 (y1 m ρ c 5) rfl (rfl)); iframe # ∗; iintro H2
  iapply (s_wv m ρ K c .a 4 24 (by decide) 0 (by decide) rfl rfl (vP_cr 0 .a)); iframe # ∗; iintro ⟨H3, H4, H5⟩
  iapply (s_lv_a m ρ c 0 (px c 4) rfl); iframe # ∗; iintro H6
  iapply (s_lw_a m ρ c); iframe # ∗; iintro H7
  iapply (s_lo c 4 (y2 m ρ c 4) rfl); iframe # ∗; iintro H8
  iapply (s_lo c 4 (y2 m ρ c 4) rfl); iframe # ∗; iintro H9
  iapply (s_st' c 4 (y2 m ρ c 4) (y3 m ρ c 4) rfl (kv13 m ρ c)); iframe # ∗; iintro H10
  rw [kv14]
  iapply Hk; iframe

theorem part24 (v2 : BitVec 32) (v294 : BitVec 32) {kk : _ → Prog (TpuEff nD τ sig (Elt F) Λ₀ .tc) α} :
    iprop(Recs m ρ K ∗ RV c .b 1 ∗ Ow c 24 ∗ wA m ρ c ∗ OB c 1 (y2 m ρ c 1)
        ∗ ((Zero c (.rcv .b 1) ∗ Ow c 24 ∗ vE c .b 0 ∗ wA m ρ c ∗ OB c 1 (y3 m ρ c 1)) -∗ WP c (kk (mx m ρ c [1, 4])) Q))
      ⊢ WP c (ap (k0_part24 (F := F)) c v2 (mx m ρ c []) v294 (bmx (y3 m ρ c 4)) >>= kk) Q := by
  rw [k0_part24_eq_skeleton]; unfold k0_part24_skel
  simp only [Prog.lift, Prog.bind_op, Prog.bind_ret, Prog.pure_eq_ret]
  iintro ⟨#HR, P0, P1, P2, P3, Hk⟩
  iapply (s_wv m ρ K c .b 1 24 (by decide) 0 (by decide) rfl rfl (vP_cr 0 .b)); iframe # ∗; iintro ⟨H1, H2, H3⟩
  iapply (s_lv_b m ρ c 0 (px c 1) rfl); iframe # ∗; iintro H4
  iapply (s_lw_b m ρ c); iframe # ∗; iintro H5
  iapply (s_lo c 1 (y2 m ρ c 1) rfl); iframe # ∗; iintro H6
  iapply (s_lo c 1 (y2 m ρ c 1) rfl); iframe # ∗; iintro H7
  iapply (s_st' c 1 (y2 m ρ c 1) (y3 m ρ c 1) rfl (kv15 m ρ c)); iframe # ∗; iintro H8
  rw [kv16]
  iapply Hk; iframe

theorem part25 (v2 : BitVec 32) (v273 : BitVec 32) (v315 : BitVec 32) {kk : _ → Prog (TpuEff nD τ sig (Elt F) Λ₀ .tc) α} :
    iprop(Recs m ρ K ∗ RV c .c 3 ∗ Ow c 24 ∗ wA m ρ c ∗ OB c 3 (y2 m ρ c 3)
        ∗ (∀ r, (Zero c (.rcv .c 3) ∗ Ow c 24 ∗ vE c .c 1 ∗ wA m ρ c ∗ OB c 3 (y3 m ρ c 3)) -∗ WP c (kk ⟨mx m ρ c [3, 1, 4], r⟩) Q))
      ⊢ WP c (ap (k0_part25 (F := F)) c v2 v273 v315 (mx m ρ c [1, 4]) >>= kk) Q := by
  rw [k0_part25_eq_skeleton]; unfold k0_part25_skel
  simp only [Prog.lift, Prog.bind_op, Prog.bind_ret, Prog.pure_eq_ret]
  iintro ⟨#HR, P0, P1, P2, P3, Hk⟩
  iapply (s_wv m ρ K c .c 3 24 (by decide) 1 (by decide) rfl rfl (vP_cr 1 .c)); iframe # ∗; iintro ⟨H1, H2, H3⟩
  iapply (s_lv_c m ρ c 1 (px c 3) rfl); iframe # ∗; iintro H4
  iapply (s_lw_c m ρ c); iframe # ∗; iintro H5
  iapply (s_lo c 3 (y2 m ρ c 3) rfl); iframe # ∗; iintro H6
  iapply (s_lo c 3 (y2 m ρ c 3) rfl); iframe # ∗; iintro H7
  iapply (s_st' c 3 (y2 m ρ c 3) (y3 m ρ c 3) rfl (kv17 m ρ c)); iframe # ∗; iintro H8
  rw [kv18]
  iapply Hk; iframe

theorem part26 (v2 : BitVec 32) (v294 : BitVec 32) (v669 : BitVec 32) {kk : _ → Prog (TpuEff nD τ sig (Elt F) Λ₀ .tc) α} :
    iprop(Recs m ρ K ∗ RV c .a 5 ∗ Ow c 24 ∗ wA m ρ c ∗ OB c 5 (y1 m ρ c 5)
        ∗ (∀ r, (Zero c (.rcv .a 5) ∗ Ow c 24 ∗ vE c .a 1 ∗ wA m ρ c ∗ OB c 5 (y2 m ρ c 5)) -∗ WP c (kk r) Q))
      ⊢ WP c (ap (k0_part26 (F := F)) c v2 v294 v669 >>= kk) Q := by
  rw [k0_part26_eq_skeleton]; unfold k0_part26_skel
  simp only [Prog.lift, Prog.bind_op, Prog.bind_ret, Prog.pure_eq_ret]
  iintro ⟨#HR, P0, P1, P2, P3, Hk⟩
  iapply (s_wv m ρ K c .a 5 24 (by decide) 1 (by decide) rfl rfl (vP_cr 1 .a)); iframe # ∗; iintro ⟨H1, H2, H3⟩
  iapply (s_lv_a m ρ c 1 (px c 5) rfl); iframe # ∗; iintro H4
  iapply (s_lw_a m ρ c); iframe # ∗; iintro H5
  iapply (s_lo c 5 (y1 m ρ c 5) rfl); iframe # ∗; iintro H6
  iapply (s_lo c 5 (y1 m ρ c 5) rfl); iframe # ∗; iintro H7
  iapply (s_st' c 5 (y1 m ρ c 5) (y2 m ρ c 5) rfl (kv19 m ρ c)); iframe # ∗; iintro H8
  iapply Hk; iframe

theorem part27 (v2 : BitVec 32) (v315 : BitVec 32) {kk : _ → Prog (TpuEff nD τ sig (Elt F) Λ₀ .tc) α} :
    iprop(Recs m ρ K ∗ RV c .b 2 ∗ Ow c 24 ∗ wA m ρ c ∗ OB c 2 (y1 m ρ c 2) ∗ RV c .c 7
        ∗ ((Zero c (.rcv .b 2) ∗ vE c .b 1 ∗ OB c 2 (y2 m ρ c 2) ∗ Zero c (.rcv .c 7) ∗ Ow c 24 ∗ vE c .c 3 ∗ wA m ρ c) -∗ WP c (kk ⟨xp m ρ (px c 7) .c, wp' m ρ c .c, constant S512x256 .f32 0x00000000#32⟩) Q))
      ⊢ WP c (ap (k0_part27 (F := F)) c v2 v315 >>= kk) Q := by
  rw [k0_part27_eq_skeleton]; unfold k0_part27_skel
  simp only [Prog.lift, Prog.bind_op, Prog.bind_ret, Prog.pure_eq_ret]
  iintro ⟨#HR, P0, P1, P2, P3, P4, Hk⟩
  iapply (s_wv m ρ K c .b 2 24 (by decide) 1 (by decide) rfl rfl (vP_cr 1 .b)); iframe # ∗; iintro ⟨H1, H2, H3⟩
  iapply (s_lv_b m ρ c 1 (px c 2) rfl); iframe # ∗; iintro H4
  iapply (s_lw_b m ρ c); iframe # ∗; iintro H5
  iapply (s_lo c 2 (y1 m ρ c 2) rfl); iframe # ∗; iintro H6
  iapply (s_lo c 2 (y1 m ρ c 2) rfl); iframe # ∗; iintro H7
  iapply (s_st' c 2 (y1 m ρ c 2) (y2 m ρ c 2) rfl (kv20 m ρ c)); iframe # ∗; iintro H8
  iapply (s_wv m ρ K c .c 7 24 (by decide) 3 (by decide) rfl rfl (vP_cr 3 .c)); iframe # ∗; iintro ⟨H9, H10, H11⟩
  iapply (s_lv_c m ρ c 3 (px c 7) rfl); iframe # ∗; iintro H12
  iapply (s_lw_c m ρ c); iframe # ∗; iintro H13
  rw [kv21, kv22]
  iapply Hk; iframe

theorem part28 (v2 : BitVec 32) (v372 : BitVec 32) {kk : _ → Prog (TpuEff nD τ sig (Elt F) Λ₀ .tc) α} :
    iprop(Recs m ρ K ∗ OB c 7 (y1 m ρ c 7) ∗ RV c .a 6 ∗ Ow c 24 ∗ wA m ρ c ∗ OE c 6
        ∗ (∀ r, (OB c 7 (y2 m ρ c 7) ∗ Zero c (.rcv .a 6) ∗ Ow c 24 ∗ vE c .a 2 ∗ wA m ρ c ∗ OB c 6 (y1 m ρ c 6)) -∗ WP c (kk r) Q))
      ⊢ WP c (ap (k0_part28 (F := F)) c v2 v372 (xp m ρ (px c 7) .c) (wp' m ρ c .c) (constant S512x256 .f32 0x00000000#32) >>= kk) Q := by
  rw [k0_part28_eq_skeleton]; unfold k0_part28_skel
  simp only [Prog.lift, Prog.bind_op, Prog.bind_ret, Prog.pure_eq_ret]
  iintro ⟨#HR, P0, P1, P2, P3, P4, Hk⟩
  iapply (s_lo c 7 (y1 m ρ c 7) rfl); iframe # ∗; iintro H1
  iapply (s_lo c 7 (y1 m ρ c 7) rfl); iframe # ∗; iintro H2
  iapply (s_st' c 7 (y1 m ρ c 7) (y2 m ρ c 7) rfl (kv23 m ρ c)); iframe # ∗; iintro H3
  iapply (s_wv m ρ K c .a 6 24 (by decide) 2 (by decide) rfl rfl (vP_cr 2 .a)); iframe # ∗; iintro ⟨H4, H5, H6⟩
  iapply (s_lv_a m ρ c 2 (px c 6) rfl); iframe # ∗; iintro H7
  iapply (s_lw_a m ρ c); iframe # ∗; iintro H8
  iapply (s_loE c 6 rfl); iframe # ∗; iintro %y8 H9
  iapply (s_st c 6 (y1 m ρ c 6) rfl (kv24 m ρ c)); iframe # ∗; iintro H10
  iapply Hk; iframe

theorem part29 (v2 : BitVec 32) (v395 : BitVec 32) {kk : _ → Prog (TpuEff nD τ sig (Elt F) Λ₀ .tc) α} :
    iprop(Recs m ρ K ∗ RV c .b 5 ∗ Ow c 24 ∗ wA m ρ c ∗ OB c 5 (y2 m ρ c 5)
        ∗ (∀ r, (Zero c (.rcv .b 5) ∗ Ow c 24 ∗ vE c .b 2 ∗ wA m ρ c ∗ OB c 5 (y3 m ρ c 5)) -∗ WP c (kk ⟨mx m ρ c [5, 3, 1, 4], r⟩) Q))
      ⊢ WP c (ap (k0_part29 (F := F)) c v2 v395 (mx m ρ c [3, 1, 4]) >>= kk) Q := by
  rw [k0_part29_eq_skeleton]; unfold k0_part29_skel
  simp only [Prog.lift, Prog.bind_op, Prog.bind_ret, Prog.pure_eq_ret]
  iintro ⟨#HR, P0, P1, P2, P3, Hk⟩
  iapply (s_wv m ρ K c .b 5 24 (by decide) 2 (by decide) rfl rfl (vP_cr 2 .b)); iframe # ∗; iintro ⟨H1, H2, H3⟩
  iapply (s_lv_b m ρ c 2 (px c 5) rfl); iframe # ∗; iintro H4
  iapply (s_lw_b m ρ c); iframe # ∗; iintro H5
  iapply (s_lo c 5 (y2 m ρ c 5) rfl); iframe # ∗; iintro H6
  iapply (s_lo c 5 (y2 m ρ c 5) rfl); iframe # ∗; iintro H7
  iapply (s_st' c 5 (y2 m ρ c 5) (y3 m ρ c 5) rfl (kv25 m ρ c)); iframe # ∗; iintro H8
  rw [kv26]
  iapply Hk; iframe

theorem part30 (v2 : BitVec 32) (v372 : BitVec 32) (v418 : BitVec 32) (v1 : BitVec 32) {kk : _ → Prog (TpuEff nD τ sig (Elt F) Λ₀ .tc) α} :
    iprop(Recs m ρ K ∗ RV c .c 2 ∗ Ow c 24 ∗ wA m ρ c ∗ OB c 2 (y2 m ρ c 2)
        ∗ ((Zero c (.rcv .c 2) ∗ Ow c 24 ∗ vE c .c 0 ∗ wA m ρ c ∗ OB c 2 (y3 m ρ c 2)) -∗ WP c (kk (mx m ρ c [2, 5, 3, 1, 4])) Q))
      ⊢ WP c (ap (k0_part30 (F := F)) c v2 v372 v418 (mx m ρ c [5, 3, 1, 4]) v1 >>= kk) Q := by
  rw [k0_part30_eq_skeleton]; unfold k0_part30_skel
  simp only [Prog.lift, Prog.bind_op, Prog.bind_ret, Prog.pure_eq_ret]
  iintro ⟨#HR, P0, P1, P2, P3, Hk⟩
  iapply (s_wv m ρ K c .c 2 24 (by decide) 0 (by decide) rfl rfl (vP_cr 0 .c)); iframe # ∗; iintro ⟨H1, H2, H3⟩
  iapply (s_lv_c m ρ c 0 (px c 2) rfl); iframe # ∗; iintro H4
  iapply (s_lw_c m ρ c); iframe # ∗; iintro H5
  iapply (s_lo c 2 (y2 m ρ c 2) rfl); iframe # ∗; iintro H6
  iapply (s_lo c 2 (y2 m ρ c 2) rfl); iframe # ∗; iintro H7
  iapply (s_st' c 2 (y2 m ρ c 2) (y3 m ρ c 2) rfl (kv27 m ρ c)); iframe # ∗; iintro H8
  rw [kv28]
  iapply Hk; iframe

theorem part31 (v2 : BitVec 32) (v395 : BitVec 32) {kk : _ → Prog (TpuEff nD τ sig (Elt F) Λ₀ .tc) α} :
    iprop(Recs m ρ K ∗ RV c .a 7 ∗ Ow c 24 ∗ wA m ρ c ∗ OB c 7 (y2 m ρ c 7)
        ∗ ((Zero c (.rcv .a 7) ∗ Ow c 24 ∗ vE c .a 3 ∗ wA m ρ c ∗ OB c 7 (y3 m ρ c 7)) -∗ WP c (kk (mx m ρ c [7, 2, 5, 3, 1, 4])) Q))
      ⊢ WP c (ap (k0_part31 (F := F)) c v2 v395 (mx m ρ c [2, 5, 3, 1, 4]) >>= kk) Q := by
  rw [k0_part31_eq_skeleton]; unfold k0_part31_skel
  simp only [Prog.lift, Prog.bind_op, Prog.bind_ret, Prog.pure_eq_ret]
  iintro ⟨#HR, P0, P1, P2, P3, Hk⟩
  iapply (s_wv m ρ K c .a 7 24 (by decide) 3 (by decide) rfl rfl (vP_cr 3 .a)); iframe # ∗; iintro ⟨H1, H2, H3⟩
  iapply (s_lv_a m ρ c 3 (px c 7) rfl); iframe # ∗; iintro H4
  iapply (s_lw_a m ρ c); iframe # ∗; iintro H5
  iapply (s_lo c 7 (y2 m ρ c 7) rfl); iframe # ∗; iintro H6
  iapply (s_lo c 7 (y2 m ρ c 7) rfl); iframe # ∗; iintro H7
  iapply (s_st' c 7 (y2 m ρ c 7) (y3 m ρ c 7) rfl (kv29 m ρ c)); iframe # ∗; iintro H8
  rw [kv30]
  iapply Hk; iframe

theorem part32 (v2 : BitVec 32) (v418 : BitVec 32) {kk : _ → Prog (TpuEff nD τ sig (Elt F) Λ₀ .tc) α} :
    iprop(Recs m ρ K ∗ RV c .b 6 ∗ Ow c 24 ∗ wA m ρ c ∗ OB c 6 (y1 m ρ c 6) ∗ RV c .c 6
        ∗ ((Zero c (.rcv .b 6) ∗ vE c .b 3 ∗ OB c 6 (y2 m ρ c 6) ∗ Zero c (.rcv .c 6) ∗ Ow c 24 ∗ vE c .c 2 ∗ wA m ρ c) -∗ WP c (kk ⟨xp m ρ (px c 6) .c, wp' m ρ c .c⟩) Q))
      ⊢ WP c (ap (k0_part32 (F := F)) c v2 v418 >>= kk) Q := by
  rw [k0_part32_eq_skeleton]; unfold k0_part32_skel
  simp only [Prog.lift, Prog.bind_op, Prog.bind_ret, Prog.pure_eq_ret]
  iintro ⟨#HR, P0, P1, P2, P3, P4, Hk⟩
  iapply (s_wv m ρ K c .b 6 24 (by decide) 3 (by decide) rfl rfl (vP_cr 3 .b)); iframe # ∗; iintro ⟨H1, H2, H3⟩
  iapply (s_lv_b m ρ c 3 (px c 6) rfl); iframe # ∗; iintro H4
  iapply (s_lw_b m ρ c); iframe # ∗; iintro H5
  iapply (s_lo c 6 (y1 m ρ c 6) rfl); iframe # ∗; iintro H6
  iapply (s_lo c 6 (y1 m ρ c 6) rfl); iframe # ∗; iintro H7
  iapply (s_st' c 6 (y1 m ρ c 6) (y2 m ρ c 6) rfl (kv31 m ρ c)); iframe # ∗; iintro H8
  iapply (s_wv m ρ K c .c 6 24 (by decide) 2 (by decide) rfl rfl (vP_cr 2 .c)); iframe # ∗; iintro ⟨H9, H10, H11⟩
  iapply (s_lv_c m ρ c 2 (px c 6) rfl); iframe # ∗; iintro H12
  iapply (s_lw_c m ρ c); iframe # ∗; iintro H13
  rw [kv32, kv33]
  iapply Hk; iframe

/-- The waits for the last sends. -/
theorem part33 (v2 : BitVec 32) {kk : _ → Prog (TpuEff nD τ sig (Elt F) Λ₀ .tc) α} :
    iprop(Recs m ρ K ∗ OB c 6 (y2 m ρ c 6) ∗ SW c .a 0 2 ∗ Ow c 24 ∗ SW c .a 1 1
        ∗ ((OB c 6 (y3 m ρ c 6) ∗ Zero c (.snd .a 0) ∗ srcO m ρ c .a 0 ∗ Zero c (.snd .a 1) ∗ Ow c 24) -∗ WP c (kk (amv m ρ c)) Q))
      ⊢ WP c (ap (k0_part33 (F := F)) c v2 (mx m ρ c [7, 2, 5, 3, 1, 4]) (xp m ρ (px c 6) .c) (wp' m ρ c .c) >>= kk) Q := by
  rw [k0_part33_eq_skeleton]; unfold k0_part33_skel
  simp only [Prog.lift, Prog.bind_op, Prog.bind_ret, Prog.pure_eq_ret]
  iintro ⟨#HR, P0, P1, P2, P3, Hk⟩
  iapply (s_lo c 6 (y2 m ρ c 6) rfl); iframe # ∗; iintro H1
  iapply (s_lo c 6 (y2 m ρ c 6) rfl); iframe # ∗; iintro H2
  iapply (s_st' c 6 (y2 m ρ c 6) (y3 m ρ c 6) rfl (kv34 m ρ c)); iframe # ∗; iintro H3
  iapply (s_wsz m ρ K c .a 0 2 24 (by decide) rfl rfl (rfl)); iframe # ∗; iintro ⟨H4, H5, H6⟩
  iapply (s_wsz m ρ K c .a 1 1 24 (by decide) rfl rfl (dg_a _ _ _)); iframe # ∗; iintro ⟨H7, H8, H9⟩
  rw [kv35]
  iapply Hk; iframe

end Parts

end Cert.GatherProof
-- ==== Proof.Parts3.lean ====
/-
# The parts of the body: the maximum
-/
module

public import proofs.«01_k».proof.Proof.Parts2

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

theorem aP_cr : (aP 0).view.dmaCredit = crA := rfl
theorem da (off i h) : (((aM : Memref sig .tc .vmem S8x8x128 .f32).slice (Rect.unit (s := S8x8x128) off S1x8x128.size i) h).squeeze S8x128 Facts₀.squeezes_S1x8x128_S8x128).view.dmaCredit = crA :=
  (show _ = (aP 0).view.dmaCredit from rfl).trans aP_cr

section Parts
variable (c : Dev nD) {α : Type} {Q : α → sProp (MT nD τ sig Unit (Elt F) ℕ UU ℕ)}

theorem part34 {kk : _ → Prog (TpuEff nD τ sig (Elt F) Λ₀ .tc) α} :
    iprop(Recs m ρ K ∗ SW c .b 0 2 ∗ Ow c 24 ∗ SW c .b 3 1 ∗ SW c .c 0 2 ∗ SW c .c 4 1
        ∗ (∀ r, (Zero c (.snd .b 0) ∗ srcO m ρ c .b 0 ∗ Zero c (.snd .b 3) ∗ Zero c (.snd .c 0) ∗ srcO m ρ c .c 0 ∗ Zero c (.snd .c 4) ∗ Ow c 24) -∗ WP c (kk r) Q))
      ⊢ WP c (ap (k0_part34 (F := F)) c >>= kk) Q := by
  rw [k0_part34_eq_skeleton]; unfold k0_part34_skel
  simp only [Prog.lift, Prog.bind_op, Prog.bind_ret, Prog.pure_eq_ret]
  iintro ⟨#HR, P0, P1, P2, P3, P4, Hk⟩
  iapply (s_wsz m ρ K c .b 0 2 24 (by decide) rfl rfl (rfl)); iframe # ∗; iintro ⟨H1, H2, H3⟩
  iapply (s_wsz m ρ K c .b 3 1 24 (by decide) rfl rfl (dg_b _ _ _)); iframe # ∗; iintro ⟨H4, H5, H6⟩
  iapply (s_wsz m ρ K c .c 0 2 24 (by decide) rfl rfl (rfl)); iframe # ∗; iintro ⟨H7, H8, H9⟩
  iapply (s_wsz m ρ K c .c 4 1 24 (by decide) rfl rfl (dg_c _ _ _)); iframe # ∗; iintro ⟨H10, H11, H12⟩
  iapply Hk; iframe

theorem part35 {kk : _ → Prog (TpuEff nD τ sig (Elt F) Λ₀ .tc) α} :
    iprop(Recs m ρ K ∗ SW c .a 2 0 ∗ Ow c 24 ∗ SW c .a 3 0 ∗ SW c .b 4 0
        ∗ (∀ r, (Zero c (.snd .a 2) ∗ Zero c (.snd .a 3) ∗ Zero c (.snd .b 4) ∗ Ow c 24) -∗ WP c (kk r) Q))
      ⊢ WP c (ap (k0_part35 (F := F)) c >>= kk) Q := by
  rw [k0_part35_eq_skeleton]; unfold k0_part35_skel
  simp only [Prog.lift, Prog.bind_op, Prog.bind_ret, Prog.pure_eq_ret]
  iintro ⟨#HR, P0, P1, P2, P3, Hk⟩
  iapply (s_wsz m ρ K c .a 2 0 24 (by decide) rfl rfl (dg_a _ _ _)); iframe # ∗; iintro ⟨H1, H2, H3⟩
  iapply (s_wsz m ρ K c .a 3 0 24 (by decide) rfl rfl (dg_a _ _ _)); iframe # ∗; iintro ⟨H4, H5, H6⟩
  iapply (s_wsz m ρ K c .b 4 0 24 (by decide) rfl rfl (dg_b _ _ _)); iframe # ∗; iintro ⟨H7, H8, H9⟩
  iapply Hk; iframe

theorem part36 (v2 : BitVec 32) {kk : _ → Prog (TpuEff nD τ sig (Elt F) Λ₀ .tc) α} :
    iprop(Recs m ρ K ∗ SW c .b 7 0 ∗ Ow c 24 ∗ SW c .c 1 0 ∗ SW c .c 5 0 ∗ amE c c
        ∗ (∀ r, (Zero c (.snd .b 7) ∗ Zero c (.snd .c 1) ∗ Zero c (.snd .c 5) ∗ Ow c 24 ∗ AM m ρ c c fullShare) -∗ WP c (kk r) Q))
      ⊢ WP c (ap (k0_part36 (F := F)) c v2 (amv m ρ c) >>= kk) Q := by
  rw [k0_part36_eq_skeleton]; unfold k0_part36_skel
  simp only [Prog.lift, Prog.bind_op, Prog.bind_ret, Prog.pure_eq_ret]
  iintro ⟨#HR, P0, P1, P2, P3, P4, Hk⟩
  iapply (s_wsz m ρ K c .b 7 0 24 (by decide) rfl rfl (dg_b _ _ _)); iframe # ∗; iintro ⟨H1, H2, H3⟩
  iapply (s_wsz m ρ K c .c 1 0 24 (by decide) rfl rfl (dg_c _ _ _)); iframe # ∗; iintro ⟨H4, H5, H6⟩
  iapply (s_wsz m ρ K c .c 5 0 24 (by decide) rfl rfl (dg_c _ _ _)); iframe # ∗; iintro ⟨H7, H8, H9⟩
  iapply (s_la c); iframe # ∗; iintro %y H10
  iapply (s_sa m ρ c (kv36 m ρ c)); iframe # ∗; iintro H11
  iapply Hk; iframe

/-- The maximum to all devices. -/
theorem part37 (v2 : BitVec 32) {kk : _ → Prog (TpuEff nD τ sig (Elt F) Λ₀ .tc) α} :
    iprop(Recs m ρ K ∗ AS c 1 ∗ AT m ρ c 1 ∗ Ow c 24 ∗ AS c 2 ∗ AT m ρ c 2 ∗ AS c 3 ∗ AT m ρ c 3
        ∗ (∀ r, (AW c 1 ∗ AW c 2 ∗ AW c 3 ∗ Ow c 27) -∗ WP c (kk r) Q))
      ⊢ WP c (ap (k0_part37 (F := F)) c v2 >>= kk) Q := by
  rw [k0_part37_eq_skeleton]; unfold k0_part37_skel
  simp only [Prog.lift, Prog.bind_op, Prog.bind_ret, Prog.pure_eq_ret]
  iintro ⟨#HR, P0, P1, P2, P3, P4, P5, P6, Hk⟩
  iapply (s_am m ρ K c 1 (by decide) 24 rfl (aE7 c _ _) (aE7 c _ _) (dv25 c) rfl (sem6 c _)); iframe # ∗; iintro ⟨H1, H2⟩
  iapply (s_am m ρ K c 2 (by decide) 25 rfl (aE7 c _ _) (aE7 c _ _) (dv26 c) rfl (sem6 c _)); iframe # ∗; iintro ⟨H3, H4⟩
  iapply (s_am m ρ K c 3 (by decide) 26 rfl (aE7 c _ _) (aE7 c _ _) (dv27 c) rfl (sem6 c _)); iframe # ∗; iintro ⟨H5, H6⟩
  iapply Hk; iframe

theorem part38 (v2 : BitVec 32) {kk : _ → Prog (TpuEff nD τ sig (Elt F) Λ₀ .tc) α} :
    iprop(Recs m ρ K ∗ AS c 4 ∗ AT m ρ c 4 ∗ Ow c 27 ∗ AS c 5 ∗ AT m ρ c 5 ∗ AS c 6 ∗ AT m ρ c 6
        ∗ (∀ r, (AW c 4 ∗ AW c 5 ∗ AW c 6 ∗ Ow c 30) -∗ WP c (kk r) Q))
      ⊢ WP c (ap (k0_part38 (F := F)) c v2 >>= kk) Q := by
  rw [k0_part38_eq_skeleton]; unfold k0_part38_skel
  simp only [Prog.lift, Prog.bind_op, Prog.bind_ret, Prog.pure_eq_ret]
  iintro ⟨#HR, P0, P1, P2, P3, P4, P5, P6, Hk⟩
  iapply (s_am m ρ K c 4 (by decide) 27 rfl (aE7 c _ _) (aE7 c _ _) (dv28 c) rfl (sem6 c _)); iframe # ∗; iintro ⟨H1, H2⟩
  iapply (s_am m ρ K c 5 (by decide) 28 rfl (aE7 c _ _) (aE7 c _ _) (dv29 c) rfl (sem6 c _)); iframe # ∗; iintro ⟨H3, H4⟩
  iapply (s_am m ρ K c 6 (by decide) 29 rfl (aE7 c _ _) (aE7 c _ _) (dv30 c) rfl (sem6 c _)); iframe # ∗; iintro ⟨H5, H6⟩
  iapply Hk; iframe

theorem part39 (v2 : BitVec 32) (v1012 : BitVec 32) {kk : _ → Prog (TpuEff nD τ sig (Elt F) Λ₀ .tc) α} :
    iprop(Recs m ρ K ∗ AS c 7 ∗ AT m ρ c 7 ∗ Ow c 30 ∗ AR c (c + 1)
        ∗ (∀ r, (AW c 7 ∗ Zero c (.arcv (c + 1)) ∗ Ow c 31 ∗ AM m ρ c (c + 1) fullShare) -∗ WP c (kk r) Q))
      ⊢ WP c (ap (k0_part39 (F := F)) c v2 v1012 >>= kk) Q := by
  rw [k0_part39_eq_skeleton]; unfold k0_part39_skel
  simp only [Prog.lift, Prog.bind_op, Prog.bind_ret, Prog.pure_eq_ret]
  iintro ⟨#HR, P0, P1, P2, P3, Hk⟩
  iapply (s_am m ρ K c 7 (by decide) 30 rfl (aE7 c _ _) (aE7 c _ _) (dv31 c) rfl (sem6 c _)); iframe # ∗; iintro ⟨H1, H2⟩
  iapply (s_war m ρ K c 31 (c + 1) (ne_add c 1 (by decide)).symm (sem8 c 0 _) rfl (da _ _ _)); iframe # ∗; iintro ⟨H3, H4, H5⟩
  iapply Hk; iframe

theorem part40 (v2 : BitVec 32) {kk : _ → Prog (TpuEff nD τ sig (Elt F) Λ₀ .tc) α} :
    iprop(Recs m ρ K ∗ AR c (c + 2) ∗ Ow c 31 ∗ AR c (c + 3) ∗ AR c (c + 4)
        ∗ (∀ r, (Zero c (.arcv (c + 2)) ∗ AM m ρ c (c + 2) fullShare ∗ Zero c (.arcv (c + 3)) ∗ AM m ρ c (c + 3) fullShare ∗ Zero c (.arcv (c + 4)) ∗ Ow c 31 ∗ AM m ρ c (c + 4) fullShare) -∗ WP c (kk r) Q))
      ⊢ WP c (ap (k0_part40 (F := F)) c v2 >>= kk) Q := by
  rw [k0_part40_eq_skeleton]; unfold k0_part40_skel
  simp only [Prog.lift, Prog.bind_op, Prog.bind_ret, Prog.pure_eq_ret]
  iintro ⟨#HR, P0, P1, P2, P3, Hk⟩
  iapply (s_war m ρ K c 31 (c + 2) (ne_add c 2 (by decide)).symm (sem8 c 1 _) rfl (da _ _ _)); iframe # ∗; iintro ⟨H1, H2, H3⟩
  iapply (s_war m ρ K c 31 (c + 3) (ne_add c 3 (by decide)).symm (sem8 c 2 _) rfl (da _ _ _)); iframe # ∗; iintro ⟨H4, H5, H6⟩
  iapply (s_war m ρ K c 31 (c + 4) (ne_add c 4 (by decide)).symm (sem8 c 3 _) rfl (da _ _ _)); iframe # ∗; iintro ⟨H7, H8, H9⟩
  iapply Hk; iframe

theorem part41 (v2 : BitVec 32) {kk : _ → Prog (TpuEff nD τ sig (Elt F) Λ₀ .tc) α} :
    iprop(Recs m ρ K ∗ AR c (c + 5) ∗ Ow c 31 ∗ AR c (c + 6) ∗ AR c (c + 7)
        ∗ (∀ r, (Zero c (.arcv (c + 5)) ∗ AM m ρ c (c + 5) fullShare ∗ Zero c (.arcv (c + 6)) ∗ AM m ρ c (c + 6) fullShare ∗ Zero c (.arcv (c + 7)) ∗ Ow c 31 ∗ AM m ρ c (c + 7) fullShare) -∗ WP c (kk r) Q))
      ⊢ WP c (ap (k0_part41 (F := F)) c v2 >>= kk) Q := by
  rw [k0_part41_eq_skeleton]; unfold k0_part41_skel
  simp only [Prog.lift, Prog.bind_op, Prog.bind_ret, Prog.pure_eq_ret]
  iintro ⟨#HR, P0, P1, P2, P3, Hk⟩
  iapply (s_war m ρ K c 31 (c + 5) (ne_add c 5 (by decide)).symm (sem8 c 4 _) rfl (da _ _ _)); iframe # ∗; iintro ⟨H1, H2, H3⟩
  iapply (s_war m ρ K c 31 (c + 6) (ne_add c 6 (by decide)).symm (sem8 c 5 _) rfl (da _ _ _)); iframe # ∗; iintro ⟨H4, H5, H6⟩
  iapply (s_war m ρ K c 31 (c + 7) (ne_add c 7 (by decide)).symm (sem8 c 6 _) rfl (da _ _ _)); iframe # ∗; iintro ⟨H7, H8, H9⟩
  iapply Hk; iframe

theorem part42 {kk : _ → Prog (TpuEff nD τ sig (Elt F) Λ₀ .tc) α} :
    iprop(Recs m ρ K ∗ AW c 1 ∗ Ow c 31 ∗ AW c 2 ∗ AW c 3 ∗ AW c 4 ∗ AW c 5
        ∗ (∀ r, (Zero c (.asnd 1) ∗ AM m ρ c c (aq 1) ∗ Zero c (.asnd 2) ∗ AM m ρ c c (aq 2) ∗ Zero c (.asnd 3) ∗ AM m ρ c c (aq 3) ∗ Zero c (.asnd 4) ∗ AM m ρ c c (aq 4) ∗ Zero c (.asnd 5) ∗ Ow c 31 ∗ AM m ρ c c (aq 5)) -∗ WP c (kk r) Q))
      ⊢ WP c (ap (k0_part42 (F := F)) c >>= kk) Q := by
  rw [k0_part42_eq_skeleton]; unfold k0_part42_skel
  simp only [Prog.lift, Prog.bind_op, Prog.bind_ret, Prog.pure_eq_ret]
  iintro ⟨#HR, P0, P1, P2, P3, P4, P5, Hk⟩
  iapply (s_was m ρ K c 31 1 (by decide) rfl rfl (da _ _ _)); iframe # ∗; iintro ⟨H1, H2, H3⟩
  iapply (s_was m ρ K c 31 2 (by decide) rfl rfl (da _ _ _)); iframe # ∗; iintro ⟨H4, H5, H6⟩
  iapply (s_was m ρ K c 31 3 (by decide) rfl rfl (da _ _ _)); iframe # ∗; iintro ⟨H7, H8, H9⟩
  iapply (s_was m ρ K c 31 4 (by decide) rfl rfl (da _ _ _)); iframe # ∗; iintro ⟨H10, H11, H12⟩
  iapply (s_was m ρ K c 31 5 (by decide) rfl rfl (da _ _ _)); iframe # ∗; iintro ⟨H13, H14, H15⟩
  iapply Hk; iframe

end Parts

section Ends
variable (c : Dev nD) {α : Type} {Q : α → sProp (MT nD τ sig Unit (Elt F) ℕ UU ℕ)}

/-- The barrier: three signals that hand over the landing places, and the wait for the three partners'. -/
theorem part1 {kk : _ → Prog (TpuEff nD τ sig (Elt F) Λ₀ .tc) α} :
    iprop(Recs m ρ K ∗ (Tok (px c 1) .bar 0 1 ∗ barPay c 1) ∗ (Tok (px c 3) .bar 0 3 ∗ barPay c 3) ∗ (Tok (px c 4) .bar 0 4 ∗ barPay c 4)
        ∗ Pos c .bar 0 ∗ cred (tallyAt (cell c .bar) () 3) ∗ Ow c 0
        ∗ (∀ v2 v13, (Zero c .bar ∗ Ow c 3 ∗ barPay (px c 1) 1 ∗ barPay (px c 3) 3 ∗ barPay (px c 4) 4) -∗ WP c (kk ⟨c, v2, v13⟩) Q))
      ⊢ WP c (ap (k0_part1 (F := F)) >>= kk) Q := by
  rw [k0_part1_eq_skeleton]; unfold k0_part1_skel
  simp only [Prog.lift, Prog.bind_op, Prog.bind_ret, Prog.pure_eq_ret, semSignalWord, semWaitWord, wp_deviceId]
  iintro ⟨#HR, ⟨H1, H2⟩, ⟨H3, H4⟩, ⟨H5, H6⟩, HP, HC, HO, Hk⟩
  iapply (s_sig m ρ K c 1 0 (by decide) rfl (dv1 c)); iframe # ∗; iintro HO
  iapply (s_sig m ρ K c 3 1 (by decide) rfl (dv2 c)); iframe # ∗; iintro HO
  iapply (s_sig m ρ K c 4 2 (by decide) rfl (dv3 c)); iframe # ∗; iintro HO
  iapply (s_bar m ρ K c 3 rfl); iframe # ∗; iintro ⟨H1, H2, H3, H4, H5⟩
  iapply Hk; iframe

/-- The last waits and the quantization. The waits leave `R` of their rounds, and `hjoin` puts the pieces of the result and of the maxima together. -/
theorem part43 {kk : _ → Prog (TpuEff nD τ sig (Elt F) Λ₀ .tc) α} (X : sProp (MT nD τ sig Unit (Elt F) ℕ UU ℕ))
    (hjoin : iprop(X ∗ AM m ρ c c (aq 6) ∗ AM m ρ c c (aq 7)) ⊢ iprop(oA c (yAll m ρ c) ∗ mA m ρ c)) :
    iprop(Recs m ρ K ∗ AW c 6 ∗ AW c 7 ∗ Ow c 31 ∗ X
        ∗ (∀ r, (Zero c (.asnd 6) ∗ Zero c (.asnd 7) ∗ Ow c 31 ∗ oA c (outv m ρ c) ∗ mA m ρ c) -∗ WP c (kk r) Q))
      ⊢ WP c (ap (k0_part43 (F := F)) c >>= kk) Q := by
  rw [k0_part43_eq_skeleton]; unfold k0_part43_skel
  simp only [Prog.lift, Prog.bind_op, Prog.bind_ret, Prog.pure_eq_ret]
  iintro ⟨#HR, H1, H2, HO, HX, Hk⟩
  iapply (s_was m ρ K c 31 6 (by decide) rfl rfl (da _ _ _)); iframe # ∗; iintro ⟨Z6, HO, H6⟩
  iapply (s_was m ρ K c 31 7 (by decide) rfl rfl (da _ _ _)); iframe # ∗; iintro ⟨Z7, HO, H7⟩
  ihave HJ := hjoin $$ [HX H6 H7]
  · iframe
  icases HJ with ⟨HY, HM⟩
  iapply (s_lm m ρ c); iframe; iintro HM
  iapply (s_loA c (yAll m ρ c)); iframe; iintro HY
  iapply (s_loA c (yAll m ρ c)); iframe; iintro HY
  unfold oA
  iapply (s_sto c (yAll m ρ c) (outv m ρ c)); iframe; iintro HY
  iapply Hk; iframe

end Ends

end Cert.GatherProof
-- ==== Proof.Pieces.lean ====
/-
# The pieces the body starts from
-/
module

public import proofs.«01_k».proof.Proof.Parts3

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-- The two tokens of a send: its own cell's and the receive's. -/
noncomputable def ST (c : Dev nD) (s : Part) (v w d : Fin 8) (r : ℕ) : sProp 𝕄 := iprop(Tok c (.snd s v) r 0 ∗ Tok (px c d) (.rcv s w) 0 0)

/-- The tokens of the sends. -/
noncomputable def Sends (c : Dev nD) : sProp 𝕄 := iprop(ST c .a 0 1 1 0 ∗ ST c .b 0 3 3 0 ∗ ST c .c 0 4 4 0 ∗ ST c .a 0 3 3 1 ∗ ST c .b 0 4 4 1 ∗ ST c .c 0 1 1 1 ∗ ST c .a 1 2 3 0 ∗ ST c .b 3 7 4 0 ∗ ST c .c 4 5 1 0 ∗ ST c .a 0 4 4 2 ∗ ST c .a 1 5 4 1 ∗ ST c .b 0 1 1 2 ∗ ST c .b 3 2 1 1 ∗ ST c .c 0 3 3 2 ∗ ST c .c 4 7 3 1 ∗ ST c .a 2 6 4 0 ∗ ST c .a 3 7 4 0 ∗ ST c .b 4 5 1 0 ∗ ST c .b 7 6 1 0 ∗ ST c .c 1 2 3 0 ∗ ST c .c 5 6 3 0)
/-- What a device holds of the receives, and of the cells of its own sends. -/
noncomputable def Recvs (c : Dev nD) : sProp 𝕄 := iprop(RG c .a 1 ∗ RG c .b 3 ∗ RG c .c 4 ∗ RG c .a 3 ∗ RG c .b 4 ∗ RG c .c 1 ∗ RG c .a 2 ∗ RG c .b 7 ∗ RG c .c 5 ∗ RV c .a 4 ∗ RV c .b 1 ∗ RV c .c 3 ∗ RV c .a 5 ∗ RV c .b 2 ∗ RV c .c 7 ∗ RV c .a 6 ∗ RV c .b 5 ∗ RV c .c 2 ∗ RV c .a 7 ∗ RV c .b 6 ∗ RV c .c 6 ∗ Pos c (.snd .a 0) 0 ∗ Pos c (.snd .b 0) 0 ∗ Pos c (.snd .c 0) 0)
/-- What a device holds for the exchange of the maxima. -/
noncomputable def Maxs (c : Dev nD) : sProp 𝕄 := iprop(AS c 1 ∗ AS c 2 ∗ AS c 3 ∗ AS c 4 ∗ AS c 5 ∗ AS c 6 ∗ AS c 7 ∗ AR c (c + 1) ∗ AR c (c + 2) ∗ AR c (c + 3) ∗ AR c (c + 4) ∗ AR c (c + 5) ∗ AR c (c + 6) ∗ AR c (c + 7))
/-- What a device holds of the barrier. -/
noncomputable def Bars (c : Dev nD) : sProp 𝕄 :=
  iprop(Pos c .bar 0 ∗ cred (tallyAt (cell c .bar) () 3) ∗ Tok (px c 1) .bar 0 1 ∗ Tok (px c 3) .bar 0 3 ∗ Tok (px c 4) .bar 0 4)
/-- The buffers as the body finds them. -/
noncomputable def Mem (c : Dev nD) : sProp 𝕄 :=
  iprop(srcO m ρ c .a 0 ∗ srcO m ρ c .b 0 ∗ srcO m ρ c .c 0 ∗ xA m ρ c ∗ wA m ρ c ∗ SE c 0 ∗ SE c 1 ∗ CS c 0 ∗ CS c 1 ∗ OE c 0 ∗ OE c 1 ∗ OE c 2 ∗ OE c 3 ∗ OE c 4 ∗ OE c 5 ∗ OE c 6 ∗ OE c 7
    ∗ amE c c ∗ barPay c 1 ∗ barPay c 3 ∗ barPay c 4)
/-- The buffers as the body leaves them. -/
noncomputable def MemF (c : Dev nD) : sProp 𝕄 :=
  iprop(srcO m ρ c .a 0 ∗ srcO m ρ c .b 0 ∗ srcO m ρ c .c 0 ∗ xA m ρ c ∗ wA m ρ c ∗ SE c 0 ∗ SE c 1 ∗ CS c 0 ∗ CS c 1 ∗ oA c (outv m ρ c) ∗ mA m ρ c
    ∗ vE c .a 0 ∗ vE c .a 1 ∗ vE c .a 2 ∗ vE c .a 3 ∗ vE c .b 0 ∗ vE c .b 1 ∗ vE c .b 2 ∗ vE c .b 3 ∗ vE c .c 0 ∗ vE c .c 1 ∗ vE c .c 2 ∗ vE c .c 3)
/-- The cells the body has used, all at zero. -/
noncomputable def Zeros (c : Dev nD) : sProp 𝕄 :=
  iprop(Zero c .bar ∗ Zero c (.snd .a 0) ∗ Zero c (.snd .b 0) ∗ Zero c (.snd .c 0) ∗ Zero c (.snd .a 1) ∗ Zero c (.snd .b 3) ∗ Zero c (.snd .c 4) ∗ Zero c (.snd .a 3) ∗ Zero c (.snd .b 4) ∗ Zero c (.snd .c 1) ∗ Zero c (.snd .a 2) ∗ Zero c (.snd .b 7) ∗ Zero c (.snd .c 5) ∗ Zero c (.rcv .a 1) ∗ Zero c (.rcv .b 3) ∗ Zero c (.rcv .c 4) ∗ Zero c (.rcv .a 3) ∗ Zero c (.rcv .b 4) ∗ Zero c (.rcv .c 1) ∗ Zero c (.rcv .a 2) ∗ Zero c (.rcv .b 7) ∗ Zero c (.rcv .c 5) ∗ Zero c (.rcv .a 4) ∗ Zero c (.rcv .b 1) ∗ Zero c (.rcv .c 3) ∗ Zero c (.rcv .a 5) ∗ Zero c (.rcv .b 2) ∗ Zero c (.rcv .c 7) ∗ Zero c (.rcv .a 6) ∗ Zero c (.rcv .b 5) ∗ Zero c (.rcv .c 2) ∗ Zero c (.rcv .a 7) ∗ Zero c (.rcv .b 6) ∗ Zero c (.rcv .c 6)
    ∗ Zero c (.asnd 1) ∗ Zero c (.asnd 2) ∗ Zero c (.asnd 3) ∗ Zero c (.asnd 4) ∗ Zero c (.asnd 5) ∗ Zero c (.asnd 6) ∗ Zero c (.asnd 7) ∗ Zero c (.arcv (c + 1)) ∗ Zero c (.arcv (c + 2)) ∗ Zero c (.arcv (c + 3)) ∗ Zero c (.arcv (c + 4)) ∗ Zero c (.arcv (c + 5)) ∗ Zero c (.arcv (c + 6)) ∗ Zero c (.arcv (c + 7)))

theorem SR_eq (c : Dev nD) (s : Part) (v w d : Fin 8) (r : ℕ) : SR (F := F) c s v w d r = iprop(Tok c (.snd s v) r 0 ∗ Tok (px c d) (.rcv s w) 0 0 ∗ dstE (px c d) s w) := rfl

theorem barPay_1 (d : Dev nD) : barPay (F := F) d 1 = iprop(dstE d .a 1 ∗ dstE d .b 1 ∗ dstE d .b 2 ∗ dstE d .b 5 ∗ dstE d .b 6 ∗ dstE d .c 1 ∗ dstE d .c 5
    ∗ amE d (px d 1) ∗ amE d (px d 2) ∗ amE d (px d 5) ∗ amE d (px d 6)) := if_pos rfl
theorem barPay_3 (d : Dev nD) : barPay (F := F) d 3 = iprop(dstE d .a 2 ∗ dstE d .a 3 ∗ dstE d .b 3 ∗ dstE d .c 2 ∗ dstE d .c 3 ∗ dstE d .c 6 ∗ dstE d .c 7
    ∗ amE d (px d 3) ∗ amE d (px d 7)) := (if_neg (by decide)).trans (if_pos rfl)
theorem barPay_4 (d : Dev nD) : barPay (F := F) d 4 = iprop(dstE d .a 4 ∗ dstE d .a 5 ∗ dstE d .a 6 ∗ dstE d .a 7 ∗ dstE d .b 4 ∗ dstE d .b 7 ∗ dstE d .c 4 ∗ amE d (px d 4)) :=
  (if_neg (by decide)).trans (if_neg (by decide))
theorem ext_b3' (c : Dev nD) : ext (F := F) c .b 3 = iprop(amE (px c 2) c ∗ amE (px c 2) (px c 4)) := if_pos ⟨rfl, rfl⟩
theorem ext_c4 (c : Dev nD) : ext (F := F) c .c 4 = iprop(amE (px c 5) c ∗ amE (px c 7) c) := (if_neg (by decide)).trans (if_pos ⟨rfl, rfl⟩)
theorem ext_b7 (c : Dev nD) : ext (F := F) c .b 7 = amE (px c 6) c := (if_neg (by decide)).trans ((if_neg (by decide)).trans (if_pos ⟨rfl, rfl⟩))

theorem px_11 : px 1 1 = 0 := rfl
theorem px_12 : px 1 2 = 3 := rfl
theorem px_15 : px 1 5 = 4 := rfl
theorem px_16 : px 1 6 = 7 := rfl
theorem px_33 : px 3 3 = 0 := rfl
theorem px_37 : px 3 7 = 4 := rfl
theorem px_44 : px 4 4 = 0 := rfl
theorem px_32 : px 3 2 = 1 := rfl
theorem px_34 : px 3 4 = 7 := rfl
theorem px_45 : px 4 5 = 1 := rfl
theorem px_47 : px 4 7 = 3 := rfl
theorem px_46 : px 4 6 = 2 := rfl
theorem px_ne : ∀ c u : Fin 8, u ≠ 0 → px c u ≠ c := by decide +kernel
theorem px_inv : ∀ c u : Fin 8, px c (px c u) = u := by decide +kernel
noncomputable def adE (c : Fin 8) : Fin 8 ≃ Fin 8 := ⟨fun k => c + k, fun p => p - c, by revert c; decide +kernel, by revert c; decide +kernel⟩
attribute [local irreducible] px dstE amE Tok

/-- With what the barrier hands over, every send has its landing place. -/
theorem bar_out (c : Dev nD) : iprop(Sends (F := F) c ∗ barPay (px c 1) 1 ∗ barPay (px c 3) 3 ∗ barPay (px c 4) 4)
    ⊢ iprop(SR c .a 0 1 1 0 ∗ SR c .b 0 3 3 0 ∗ SR c .c 0 4 4 0 ∗ SR c .a 0 3 3 1 ∗ SR c .b 0 4 4 1 ∗ SR c .c 0 1 1 1 ∗ SR c .a 1 2 3 0 ∗ SR c .b 3 7 4 0 ∗ SR c .c 4 5 1 0 ∗ SR c .a 0 4 4 2 ∗ SR c .a 1 5 4 1 ∗ SR c .b 0 1 1 2 ∗ SR c .b 3 2 1 1 ∗ SR c .c 0 3 3 2 ∗ SR c .c 4 7 3 1 ∗ SR c .a 2 6 4 0 ∗ SR c .a 3 7 4 0 ∗ SR c .b 4 5 1 0 ∗ SR c .b 7 6 1 0 ∗ SR c .c 1 2 3 0 ∗ SR c .c 5 6 3 0
      ∗ amE (px c 1) c ∗ amE (px c 3) c ∗ amE (px c 4) c ∗ ext (px c 3) .b 3 ∗ ext (px c 4) .c 4) := by
  rw [barPay_1, barPay_3, barPay_4, ext_b3', ext_c4]
  unfold Sends ST
  simp only [pxx, SR_eq]
  simp only [px_11, px_12, px_15, px_16, px_33, px_37, px_44, px_32, px_34, px_45, px_47, px_zero]
  iintro ⟨⟨⟨S0, T0⟩, ⟨S1, T1⟩, ⟨S2, T2⟩, ⟨S3, T3⟩, ⟨S4, T4⟩, ⟨S5, T5⟩, ⟨S6, T6⟩, ⟨S7, T7⟩, ⟨S8, T8⟩, ⟨S9, T9⟩, ⟨S10, T10⟩, ⟨S11, T11⟩, ⟨S12, T12⟩, ⟨S13, T13⟩, ⟨S14, T14⟩, ⟨S15, T15⟩, ⟨S16, T16⟩, ⟨S17, T17⟩, ⟨S18, T18⟩, ⟨S19, T19⟩, ⟨S20, T20⟩⟩, ⟨B0, B1, B2, B3, B4, B5, B6, B7, B8, B9, B10⟩, ⟨C0, C1, C2, C3, C4, C5, C6, C7, C8⟩, ⟨D0, D1, D2, D3, D4, D5, D6, D7⟩⟩
  iframe

/-- The maxima slots that come with the receives: for the device itself, and on to the next. -/
theorem ext_b3 (c : Dev nD) : ext (F := F) c .b 3 ⊢ iprop(amE (px c 2) c ∗ ext (px c 4) .b 7) := by
  rw [ext_b3', ext_b7, pxx, px_46]

theorem ext_c4x (c : Dev nD) : ext (F := F) c .c 4 ⊢ iprop(amE (px c 5) c ∗ amE (px c 7) c) := by rw [ext_c4]
theorem ext_b7x (c : Dev nD) : ext (F := F) c .b 7 ⊢ amE (px c 6) c := by rw [ext_b7]

theorem L8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_eq_bigSepL_of_eq (l := [0, 1, 2, 3, 4, 5, 6, 7]) (by decide) (by decide)]
  simp only [bigSepL_cons_cons, bigSepL_singleton]
  rfl
/-- The directions across and the distances around name the same devices. -/
noncomputable def pxE (c : Fin 8) : Fin 8 ≃ Fin 8 := ⟨px c, px c, fun u => px_inv c u, fun u => px_inv c u⟩
/-- Slot `c` of device `p`'s maxima array, for another device. -/
noncomputable def amO (c p : Dev nD) : sProp 𝕄 := if p = c then iprop(emp) else amE p c
theorem amO_self (c : Dev nD) : amO (F := F) c c = iprop(emp) := if_pos rfl
theorem add0 : ∀ c : Dev nD, c + 0 = c := by decide +kernel
theorem amO_add0 (c : Dev nD) : amO (F := F) c (c + 0) = iprop(emp) := by rw [add0]; exact amO_self c
theorem amO_px (c u : Dev nD) (h : u ≠ 0) : amO (F := F) c (px c u) = amE (px c u) c := if_neg (px_ne c u h)
theorem amO_add (c u : Dev nD) (h : u ≠ 0) : amO (F := F) c (c + u) = amE (c + u) c := if_neg (ne_add c u h).symm
theorem amE_conv (c : Dev nD) :
    iprop(amE (F := F) (px c 1) c ∗ amE (px c 2) c ∗ amE (px c 3) c ∗ amE (px c 4) c ∗ amE (px c 5) c ∗ amE (px c 6) c ∗ amE (px c 7) c)
      ⊢ iprop(amE (c + 1) c ∗ amE (c + 2) c ∗ amE (c + 3) c ∗ amE (c + 4) c ∗ amE (c + 5) c ∗ amE (c + 6) c ∗ amE (c + 7) c) := by
  have h1 : bigSep Finset.univ (fun u => amO (F := F) c (px c u)) = bigSep Finset.univ (fun u => amO (F := F) c (c + u)) :=
    (bigSep_univ_equiv (pxE c) (amO (F := F) c)).symm.trans (bigSep_univ_equiv (adE c) (amO (F := F) c))
  rw [L8, L8, px_zero, amO_add0, amO_self] at h1
  simp only [amO_px c 1 (by decide), amO_px c 2 (by decide), amO_px c 3 (by decide), amO_px c 4 (by decide), amO_px c 5 (by decide), amO_px c 6 (by decide),
    amO_px c 7 (by decide), amO_add c 1 (by decide), amO_add c 2 (by decide), amO_add c 3 (by decide), amO_add c 4 (by decide), amO_add c 5 (by decide),
    amO_add c 6 (by decide), amO_add c 7 (by decide)] at h1
  have h2 : iprop(emp ∗ amE (F := F) (px c 1) c ∗ amE (F := F) (px c 2) c ∗ amE (F := F) (px c 3) c ∗ amE (F := F) (px c 4) c ∗ amE (F := F) (px c 5) c ∗ amE (F := F) (px c 6) c ∗ amE (F := F) (px c 7) c) ⊢ iprop(emp ∗ amE (F := F) (c + 1) c ∗ amE (F := F) (c + 2) c ∗ amE (F := F) (c + 3) c ∗ amE (F := F) (c + 4) c ∗ amE (F := F) (c + 5) c ∗ amE (F := F) (c + 6) c ∗ amE (F := F) (c + 7) c) := by rw [h1]
  iintro ⟨H1, H2, H3, H4, H5, H6, H7⟩
  ihave H := h2 $$ [H1 H2 H3 H4 H5 H6 H7]
  · iframe
  icases H with ⟨-, H⟩
  iexact H

theorem AM_halves (c p : Dev nD) (q : PosShare TreeShare) : AM m ρ c p q ⊣⊢ iprop(AM m ρ c p q.left ∗ AM m ρ c p q.right) := owns_halves (Val := Elt F) (c : Thread nD τ) (aP p) q (amS m ρ p)
/-- The device's own maximum in eight shares. -/
theorem AM_split (c p : Dev nD) : AM m ρ c p fullShare ⊢ iprop(AM m ρ c p (aq 0) ∗ AM m ρ c p (aq 1) ∗ AM m ρ c p (aq 2) ∗ AM m ρ c p (aq 3) ∗ AM m ρ c p (aq 4) ∗ AM m ρ c p (aq 5) ∗ AM m ρ c p (aq 6) ∗ AM m ρ c p (aq 7)) := by
  iintro H
  ihave H := (AM_halves m ρ c p _).1 $$ H
  icases H with ⟨H, G⟩
  ihave H := (AM_halves m ρ c p _).1 $$ H
  icases H with ⟨H, H'⟩
  ihave G := (AM_halves m ρ c p _).1 $$ G
  icases G with ⟨G, G'⟩
  ihave H := (AM_halves m ρ c p _).1 $$ H
  ihave H' := (AM_halves m ρ c p _).1 $$ H'
  ihave G := (AM_halves m ρ c p _).1 $$ G
  ihave G' := (AM_halves m ρ c p _).1 $$ G'
  icases H with ⟨H0, H1⟩; icases H' with ⟨H2, H3⟩; icases G with ⟨H4, H5⟩; icases G' with ⟨H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7
theorem AM_join (c p : Dev nD) : iprop(AM m ρ c p (aq 0) ∗ AM m ρ c p (aq 1) ∗ AM m ρ c p (aq 2) ∗ AM m ρ c p (aq 3) ∗ AM m ρ c p (aq 4) ∗ AM m ρ c p (aq 5) ∗ AM m ρ c p (aq 6) ∗ AM m ρ c p (aq 7)) ⊢ AM m ρ c p fullShare := by
  iintro ⟨H0, H1, H2, H3, H4, H5, H6, H7⟩
  iapply (AM_halves m ρ c p fullShare).2
  isplitl [H0 H1 H2 H3]
  · iapply (AM_halves m ρ c p fullShare.left).2
    isplitl [H0 H1]
    · iapply (AM_halves m ρ c p fullShare.left.left).2
      isplitl [H0]; · iexact H0
      iexact H1
    iapply (AM_halves m ρ c p fullShare.left.right).2
    isplitl [H2]; · iexact H2
    iexact H3
  iapply (AM_halves m ρ c p fullShare.right).2
  isplitl [H4 H5]
  · iapply (AM_halves m ρ c p fullShare.right.left).2
    isplitl [H4]; · iexact H4
    iexact H5
  iapply (AM_halves m ρ c p fullShare.right.right).2
  isplitl [H6]; · iexact H6
  iexact H7

end Cert.GatherProof
-- ==== Proof.Body.lean ====
/-
# The body
-/
module

public import proofs.«01_k».proof.Proof.Pieces

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-- The pieces of the result and the maxima, before the last two shares come back. -/
noncomputable def Last (c : Dev nD) : sProp 𝕄 := iprop(OB c 0 (yv m ρ c 0) ∗ OB c 1 (y3 m ρ c 1) ∗ OB c 2 (y3 m ρ c 2) ∗ OB c 3 (y3 m ρ c 3) ∗ OB c 4 (y3 m ρ c 4) ∗ OB c 5 (y3 m ρ c 5) ∗ OB c 6 (y3 m ρ c 6) ∗ OB c 7 (y3 m ρ c 7) ∗ AM m ρ c (c + 1) fullShare ∗ AM m ρ c (c + 2) fullShare ∗ AM m ρ c (c + 3) fullShare ∗ AM m ρ c (c + 4) fullShare ∗ AM m ρ c (c + 5) fullShare ∗ AM m ρ c (c + 6) fullShare ∗ AM m ρ c (c + 7) fullShare ∗ AM m ρ c c (aq 0) ∗ AM m ρ c c (aq 1) ∗ AM m ρ c c (aq 2) ∗ AM m ρ c c (aq 3) ∗ AM m ρ c c (aq 4) ∗ AM m ρ c c (aq 5))

attribute [local irreducible] px SR SS SW RG RV AS AR AW AT AM amE Tok Pos Cred Ow Zero gL vG vE OB OE wA xA SE CS SG sRem Fly srcO ext

set_option maxHeartbeats 2000000 in
/-- The body, from its pieces to the buffers at their final contents and every semaphore it used at zero. -/
theorem body_run (c : Dev nD) {Q : PUnit → sProp (MT nD τ sig Unit (Elt F) ℕ UU ℕ)}
    (hjoin : iprop(Last m ρ c ∗ AM m ρ c c (aq 6) ∗ AM m ρ c c (aq 7)) ⊢ iprop(oA c (yAll m ρ c) ∗ mA m ρ c)) :
    iprop(Recs m ρ K ∗ Sends c ∗ Recvs c ∗ Maxs c ∗ Bars c ∗ Mem m ρ c ∗ Ow c 0 ∗ ((Zeros c ∗ MemF m ρ c ∗ Ow c 31) -∗ Q ⟨⟩))
      ⊢ WP c (ap (cc0_body (F := F))) Q := by
  rw [cc0_body_eq_skeleton]; unfold cc0_body_skel
  unfold Recvs Maxs Bars Mem
  iintro ⟨#HR, HS, ⟨H1, H2, H3, H4, H5, H6, H7, H8, H9, H10, H11, H12, H13, H14, H15, H16, H17, H18, H19, H20, H21, HP1, HP2, HP3⟩,
    ⟨H22, H23, H24, H25, H26, H27, H28, H29, H30, H31, H32, H33, H34, H35⟩,
    ⟨HB1, HB2, HB3, HB4, HB5⟩, ⟨H36, H37, H38, H39, H40, H41, H42, H43, H44, H45, H46, H47, H48, H49, H50, H51, H52, H53, HC1, HC3, HC4⟩, HO, Hk⟩
  iapply (part1 m ρ K c); iframe # ∗; iintro %v2 %v13 ⟨HZ, HO, HD1, HD3, HD4⟩
  ihave HB := (bar_out c) $$ [HS HD1 HD3 HD4]
  · iframe
  icases HB with ⟨H255, H256, H257, H258, H259, H260, H261, H262, H263, H264, H265, H266, H267, H268, H269, H270, H271, H272, H273, H274, H275, HA1, HA3, HA4, H276, H277⟩
  ihave H278 : SS m ρ c .a 0 0 $$ [HP1 H36]
  · unfold SS; iframe
  ihave H279 : SS m ρ c .b 0 0 $$ [HP2 H37]
  · unfold SS; iframe
  ihave H280 : SS m ρ c .c 0 0 $$ [HP3 H38]
  · unfold SS; iframe
  iapply (part2 m ρ K c _); iframe # ∗
  iintro %r; obtain ⟨v26, v39⟩ := r; iintro ⟨H281, H282, H283, HO⟩
  iapply (part3 m ρ K c _); iframe # ∗
  iintro ⟨H39, H40, H284, H285, H286, HO⟩
  iapply (part4 m ρ K c _); iframe # ∗
  iintro %r; obtain ⟨v78, v91, v104⟩ := r; iintro ⟨H287, H288, H289, HO⟩
  iapply (part5 m ρ K c _ _ _ _); iframe # ∗
  iintro %u5 ⟨H290, H291, H292, H293, H294, HO, H295, H296, H297⟩
  ihave HX := (ext_b3 c) $$ H297
  icases HX with ⟨HA2, H298⟩
  iapply (part6 m ρ K c _ _); iframe # ∗
  iintro %r; obtain ⟨v135, v150⟩ := r; iintro ⟨H299, H300, H301, H302, H303, HO⟩
  ihave HX := (ext_c4x c) $$ H302
  icases HX with ⟨HA5, HA7⟩
  iapply (part7 m ρ K c _ _); iframe # ∗
  iintro %r; obtain ⟨v165, v3⟩ := r; iintro ⟨H304, H305, HO, H306⟩
  iapply (part8 m ρ K c _ _); iframe # ∗
  iintro %u8 ⟨H307, H43, HO, H41, H40, H308⟩
  iapply (part9 m ρ K c _); iframe # ∗
  iintro ⟨H44, H42, H309, H43, HO, H41, H40⟩
  iapply (part10 m ρ K c _); iframe # ∗
  iintro %u10 ⟨H310, H311, H312, H313, HO⟩
  iapply (part11 m ρ K c _); iframe # ∗
  iintro %v273 ⟨H314, H315, H316, H317, HO⟩
  iapply (part12 m ρ K c _ _); iframe # ∗
  iintro %v294 ⟨H318, H319, HO⟩
  iapply (part13 m ρ K c _ _); iframe # ∗
  iintro %r; obtain ⟨v315, v336, v0⟩ := r; iintro ⟨H320, H321, H322, HO⟩
  iapply (part14 m ρ K c _ _ _ _ _ _); iframe # ∗
  iintro %r; obtain ⟨v360, v0'⟩ := r; iintro ⟨H323, H324, H325, H326, H327, H328, H329, H330, H331, H332, HO, H333, H334⟩
  iapply (part15 m ρ K c _ _ _ _); iframe # ∗
  iintro %v372 ⟨H335, H336, H337, H338, H339, H340, H341, H342, HO⟩
  ihave HA6 := (ext_b7x c) $$ H338
  iapply (part16 m ρ K c _ _); iframe # ∗
  iintro %v395 ⟨H343, H344, HO⟩
  iapply (part17 m ρ K c _); iframe # ∗
  iintro %r; obtain ⟨v418, v2'⟩ := r; iintro ⟨H345, H346, H347, HO⟩
  iapply (part18 m ρ K c _ _); iframe # ∗
  iintro ⟨H348, H43, HO, H41, H40⟩
  iapply (part19 m ρ K c _); iframe # ∗
  iintro %r; obtain ⟨v498, v512⟩ := r; iintro ⟨H349, H350, H44, HO, H42, H40, H351⟩
  iapply (part20 m ρ K c _ _ _); iframe # ∗
  iintro %u ⟨H352, H43, HO, H41, H40, H353⟩
  iapply (part21 m ρ K c _); iframe # ∗
  iintro %u ⟨H354, HO, H40, H355, H356⟩
  iapply (part22 m ρ K c _); iframe # ∗
  iintro ⟨H43, H41, H357, H44, HO, H42, H40⟩
  iapply (part23 m ρ K c _ _); iframe # ∗
  iintro ⟨H358, H359, HO, H360, H40, H361⟩
  iapply (part24 m ρ K c _ _); iframe # ∗
  iintro ⟨H362, HO, H363, H40, H364⟩
  iapply (part25 m ρ K c _ _ _); iframe # ∗
  iintro %v669 ⟨H365, HO, H366, H40, H367⟩
  iapply (part26 m ρ K c _ _ _); iframe # ∗
  iintro %u ⟨H368, HO, H369, H40, H370⟩
  iapply (part27 m ρ K c _ _); iframe # ∗
  iintro ⟨H371, H372, H373, H374, HO, H375, H40⟩
  iapply (part28 m ρ K c _ _); iframe # ∗
  iintro %u ⟨H376, H377, HO, H378, H40, H379⟩
  iapply (part29 m ρ K c _ _); iframe # ∗
  iintro %v1 ⟨H380, HO, H381, H40, H382⟩
  iapply (part30 m ρ K c _ _ _ _); iframe # ∗
  iintro ⟨H383, HO, H384, H40, H385⟩
  iapply (part31 m ρ K c _ _); iframe # ∗
  iintro ⟨H386, HO, H387, H40, H388⟩
  iapply (part32 m ρ K c _ _); iframe # ∗
  iintro ⟨H389, H390, H391, H392, HO, H393, H40⟩
  iapply (part33 m ρ K c _); iframe # ∗
  iintro ⟨H394, H395, H36, H396, HO⟩
  iapply (part34 m ρ K c); iframe # ∗
  iintro %u ⟨H397, H37, H398, H399, H38, H400, HO⟩
  iapply (part35 m ρ K c); iframe # ∗
  iintro %u ⟨H401, H402, H403, HO⟩
  iapply (part36 m ρ K c _); iframe # ∗
  iintro %u ⟨H404, H405, H406, HO, H407⟩
  ihave HE := (amE_conv c) $$ [HA1 HA2 HA3 HA4 HA5 HA6 HA7]
  · iframe
  icases HE with ⟨HE1, HE2, HE3, HE4, HE5, HE6, HE7⟩
  ihave HQ := (AM_split m ρ c c) $$ H407
  icases HQ with ⟨HQ0, HQ1, HQ2, HQ3, HQ4, HQ5, HQ6, HQ7⟩
  ihave H408 : AT m ρ c 1 $$ [HQ1 HE1]
  · unfold AT; iframe
  ihave H409 : AT m ρ c 2 $$ [HQ2 HE2]
  · unfold AT; iframe
  ihave H410 : AT m ρ c 3 $$ [HQ3 HE3]
  · unfold AT; iframe
  ihave H411 : AT m ρ c 4 $$ [HQ4 HE4]
  · unfold AT; iframe
  ihave H412 : AT m ρ c 5 $$ [HQ5 HE5]
  · unfold AT; iframe
  ihave H413 : AT m ρ c 6 $$ [HQ6 HE6]
  · unfold AT; iframe
  ihave H414 : AT m ρ c 7 $$ [HQ7 HE7]
  · unfold AT; iframe
  iapply (part37 m ρ K c _); iframe # ∗
  iintro %u ⟨H415, H416, H417, HO⟩
  iapply (part38 m ρ K c _); iframe # ∗
  iintro %v1012 ⟨H418, H419, H420, HO⟩
  iapply (part39 m ρ K c _ _); iframe # ∗
  iintro %u ⟨H421, H422, HO, H423⟩
  iapply (part40 m ρ K c _); iframe # ∗
  iintro %u ⟨H424, H425, H426, H427, H428, HO, H429⟩
  iapply (part41 m ρ K c _); iframe # ∗
  iintro %u ⟨H430, H431, H432, H433, H434, HO, H435⟩
  iapply (part42 m ρ K c); iframe # ∗
  iintro %u ⟨H436, H437, H438, H439, H440, H441, H442, H443, H444, HO, H445⟩
  ihave HL : Last m ρ c $$ [H284 H364 H385 H367 H361 H382 H394 H388 H423 H425 H427 H429 H431 H433 H435 HQ0 H437 H439 H441 H443 H445]
  · unfold Last; iframe
  iapply (part43 m ρ K c (Last m ρ c) hjoin); iframe # ∗; iintro %u ⟨HZ6, HZ7, HO, HY, HM⟩
  simp only [Prog.pure_eq_ret]; unfold WP; rw [wp_ret]; imodintro
  iapply Hk
  unfold Zeros MemF
  iframe

end Cert.GatherProof
-- ==== Proof.Mem.lean ====
/-
# The buffers in pieces
-/
module

public import proofs.«01_k».proof.Proof.Pieces
public import Idealize.ShloMosaic.Lib.ViewIndex

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## Cutting a buffer into disjoint pieces and a rest -/

section Cut
variable {ℓ : Loc nD τ sig} {T : Type} [Fintype T] [DecidableEq T] (Ks : T → Finset (Idx ℓ)) (hd : ∀ t t', t ≠ t' → Disjoint (Ks t) (Ks t'))

include hd in
theorem cut (f : Buf (Elt F) ℓ) : ((ℓ ↦{fullShare} f) : sProp 𝕄)
    ⊢ iprop((bigSep Finset.univ fun t => iprop(∃ g, ℓ ↦[Ks t]{fullShare} g)) ∗ ∃ g, ℓ ↦[Finset.univ \ Finset.univ.biUnion Ks]{fullShare} g) := by
  refine (pointsTo_split_subset (Finset.subset_univ (Finset.univ.biUnion Ks))).1.trans ?_
  rw [pointsTo_biUnion Finset.univ Ks fun t _ t' _ h => hd t t' h]
  have h (S : Finset (Idx ℓ)) : ((ℓ ↦[S]{fullShare} f) : sProp 𝕄) ⊢ iprop(∃ g, ℓ ↦[S]{fullShare} g) := by iintro H; iexists f; iexact H
  exact BI.sep_mono (bigSep_mono fun t _ => h (Ks t)) (h _)
include hd in
theorem uncut : (iprop((bigSep Finset.univ fun t => iprop(∃ g, ℓ ↦[Ks t]{fullShare} g)) ∗ ∃ g, ℓ ↦[Finset.univ \ Finset.univ.biUnion Ks]{fullShare} g) : sProp 𝕄)
    ⊢ iprop(∃ g : Buf (Elt F) ℓ, ℓ ↦{fullShare} g) := by
  iintro ⟨H, ⟨%g, Hr⟩⟩
  ihave H := (BI.bigSep_exists_pi Finset.univ (fun (t : T) (g : Buf (Elt F) ℓ) => (ℓ ↦[Ks t]{fullShare} g : sProp 𝕄))) $$ H
  icases H with ⟨%gs, H⟩
  ihave H := (pointsTo_biUnion_join Finset.univ Ks gs g fun t _ t' _ h => hd t t' h) $$ H
  icases H with ⟨%g', -, H⟩
  iexists _
  iapply (pointsTo_join_subset (Finset.subset_univ (Finset.univ.biUnion Ks))) $$ [H Hr]
  isplitl [H]; · iexact H
  iexact Hr
end Cut

theorem L3 (Φ : Part → sProp 𝕄) : bigSep Finset.univ Φ = iprop(Φ .a ∗ Φ .b ∗ Φ .c) := by
  rw [bigSep_eq_bigSepL_of_eq (l := [.a, .b, .c]) (by decide) (by decide)]
  simp only [bigSepL_cons_cons, bigSepL_singleton]
  rfl
theorem L4 (Φ : Fin 4 → sProp 𝕄) : bigSep Finset.univ Φ = iprop(Φ 0 ∗ Φ 1 ∗ Φ 2 ∗ Φ 3) := by
  rw [bigSep_eq_bigSepL_of_eq (l := [0, 1, 2, 3]) (by decide) (by decide)]
  simp only [bigSepL_cons_cons, bigSepL_singleton]
  rfl
theorem L2 (Φ : Fin 2 → sProp 𝕄) : bigSep Finset.univ Φ = iprop(Φ 0 ∗ Φ 1) := by
  rw [bigSep_eq_bigSepL_of_eq (l := [0, 1]) (by decide) (by decide)]
  simp only [bigSepL_cons_cons, bigSepL_singleton]
  rfl

/-! ## The landing slots -/

noncomputable def vK (t : Part × Fin 4) : Finset (vM : Memref sig .tc .vmem S3x4x512x1408 .f32).view.ty.Idx := (vM.view.slice (vR t.2 t.1)).set
theorem vK_disj : ∀ t t' : Part × Fin 4, t ≠ t' → Disjoint (vK t) (vK t') := by
  rintro ⟨s, j⟩ ⟨s', j'⟩ h
  unfold vK
  refine View.disjoint_slice ?_
  have hj (e : s = s') : j.val + 1 ≤ j'.val ∨ j'.val + 1 ≤ j.val := by
    have : j ≠ j' := fun e' => h (by rw [e, e'])
    have := Fin.val_ne_of_ne this
    omega
  cases s <;> cases s' <;> first
    | exact Rect.unit_disjoint 1 (hj rfl)
    | exact Rect.unit_disjoint 0 (.inl (show (0 : ℕ) + 1 ≤ 1 from by decide))
    | exact Rect.unit_disjoint 0 (.inl (show (0 : ℕ) + 1 ≤ 2 from by decide))
    | exact Rect.unit_disjoint 0 (.inl (show (1 : ℕ) + 1 ≤ 2 from by decide))
    | exact Rect.unit_disjoint 0 (.inr (show (0 : ℕ) + 1 ≤ 1 from by decide))
    | exact Rect.unit_disjoint 0 (.inr (show (0 : ℕ) + 1 ≤ 2 from by decide))
    | exact Rect.unit_disjoint 0 (.inr (show (1 : ℕ) + 1 ≤ 2 from by decide))
theorem vE_of (c : Dev nD) (j : Fin 4) : ∀ s : Part, (iprop(∃ g, vM.view.loc (c : Thread nD τ) ↦[vK (s, j)]{fullShare} g) : sProp 𝕄) ⊢ vE c s j
  | .a => by
    have e : (vP j .a).view.set = vK (.a, j) := View.set_reshape _ _
    unfold vE; rw [← e]
    iintro ⟨%g, H⟩; iexists _; iapply (owns_intro (c : Thread nD τ) (vP j .a) fullShare g); iexact H
  | .b => by
    have e : (vP j .b).view.set = vK (.b, j) := View.set_reshape _ _
    unfold vE; rw [← e]
    iintro ⟨%g, H⟩; iexists _; iapply (owns_intro (c : Thread nD τ) (vP j .b) fullShare g); iexact H
  | .c => by
    have e : (vP j .c).view.set = vK (.c, j) := View.set_reshape _ _
    unfold vE; rw [← e]
    iintro ⟨%g, H⟩; iexists _; iapply (owns_intro (c : Thread nD τ) (vP j .c) fullShare g); iexact H
theorem vE_to (c : Dev nD) (j : Fin 4) : ∀ s : Part, vE c s j ⊢ (iprop(∃ g, vM.view.loc (c : Thread nD τ) ↦[vK (s, j)]{fullShare} g) : sProp 𝕄)
  | .a => by
    have e : (vP j .a).view.set = vK (.a, j) := View.set_reshape _ _
    unfold vE owns; rw [← e]
    iintro ⟨%Y, ⟨%g, -, H⟩⟩; iexists g; iexact H
  | .b => by
    have e : (vP j .b).view.set = vK (.b, j) := View.set_reshape _ _
    unfold vE owns; rw [← e]
    iintro ⟨%Y, ⟨%g, -, H⟩⟩; iexists g; iexact H
  | .c => by
    have e : (vP j .c).view.set = vK (.c, j) := View.set_reshape _ _
    unfold vE owns; rw [← e]
    iintro ⟨%Y, ⟨%g, -, H⟩⟩; iexists g; iexact H
theorem vE_all (c : Dev nD) : (bigSep Finset.univ fun t : Part × Fin 4 => (iprop(∃ g, vM.view.loc (c : Thread nD τ) ↦[vK t]{fullShare} g) : sProp 𝕄))
    ⊢ bigSep Finset.univ fun t : Part × Fin 4 => vE (F := F) c t.1 t.2 := bigSep_mono fun t _ => vE_of c t.2 t.1
theorem vE_back (c : Dev nD) : (bigSep Finset.univ fun t : Part × Fin 4 => vE (F := F) c t.1 t.2)
    ⊢ bigSep Finset.univ fun t : Part × Fin 4 => (iprop(∃ g, vM.view.loc (c : Thread nD τ) ↦[vK t]{fullShare} g) : sProp 𝕄) := bigSep_mono fun t _ => vE_to c t.2 t.1
/-- What the landing slots leave of their buffer. -/
noncomputable def vRem (c : Dev nD) : sProp 𝕄 := iprop(∃ g, vM.view.loc (c : Thread nD τ) ↦[Finset.univ \ Finset.univ.biUnion vK]{fullShare} g)
theorem v_cut (c : Dev nD) : (iprop(∃ f, vM.view.loc (c : Thread nD τ) ↦{fullShare} f) : sProp 𝕄)
    ⊢ iprop((vE (F := F) c .a 0 ∗ vE (F := F) c .a 1 ∗ vE (F := F) c .a 2 ∗ vE (F := F) c .a 3 ∗ vE (F := F) c .b 0 ∗ vE (F := F) c .b 1 ∗ vE (F := F) c .b 2 ∗ vE (F := F) c .b 3 ∗ vE (F := F) c .c 0 ∗ vE (F := F) c .c 1 ∗ vE (F := F) c .c 2 ∗ vE (F := F) c .c 3) ∗ vRem c) := by
  iintro ⟨%f, H⟩
  ihave H := (cut (ℓ := vM.view.loc (c : Thread nD τ)) vK vK_disj f) $$ H
  unfold vRem
  icases H with ⟨H, Hr⟩
  isplitl [H]
  · ihave H := (vE_all c) $$ H
    simp only [bigSep_univ_prod, L3, L4]
    icases H with ⟨⟨H1, H2, H3, H4⟩, ⟨H5, H6, H7, H8⟩, ⟨H9, H10, H11, H12⟩⟩
    iframe
  iexact Hr
theorem v_uncut (c : Dev nD) : iprop((vE (F := F) c .a 0 ∗ vE (F := F) c .a 1 ∗ vE (F := F) c .a 2 ∗ vE (F := F) c .a 3 ∗ vE (F := F) c .b 0 ∗ vE (F := F) c .b 1 ∗ vE (F := F) c .b 2 ∗ vE (F := F) c .b 3 ∗ vE (F := F) c .c 0 ∗ vE (F := F) c .c 1 ∗ vE (F := F) c .c 2 ∗ vE (F := F) c .c 3) ∗ vRem c)
    ⊢ (iprop(∃ f, vM.view.loc (c : Thread nD τ) ↦{fullShare} f) : sProp 𝕄) := by
  have e := vE_back (F := F) c
  rw [show (bigSep Finset.univ fun t : Part × Fin 4 => vE (F := F) c t.1 t.2) = _ from bigSep_univ_prod _] at e
  simp only [L3, L4] at e
  unfold vRem
  iintro ⟨⟨H1, H2, H3, H4, H5, H6, H7, H8, H9, H10, H11, H12⟩, Hr⟩
  iapply (uncut (ℓ := vM.view.loc (c : Thread nD τ)) vK vK_disj) $$ [H1 H2 H3 H4 H5 H6 H7 H8 H9 H10 H11 H12 Hr]
  isplitr [Hr]
  · iapply e $$ [H1 H2 H3 H4 H5 H6 H7 H8 H9 H10 H11 H12]
    iframe
  iexact Hr

/-! ## The staging slots -/

noncomputable def sK (j : Fin 2) : Finset (sM : Memref sig .tc .vmem S2x512x1408 .f32).view.ty.Idx := (sM.view.slice (sR j .a)).set
theorem sK_disj : ∀ t t' : Fin 2, t ≠ t' → Disjoint (sK t) (sK t') := fun j j' h => by
  unfold sK
  refine View.disjoint_slice (Rect.unit_disjoint 0 ?_)
  have := Fin.val_ne_of_ne h
  show j.val + 1 ≤ j'.val ∨ j'.val + 1 ≤ j.val
  omega
theorem SE_eq (c : Dev nD) (j : Fin 2) : SE (F := F) c j = iprop(∃ g, sM.view.loc (c : Thread nD τ) ↦[sK j]{fullShare} g) := by
  have e : (sP j .a).view.set = sK j := View.set_reshape _ _
  unfold SE; rw [e]
noncomputable def stRem (c : Dev nD) : sProp 𝕄 := iprop(∃ g, sM.view.loc (c : Thread nD τ) ↦[Finset.univ \ Finset.univ.biUnion sK]{fullShare} g)
theorem s_cut (c : Dev nD) : (iprop(∃ f, sM.view.loc (c : Thread nD τ) ↦{fullShare} f) : sProp 𝕄) ⊢ iprop((SE c 0 ∗ SE c 1) ∗ stRem c) := by
  iintro ⟨%f, H⟩
  ihave H := (cut (ℓ := sM.view.loc (c : Thread nD τ)) sK sK_disj f) $$ H
  rw [SE_eq, SE_eq, ← L2 (fun j => iprop(∃ g, sM.view.loc (c : Thread nD τ) ↦[sK j]{fullShare} g))]
  unfold stRem
  iexact H
theorem s_uncut (c : Dev nD) : iprop((SE c 0 ∗ SE c 1) ∗ stRem c) ⊢ (iprop(∃ f, sM.view.loc (c : Thread nD τ) ↦{fullShare} f) : sProp 𝕄) := by
  rw [SE_eq, SE_eq, ← L2 (fun j => iprop(∃ g, sM.view.loc (c : Thread nD τ) ↦[sK j]{fullShare} g))]
  unfold stRem
  exact uncut (ℓ := sM.view.loc (c : Thread nD τ)) sK sK_disj

/-! ## The maxima array -/

noncomputable def aK (p : Fin 8) : Finset (aM : Memref sig .tc .vmem S8x8x128 .f32).view.ty.Idx := (aM.view.slice (aR p)).set
theorem aR_disj : ∀ t t' : Fin 8, t ≠ t' → Disjoint (aR t).set (aR t').set := fun j j' h => Rect.unit_disjoint 0 (by
  have := Fin.val_ne_of_ne h
  show j.val + 1 ≤ j'.val ∨ j'.val + 1 ≤ j.val
  omega)
theorem aK_disj (t t' : Fin 8) (h : t ≠ t') : Disjoint (aK t) (aK t') := View.disjoint_slice (aR_disj t t' h)
theorem amE_of (c : Dev nD) (p : Fin 8) : (iprop(∃ g, aM.view.loc (c : Thread nD τ) ↦[aK p]{fullShare} g) : sProp 𝕄) ⊢ amE c p := by
  have e : (aP p).view.set = aK p := View.set_reshape _ _
  unfold amE; rw [← e]
  iintro ⟨%g, H⟩; iexists _; iapply (owns_intro (c : Thread nD τ) (aP p) fullShare g); iexact H
theorem amE_all (c : Dev nD) : (bigSep Finset.univ fun p : Fin 8 => (iprop(∃ g, aM.view.loc (c : Thread nD τ) ↦[aK p]{fullShare} g) : sProp 𝕄))
    ⊢ bigSep Finset.univ fun p : Fin 8 => amE (F := F) c p := bigSep_mono fun p _ => amE_of c p
theorem a_cut (c : Dev nD) : (iprop(∃ f, aM.view.loc (c : Thread nD τ) ↦{fullShare} f) : sProp 𝕄)
    ⊢ iprop(amE c c ∗ amE c (px c 1) ∗ amE c (px c 2) ∗ amE c (px c 3) ∗ amE c (px c 4) ∗ amE c (px c 5) ∗ amE c (px c 6) ∗ amE c (px c 7)) := by
  have e : bigSep Finset.univ (fun p : Fin 8 => amE (F := F) c p) = iprop(amE c c ∗ amE c (px c 1) ∗ amE c (px c 2) ∗ amE c (px c 3) ∗ amE c (px c 4) ∗ amE c (px c 5) ∗ amE c (px c 6) ∗ amE c (px c 7)) := by
    rw [bigSep_univ_equiv (pxE c) (fun p : Fin 8 => amE (F := F) c p)]
    show bigSep Finset.univ (fun u => amE c (px c u)) = _
    rw [L8, px_zero]
  rw [← e]
  iintro ⟨%f, H⟩
  ihave H := (cut (ℓ := aM.view.loc (c : Thread nD τ)) aK aK_disj f) $$ H
  icases H with ⟨H, -⟩
  iapply (amE_all c) $$ H

/-! ## The gathered array -/

noncomputable def gK (t : Fin 8 × Part) : Finset (gM : Memref sig .tc .hbm S4096x4096 .f32).view.ty.Idx := (gM.view.slice (gR t.1 t.2)).set
theorem gK_disj : ∀ t t' : Fin 8 × Part, t ≠ t' → Disjoint (gK t) (gK t') := by
  rintro ⟨b, s⟩ ⟨b', s'⟩ h
  unfold gK
  refine View.disjoint_slice ?_
  have hb (e : s = s') : 512 * b.val + 512 ≤ 512 * b'.val ∨ 512 * b'.val + 512 ≤ 512 * b.val := by
    have : b ≠ b' := fun e' => h (by rw [e, e'])
    have := Fin.val_ne_of_ne this
    omega
  cases s <;> cases s' <;> first
    | exact Rect.unit_disjoint 0 (hb rfl)
    | exact Rect.unit_disjoint 1 (.inl (show (0 : ℕ) + 1408 ≤ 1408 from by decide))
    | exact Rect.unit_disjoint 1 (.inl (show (0 : ℕ) + 1408 ≤ 2816 from by decide))
    | exact Rect.unit_disjoint 1 (.inl (show (1408 : ℕ) + 1408 ≤ 2816 from by decide))
    | exact Rect.unit_disjoint 1 (.inr (show (0 : ℕ) + 1408 ≤ 1408 from by decide))
    | exact Rect.unit_disjoint 1 (.inr (show (0 : ℕ) + 1408 ≤ 2816 from by decide))
    | exact Rect.unit_disjoint 1 (.inr (show (1408 : ℕ) + 1408 ≤ 2816 from by decide))
theorem dstE_g (c : Dev nD) (w : Fin 8) : ∀ (s : Part) (_ : tOf s w ≠ 2), (iprop(∃ g, gM.view.loc (c : Thread nD τ) ↦[gK (px c w, s)]{fullShare} g) : sProp 𝕄) ⊢ dstE c s w
  | .a, h => by
    unfold dstE; simp only [dst_g c .a w h]
    iintro ⟨%g, H⟩; iexists _; iapply (owns_intro (c : Thread nD τ) (gP (px c w) .a) fullShare g); iexact H
  | .b, h => by
    unfold dstE; simp only [dst_g c .b w h]
    iintro ⟨%g, H⟩; iexists _; iapply (owns_intro (c : Thread nD τ) (gP (px c w) .b) fullShare g); iexact H
  | .c, h => by
    unfold dstE; simp only [dst_g c .c w h]
    iintro ⟨%g, H⟩; iexists _; iapply (owns_intro (c : Thread nD τ) (gP (px c w) .c) fullShare g); iexact H
theorem dstE_v (c : Dev nD) (s : Part) (w : Fin 8) (j : Fin 4) (h : tOf s w = 2 ∧ slotOf s w = j) : vE (F := F) c s j ⊢ dstE c s w := by
  unfold vE dstE; simp only [dst_v c s w j h]; exact BI.Entails.refl _
theorem g_all (c : Dev nD) : (bigSep Finset.univ fun t : Fin 8 × Part => (iprop(∃ g, gM.view.loc (c : Thread nD τ) ↦[gK t]{fullShare} g) : sProp 𝕄))
    ⊢ bigSep Finset.univ fun w : Fin 8 => bigSep Finset.univ fun s : Part => (iprop(∃ g, gM.view.loc (c : Thread nD τ) ↦[gK (px c w, s)]{fullShare} g) : sProp 𝕄) := by
  rw [bigSep_univ_prod, bigSep_univ_equiv (pxE c)]
  exact BI.Entails.refl _
theorem g_cut (c : Dev nD) : (iprop(∃ f, gM.view.loc (c : Thread nD τ) ↦{fullShare} f) : sProp 𝕄)
    ⊢ iprop(dstE c .a 1 ∗ dstE c .a 2 ∗ dstE c .a 3 ∗ dstE c .b 3 ∗ dstE c .b 4 ∗ dstE c .b 7 ∗ dstE c .c 1 ∗ dstE c .c 4 ∗ dstE c .c 5) := by
  iintro ⟨%f, H⟩
  ihave H := (cut (ℓ := gM.view.loc (c : Thread nD τ)) gK gK_disj f) $$ H
  icases H with ⟨H, -⟩
  have e := g_all (F := F) c
  rw [L8, L3, L3, L3, L3, L3, L3, L3, L3] at e
  ihave H := e $$ H
  icases H with ⟨-, ⟨A1, -, C1⟩, ⟨A2, -, -⟩, ⟨A3, B3, -⟩, ⟨-, B4, C4⟩, ⟨-, -, C5⟩, -, ⟨-, B7, -⟩⟩
  isplitl [A1]; · iapply (dstE_g c 1 .a (by decide)); iexact A1
  isplitl [A2]; · iapply (dstE_g c 2 .a (by decide)); iexact A2
  isplitl [A3]; · iapply (dstE_g c 3 .a (by decide)); iexact A3
  isplitl [B3]; · iapply (dstE_g c 3 .b (by decide)); iexact B3
  isplitl [B4]; · iapply (dstE_g c 4 .b (by decide)); iexact B4
  isplitl [B7]; · iapply (dstE_g c 7 .b (by decide)); iexact B7
  isplitl [C1]; · iapply (dstE_g c 1 .c (by decide)); iexact C1
  isplitl [C4]; · iapply (dstE_g c 4 .c (by decide)); iexact C4
  iapply (dstE_g c 5 .c (by decide)); iexact C5

/-- What the barrier's signals hand over, from the landing slots, the gathered array and the maxima array. -/
theorem bars_intro (c : Dev nD) : iprop((vE (F := F) c .a 0 ∗ vE (F := F) c .a 1 ∗ vE (F := F) c .a 2 ∗ vE (F := F) c .a 3 ∗ vE (F := F) c .b 0 ∗ vE (F := F) c .b 1 ∗ vE (F := F) c .b 2 ∗ vE (F := F) c .b 3 ∗ vE (F := F) c .c 0 ∗ vE (F := F) c .c 1 ∗ vE (F := F) c .c 2 ∗ vE (F := F) c .c 3) ∗ (dstE c .a 1 ∗ dstE c .a 2 ∗ dstE c .a 3 ∗ dstE c .b 3 ∗ dstE c .b 4 ∗ dstE c .b 7 ∗ dstE c .c 1 ∗ dstE c .c 4 ∗ dstE c .c 5)
      ∗ amE c c ∗ amE c (px c 1) ∗ amE c (px c 2) ∗ amE c (px c 3) ∗ amE c (px c 4) ∗ amE c (px c 5) ∗ amE c (px c 6) ∗ amE c (px c 7))
    ⊢ iprop(amE (F := F) c c ∗ barPay c 1 ∗ barPay c 3 ∗ barPay c 4) := by
  rw [barPay_1, barPay_3, barPay_4]
  iintro ⟨⟨V0, V1, V2, V3, V4, V5, V6, V7, V8, V9, V10, V11⟩, ⟨A1, A2, A3, B3, B4, B7, C1, C4, C5⟩, M0, M1, M2, M3, M4, M5, M6, M7⟩
  ihave V0 := (dstE_v c .a 4 0 (by decide)) $$ V0
  ihave V1 := (dstE_v c .a 5 1 (by decide)) $$ V1
  ihave V2 := (dstE_v c .a 6 2 (by decide)) $$ V2
  ihave V3 := (dstE_v c .a 7 3 (by decide)) $$ V3
  ihave V4 := (dstE_v c .b 1 0 (by decide)) $$ V4
  ihave V5 := (dstE_v c .b 2 1 (by decide)) $$ V5
  ihave V6 := (dstE_v c .b 5 2 (by decide)) $$ V6
  ihave V7 := (dstE_v c .b 6 3 (by decide)) $$ V7
  ihave V8 := (dstE_v c .c 2 0 (by decide)) $$ V8
  ihave V9 := (dstE_v c .c 3 1 (by decide)) $$ V9
  ihave V10 := (dstE_v c .c 6 2 (by decide)) $$ V10
  ihave V11 := (dstE_v c .c 7 3 (by decide)) $$ V11
  iframe

end Cert.GatherProof
-- ==== Proof.Mem2.lean ====
/-
# The buffers at the body's start and end
-/
module

public import proofs.«01_k».proof.Proof.Body
public import proofs.«01_k».proof.Proof.Mem

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

attribute [local irreducible] px

/-! ## The staged rows of `x` -/

theorem xR_disj : ∀ t t' : Part, t ≠ t' → Disjoint (xR t).set (xR t').set := by
  intro s s' h
  cases s <;> cases s' <;> first
    | exact absurd rfl h
    | exact Rect.unit_disjoint 1 (by decide)
theorem xR_cov : (Finset.univ.biUnion fun t : Part => (xR t).set) = Finset.univ := by
  ext i
  simp only [Finset.mem_biUnion, Finset.mem_univ, true_and, iff_true]
  have h0 : (i 0).val < 512 := (i 0).isLt
  have h1 : (i 1).val < 4096 := (i 1).isLt
  rcases Nat.lt_or_ge (i 1).val 1408 with h | h
  · refine ⟨.a, Rect.mem_set_unit.mpr (Fin.forall_fin_two.mpr ⟨?_, ?_⟩)⟩
    · show 0 ≤ (i 0).val ∧ (i 0).val < 0 + 512; omega
    · show 0 ≤ (i 1).val ∧ (i 1).val < 0 + 1408; omega
  rcases Nat.lt_or_ge (i 1).val 2816 with h' | h'
  · refine ⟨.b, Rect.mem_set_unit.mpr (Fin.forall_fin_two.mpr ⟨?_, ?_⟩)⟩
    · show 0 ≤ (i 0).val ∧ (i 0).val < 0 + 512; omega
    · show 1408 ≤ (i 1).val ∧ (i 1).val < 1408 + 1408; omega
  · refine ⟨.c, Rect.mem_set_unit.mpr (Fin.forall_fin_two.mpr ⟨?_, ?_⟩)⟩
    · show 0 ≤ (i 0).val ∧ (i 0).val < 0 + 512; omega
    · show 2816 ≤ (i 1).val ∧ (i 1).val < 2816 + 1280; omega
theorem xR_unit : ∀ t : Part, ∀ a, (xR t).stride a = 1
  | .a => fun _ => rfl
  | .b => fun _ => rfl
  | .c => fun _ => rfl
theorem srcO_a (c : Dev nD) : srcO m ρ c .a 0 = owns (c : Thread nD τ) (xM.slice (xR .a) (xR_unit .a)) sq (fun j => xv m ρ c ((xR .a).emb j)) := by
  unfold srcO; rw [if_pos rfl, px_zero]; rfl
theorem srcO_b (c : Dev nD) : srcO m ρ c .b 0 = owns (c : Thread nD τ) (xM.slice (xR .b) (xR_unit .b)) sq (fun j => xv m ρ c ((xR .b).emb j)) := by
  unfold srcO; rw [if_pos rfl, px_zero]; rfl
theorem srcO_c (c : Dev nD) : srcO m ρ c .c 0 = owns (c : Thread nD τ) (xM.slice (xR .c) (xR_unit .c)) sq (fun j => xv m ρ c ((xR .c).emb j)) := by
  unfold srcO; rw [if_pos rfl, px_zero]; rfl
theorem x_cut (c : Dev nD) : (owns (c : Thread nD τ) xM fullShare (xv m ρ c) : sProp 𝕄)
    ⊢ iprop(xA m ρ c ∗ srcO m ρ c .a 0 ∗ srcO m ρ c .b 0 ∗ srcO m ρ c .c 0) := by
  rw [srcO_a, srcO_b, srcO_c]
  have h := owns_rects (Ix := Unit) (Val := Elt F) (Name := ℕ) (U := UU) (Lvl := ℕ) (c : Thread nD τ) xM sq xR xR_unit xR_disj xR_cov (xv m ρ c)
  rw [L3] at h
  unfold xA
  iintro H
  ihave H := (owns_halves (Val := Elt F) (c : Thread nD τ) xM fullShare (xv m ρ c)).1 $$ H
  icases H with ⟨H1, H2⟩
  isplitl [H1]; · iexact H1
  iapply h $$ H2
theorem x_uncut (c : Dev nD) : iprop(xA m ρ c ∗ srcO m ρ c .a 0 ∗ srcO m ρ c .b 0 ∗ srcO m ρ c .c 0)
    ⊢ (owns (c : Thread nD τ) xM fullShare (xv m ρ c) : sProp 𝕄) := by
  rw [srcO_a, srcO_b, srcO_c]
  have h := owns_of_rects (Ix := Unit) (Val := Elt F) (Name := ℕ) (U := UU) (Lvl := ℕ) (c : Thread nD τ) xM sq xR xR_unit xR_disj xR_cov (xv m ρ c)
  rw [L3] at h
  unfold xA
  iintro ⟨H1, H2⟩
  ihave H2 := h $$ H2
  iapply (owns_halves (Val := Elt F) (c : Thread nD τ) xM fullShare (xv m ρ c)).2
  isplitl [H1]; · iexact H1
  iexact H2

/-! ## The result -/

theorem oR_disj : ∀ t t' : Fin 8, t ≠ t' → Disjoint (oR t).set (oR t').set := fun b b' h => Rect.unit_disjoint 0 (by
  have := Fin.val_ne_of_ne h
  show 512 * b.val + 512 ≤ 512 * b'.val ∨ 512 * b'.val + 512 ≤ 512 * b.val
  omega)
theorem oR_cov : (Finset.univ.biUnion fun t : Fin 8 => (oR t).set) = Finset.univ := by
  ext i
  simp only [Finset.mem_biUnion, Finset.mem_univ, true_and, iff_true]
  have h1 : (i 1).val < 256 := (i 1).isLt
  refine ⟨rowBlk i, Rect.mem_set_unit.mpr (Fin.forall_fin_two.mpr ⟨?_, ?_⟩)⟩
  · show 512 * ((i 0).val / 512) ≤ (i 0).val ∧ (i 0).val < 512 * ((i 0).val / 512) + 512; omega
  · show 0 ≤ (i 1).val ∧ (i 1).val < 0 + 256; omega
theorem oR_unit : ∀ t : Fin 8, ∀ a, (oR t).stride a = 1 := fun _ _ => rfl
theorem rowBlk_emb (b : Fin 8) (j : S512x256.Idx) : rowBlk ((oR b).emb j) = b := Fin.ext (by
  have h0 : (j 0).val < 512 := (j 0).isLt
  show (512 * b.val + 1 * (j 0).val) / 512 = b.val
  omega)
theorem rowIn_emb (b : Fin 8) (j : S512x256.Idx) : rowIn ((oR b).emb j) = j := by
  funext a
  have h0 : (j 0).val < 512 := (j 0).isLt
  have h : ∀ a : Fin 2, (rowIn ((oR b).emb j) a).val = (j a).val := Fin.forall_fin_two.mpr ⟨by
    show (512 * b.val + 1 * (j 0).val) % 512 = (j 0).val
    omega, by
    show 0 + 1 * (j 1).val = (j 1).val
    omega⟩
  exact Fin.ext (h a)
theorem o_cut (c : Dev nD) (Y : S4096x256.Idx → F .f32) : (owns (c : Thread nD τ) oM fullShare Y : sProp 𝕄)
    ⊢ iprop(OE c 0 ∗ OE c 1 ∗ OE c 2 ∗ OE c 3 ∗ OE c 4 ∗ OE c 5 ∗ OE c 6 ∗ OE c 7) := by
  have h := owns_rects (Ix := Unit) (Val := Elt F) (Name := ℕ) (U := UU) (Lvl := ℕ) (c : Thread nD τ) oM fullShare oR oR_unit oR_disj oR_cov Y
  rw [bigSep_univ_equiv (pxE c)] at h
  have h' (v : Fin 8) : (owns (c : Thread nD τ) (oM.slice (oR (pxE c v)) (oR_unit (pxE c v))) fullShare (fun j => Y ((oR (pxE c v)).emb j)) : sProp 𝕄) ⊢ OE c v := by
    unfold OE OB
    iintro H; iexists _; iexact H
  have h2 := h.trans (bigSep_mono (Ψ := fun v => OE (F := F) c v) fun v _ => h' v)
  rw [L8] at h2
  exact h2
theorem o_uncut (c : Dev nD) : iprop(OB c 0 (yv m ρ c 0) ∗ OB c 1 (yv m ρ c 1) ∗ OB c 2 (yv m ρ c 2) ∗ OB c 3 (yv m ρ c 3) ∗ OB c 4 (yv m ρ c 4) ∗ OB c 5 (yv m ρ c 5) ∗ OB c 6 (yv m ρ c 6) ∗ OB c 7 (yv m ρ c 7))
    ⊢ oA c (yAll m ρ c) := by
  have h := owns_of_rects (Ix := Unit) (Val := Elt F) (Name := ℕ) (U := UU) (Lvl := ℕ) (c : Thread nD τ) oM fullShare oR oR_unit oR_disj oR_cov (yAll m ρ c)
  rw [bigSep_univ_equiv (pxE c)] at h
  have e (v : Fin 8) : OB c v (yv m ρ c v) = owns (c : Thread nD τ) (oM.slice (oR (pxE c v)) (oR_unit (pxE c v))) fullShare (fun j => yAll m ρ c ((oR (pxE c v)).emb j)) := by
    have : (fun j : S512x256.Idx => yAll m ρ c ((oR (px c v)).emb j)) = yv m ρ c v := by
      funext j
      unfold yAll
      rw [rowBlk_emb, rowIn_emb, px_inv]
    exact congrArg (fun f : S512x256.Idx → F .f32 => (owns (c : Thread nD τ) (oM.slice (oR (px c v)) (oR_unit (px c v))) fullShare f : sProp 𝕄)) this.symm
  rw [L8] at h
  rw [e 0, e 1, e 2, e 3, e 4, e 5, e 6, e 7]
  exact h

/-! ## The maxima array -/

theorem aR_unit : ∀ t : Fin 8, ∀ a, (aR t).stride a = 1 := fun _ _ => rfl
theorem aR_cov : (Finset.univ.biUnion fun t : Fin 8 => (aR t).set) = Finset.univ := by
  ext i
  simp only [Finset.mem_biUnion, Finset.mem_univ, true_and, iff_true]
  have h1 : (i 1).val < 8 := (i 1).isLt
  have h2 : (i 2).val < 128 := (i 2).isLt
  refine ⟨i 0, Rect.mem_set_unit.mpr fun a => ?_⟩
  have : ∀ a : Fin 3, (![(i 0).val, 0, 0] : Fin 3 → ℕ) a ≤ (i a).val ∧ (i a).val < (![(i 0).val, 0, 0] : Fin 3 → ℕ) a + S1x8x128.size a := by
    rw [Fin.forall_fin_succ, Fin.forall_fin_two]
    refine ⟨?_, ?_, ?_⟩
    · show (i 0).val ≤ (i 0).val ∧ (i 0).val < (i 0).val + 1; omega
    · show 0 ≤ (i 1).val ∧ (i 1).val < 0 + 8; omega
    · show 0 ≤ (i 2).val ∧ (i 2).val < 0 + 128; omega
  exact this a
theorem AM_rect (c p : Dev nD) : AM m ρ c p fullShare = owns (c : Thread nD τ) (aM.slice (aR p) (aR_unit p)) fullShare (fun j => amAll m ρ ((aR p).emb j)) := by
  unfold AM
  refine (owns_squeeze c (aM.slice (aR p) (fun _ => rfl)) Facts₀.squeezes_S1x8x128_S8x128 fullShare (amS m ρ p)).trans ?_
  have : (fun j : S1x8x128.Idx => amAll m ρ ((aR p).emb j)) = fun _ => amv m ρ p := by
    funext j
    unfold amAll
    refine congrArg (amv m ρ) (Fin.ext ?_)
    have h0 : (j 0).val < 1 := (j 0).isLt
    show p.val + 1 * (j 0).val = p.val
    omega
  exact congrArg (fun f : S1x8x128.Idx → F .f32 => (owns (c : Thread nD τ) (aM.slice (aR p) (aR_unit p)) fullShare f : sProp 𝕄)) this.symm
theorem a_uncut (c : Dev nD) : iprop(AM m ρ c c fullShare ∗ AM m ρ c (c + 1) fullShare ∗ AM m ρ c (c + 2) fullShare ∗ AM m ρ c (c + 3) fullShare ∗ AM m ρ c (c + 4) fullShare ∗ AM m ρ c (c + 5) fullShare ∗ AM m ρ c (c + 6) fullShare ∗ AM m ρ c (c + 7) fullShare)
    ⊢ mA m ρ c := by
  have h := owns_of_rects (Ix := Unit) (Val := Elt F) (Name := ℕ) (U := UU) (Lvl := ℕ) (c : Thread nD τ) aM fullShare aR aR_unit aR_disj aR_cov (amAll m ρ)
  rw [bigSep_univ_equiv (adE c), L8] at h
  have e0 : adE c 0 = c := add0 c
  rw [e0] at h
  rw [AM_rect, AM_rect, AM_rect, AM_rect, AM_rect, AM_rect, AM_rect, AM_rect]
  exact h

/-! ## The body's start and end -/

/-- Once every block is finished and every maximum is in, the result and the maxima array are whole. -/
theorem last_join (c : Dev nD) : iprop(Last m ρ c ∗ AM m ρ c c (aq 6) ∗ AM m ρ c c (aq 7)) ⊢ iprop(oA c (yAll m ρ c) ∗ mA m ρ c) := by
  have y (v : Fin 8) (h : v ≠ 0) : y3 m ρ c v = yv m ρ c v := (if_neg h).symm
  unfold Last
  rw [y 1 (by decide), y 2 (by decide), y 3 (by decide), y 4 (by decide), y 5 (by decide), y 6 (by decide), y 7 (by decide)]
  iintro ⟨⟨O0, O1, O2, O3, O4, O5, O6, O7, B1, B2, B3, B4, B5, B6, B7, A0, A1, A2, A3, A4, A5⟩, A6, A7⟩
  isplitl [O0 O1 O2 O3 O4 O5 O6 O7]
  · iapply (o_uncut m ρ c)
    isplitl [O0]; · iexact O0
    isplitl [O1]; · iexact O1
    isplitl [O2]; · iexact O2
    isplitl [O3]; · iexact O3
    isplitl [O4]; · iexact O4
    isplitl [O5]; · iexact O5
    isplitl [O6]; · iexact O6
    iexact O7
  iapply (a_uncut m ρ c)
  isplitl [A0 A1 A2 A3 A4 A5 A6 A7]
  · iapply (AM_join m ρ c c)
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [B1]; · iexact B1
  isplitl [B2]; · iexact B2
  isplitl [B3]; · iexact B3
  isplitl [B4]; · iexact B4
  isplitl [B5]; · iexact B5
  isplitl [B6]; · iexact B6
  iexact B7

/-- The buffers as the launch hands them to the body. -/
noncomputable def Bufs (c : Dev nD) (Y : S4096x256.Idx → F .f32) : sProp 𝕄 :=
  iprop(owns (c : Thread nD τ) xM fullShare (xv m ρ c) ∗ owns (c : Thread nD τ) wM fullShare (wv m ρ c) ∗ owns (c : Thread nD τ) oM fullShare Y
    ∗ (∃ f, vM.view.loc (c : Thread nD τ) ↦{fullShare} f) ∗ (∃ f, sM.view.loc (c : Thread nD τ) ↦{fullShare} f) ∗ (∃ f, aM.view.loc (c : Thread nD τ) ↦{fullShare} f)
    ∗ CS c 0 ∗ CS c 1)
attribute [local irreducible] OE vE SE amE dstE srcO barPay CS vRem stRem xA wA
theorem mem_intro (c : Dev nD) (Y : S4096x256.Idx → F .f32) : iprop(Bufs m ρ c Y ∗ ∃ f, gM.view.loc (c : Thread nD τ) ↦{fullShare} f) ⊢ iprop(Mem m ρ c ∗ vRem c ∗ stRem c) := by
  unfold Bufs Mem
  iintro ⟨⟨Hx, Hw, Ho, Hv, Hs, Ha, C0, C1⟩, Hg⟩
  ihave Hx := (x_cut m ρ c) $$ Hx
  icases Hx with ⟨X0, X1, X2, X3⟩
  ihave Hw := (show (owns (c : Thread nD τ) wM fullShare (wv m ρ c) : sProp 𝕄) ⊢ wA m ρ c from by unfold wA; exact BI.Entails.refl _) $$ Hw
  ihave Ho := (o_cut c Y) $$ Ho
  icases Ho with ⟨O0, O1, O2, O3, O4, O5, O6, O7⟩
  ihave Hv := (v_cut c) $$ Hv
  icases Hv with ⟨Hv, Hvr⟩
  ihave Hs := (s_cut c) $$ Hs
  icases Hs with ⟨⟨S0, S1⟩, Hsr⟩
  ihave Ha := (a_cut c) $$ Ha
  ihave Hg := (g_cut c) $$ Hg
  ihave HB := (bars_intro (F := F) c) $$ [Hv Ha Hg]
  · isplitl [Hv]; · iexact Hv
    isplitl [Hg]; · iexact Hg
    iexact Ha
  icases HB with ⟨B0, B1, B3, B4⟩
  iframe
theorem mem_exit (c : Dev nD) : iprop(MemF m ρ c ∗ vRem c ∗ stRem c) ⊢ Bufs m ρ c (outv m ρ c) := by
  unfold Bufs MemF
  iintro ⟨⟨X1, X2, X3, X0, W, S0, S1, C0, C1, O, A, V0, V1, V2, V3, V4, V5, V6, V7, V8, V9, V10, V11⟩, Hvr, Hsr⟩
  ihave Hx := (x_uncut m ρ c) $$ [X0 X1 X2 X3]
  · iframe
  ihave Hv := (v_uncut (F := F) c) $$ [V0 V1 V2 V3 V4 V5 V6 V7 V8 V9 V10 V11 Hvr]
  · iframe
  ihave Hs := (s_uncut (F := F) c) $$ [S0 S1 Hsr]
  · iframe
  ihave W := (show wA m ρ c ⊢ (owns (c : Thread nD τ) wM fullShare (wv m ρ c) : sProp 𝕄) from by unfold wA; exact BI.Entails.refl _) $$ W
  isplitl [Hx]; · iexact Hx
  isplitl [W]; · iexact W
  isplitl [O]; · unfold oA; iexact O
  isplitl [Hv]; · iexact Hv
  isplitl [Hs]; · iexact Hs
  isplitl [A]
  · unfold mA
    ihave A := (show (owns (c : Thread nD τ) aM fullShare (amAll m ρ) : sProp 𝕄) ⊢ iprop(∃ f, aM.view.loc (c : Thread nD τ) ↦{fullShare} f) from by
      rw [owns_whole_eq]; iintro ⟨%f, -, H⟩; iexists f; iexact H) $$ A
    iexact A
  isplitl [C0]; · iexact C0
  iexact C1

end Cert.GatherProof
-- ==== Proof.Deal.lean ====
/-
# The launch's ghost state
-/
module

public import proofs.«01_k».proof.Proof.Mem2

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## The cells one by one -/

abbrev CO : Type := (Part × Fin 8) ⊕ (Part × Fin 8) ⊕ Fin 8 ⊕ Fin 8
noncomputable abbrev ckO (k : CO) : CK := ckEquiv (.inr k)
theorem bigSep_ck0 (Φ : CK → sProp 𝕄) : bigSep Finset.univ Φ = iprop(Φ .bar ∗ bigSep Finset.univ fun k : CO => Φ (ckO k)) := by
  rw [bigSep_univ_equiv ckEquiv Φ, BI.bigSep_univ_sum, show (Finset.univ : Finset Unit) = {()} from rfl, bigSep_singleton]
  rfl
/-- The barrier, the send cells, the receive cells, the maxima's send and receive cells. -/
theorem bigSep_ck (Φ : CK → sProp 𝕄) : bigSep Finset.univ Φ = iprop(Φ .bar ∗ (bigSep Finset.univ fun s => bigSep Finset.univ fun v => Φ (.snd s v))
    ∗ (bigSep Finset.univ fun s => bigSep Finset.univ fun w => Φ (.rcv s w)) ∗ (bigSep Finset.univ fun d => Φ (.asnd d)) ∗ bigSep Finset.univ fun p => Φ (.arcv p)) := by
  rw [bigSep_ck0, BI.bigSep_univ_sum, BI.bigSep_univ_sum, BI.bigSep_univ_sum, bigSep_univ_prod, bigSep_univ_prod]
  rfl

/-! ## The kernel's own semaphores -/

abbrev KS : Type := CO ⊕ Fin 2
noncomputable def osem : KS → SemLoc sig
  | .inl k => cloc (ckO k)
  | .inr j => .dma (csm j)
theorem ownSemFacts : Pipeline.OwnSemFacts cfg0.spec osem := by decide +kernel

theorem sems_eq (c : Dev nD) :
    (iprop(Pipeline.ownSems0 (Ix := Unit) (Name := ℕ) (U := UU) (Lvl := ℕ) (Val := Elt F) (τ := τ) osem c ∗ unscopedSems0 c) : sProp 𝕄)
      = iprop(((bigSep Finset.univ fun k : CO => Zero c (ckO k)) ∗ CS c 0 ∗ CS c 1) ∗ Zero c .bar) := by
  unfold Pipeline.ownSems0 unscopedSems0
  rw [BI.bigSep_univ_sum, L2, bigSep_eq_bigSepL_of_eq (l := [SemLoc.reg barS]) (by decide) (by decide), bigSepL_singleton]
  rfl
theorem sems_in (c : Dev nD) :
    (iprop(Pipeline.ownSems0 (Ix := Unit) (Name := ℕ) (U := UU) (Lvl := ℕ) (Val := Elt F) (τ := τ) osem c ∗ unscopedSems0 c) : sProp 𝕄)
      ⊢ iprop((bigSep Finset.univ fun k : CK => Zero c k) ∗ CS c 0 ∗ CS c 1) := by
  rw [sems_eq, bigSep_ck0]
  iintro ⟨⟨H1, H2, H3⟩, H4⟩
  iframe
theorem sems_out (c : Dev nD) : iprop((bigSep Finset.univ fun k : CK => Zero c k) ∗ CS c 0 ∗ CS c 1)
    ⊢ (iprop(Pipeline.ownSems0 (Ix := Unit) (Name := ℕ) (U := UU) (Lvl := ℕ) (Val := Elt F) (τ := τ) osem c ∗ unscopedSems0 c) : sProp 𝕄) := by
  rw [sems_eq, bigSep_ck0]
  iintro ⟨⟨H4, H1⟩, H2, H3⟩
  iframe

/-! ## The duty tokens, by who pays -/

/-- The cell whose token device `c` pays, by the kind of cell and the duty. -/
noncomputable def payee (c : Dev nD) (k : CK) (e : Fin 8) : Dev nD × CK := match k with
  | .bar => (px c e, .bar)
  | .snd s v => (c, .snd s v)
  | .rcv s w => (px c (dirOf s w), .rcv s w)
  | .asnd d => (c, .asnd d)
  | .arcv u => (c + u, .arcv c)
theorem px_cancel {c c' u : Fin 8} (h : px c u = px c' u) : c = c' := by rw [← px_px c u, h, px_px]
theorem add_cancel : ∀ c u u' : Fin 8, c + u = c + u' → u = u' := by decide +kernel
theorem payee_inj (e : Fin 8) {c c' : Dev nD} {k k' : CK} (h : payee c k e = payee c' k' e) : c = c' ∧ k = k' := by
  unfold payee at h
  cases k <;> cases k' <;> simp only [Prod.mk.injEq, reduceCtorEq, and_false, CK.snd.injEq, CK.rcv.injEq, CK.asnd.injEq, CK.arcv.injEq, and_true] at h
  · exact ⟨px_cancel h, rfl⟩
  · obtain ⟨rfl, rfl, rfl⟩ := h; exact ⟨rfl, rfl⟩
  · obtain ⟨h, rfl, rfl⟩ := h; exact ⟨px_cancel h, rfl⟩
  · obtain ⟨rfl, rfl⟩ := h; exact ⟨rfl, rfl⟩
  · obtain ⟨h, rfl⟩ := h; exact ⟨rfl, by rw [add_cancel _ _ _ h]⟩
noncomputable def tokOf (p : Dev nD × CK × Fin 3 × Fin 8) : GSem nD τ sig × ℕ × Fin 8 :=
  (cell (payee p.1 p.2.1 p.2.2.2).1 (payee p.1 p.2.1 p.2.2.2).2, p.2.2.1.val, p.2.2.2)
theorem tokOf_inj : Function.Injective tokOf := by
  rintro ⟨c, k, r, e⟩ ⟨c', k', r', e'⟩ h
  unfold tokOf at h
  simp only [Prod.mk.injEq] at h
  obtain ⟨h1, h2, h3⟩ := h
  subst h3
  have h4 := cell_inj (a₁ := payee c k e) (a₂ := payee c' k' e) (Prod.ext_iff.mpr (by simpa using h1))
  obtain ⟨rfl, rfl⟩ := payee_inj e h4
  rw [Fin.ext h2]
noncomputable def cells : Finset (GSem nD τ sig) := Finset.univ.map ⟨fun p : Dev nD × CK => cell p.1 p.2, cell_inj⟩
noncomputable def toks : Finset (GSem nD τ sig × ℕ × Fin 8) := Finset.univ.map ⟨tokOf, tokOf_inj⟩

/-- The tokens of one kind that device `c` pays with. -/
noncomputable def tk (c : Dev nD) : CK → sProp 𝕄
  | .bar => iprop(Tok (px c 1) .bar 0 1 ∗ Tok (px c 3) .bar 0 3 ∗ Tok (px c 4) .bar 0 4)
  | .snd s v => iprop(Tok c (.snd s v) 0 0 ∗ Tok c (.snd s v) 1 0 ∗ Tok c (.snd s v) 2 0)
  | .rcv s w => Tok (px c (dirOf s w)) (.rcv s w) 0 0
  | .asnd d => Tok c (.asnd d) 0 0
  | .arcv u => Tok (c + u) (.arcv c) 0 0
noncomputable def tok (c : Dev nD) (k : CK) (r : Fin 3) (e : Fin 8) : sProp 𝕄 := Tok (payee c k e).1 (payee c k e).2 r.val e
theorem L3' (Φ : Fin 3 → sProp 𝕄) : bigSep Finset.univ Φ = iprop(Φ 0 ∗ Φ 1 ∗ Φ 2) := by
  rw [bigSep_eq_bigSepL_of_eq (l := [0, 1, 2]) (by decide) (by decide)]
  simp only [bigSepL_cons_cons, bigSepL_singleton]
  rfl
theorem tk_intro (c : Dev nD) (k : CK) : (bigSep Finset.univ fun q : Fin 3 × Fin 8 => tok (F := F) c k q.1 q.2) ⊢ tk c k := by
  rw [bigSep_univ_prod, L3', L8, L8, L8]
  cases k
  · show _ ⊢ iprop(tok c .bar 0 1 ∗ tok c .bar 0 3 ∗ tok c .bar 0 4)
    iintro ⟨⟨-, H1, -, H3, H4, -⟩, -⟩
    iframe
  · rename_i s v
    show _ ⊢ iprop(tok c (.snd s v) 0 0 ∗ tok c (.snd s v) 1 0 ∗ tok c (.snd s v) 2 0)
    iintro ⟨⟨H1, -⟩, ⟨H2, -⟩, ⟨H3, -⟩⟩
    iframe
  · rename_i s w
    show _ ⊢ tok c (.rcv s w) 0 0
    iintro ⟨⟨H1, -⟩, -⟩
    iexact H1
  · rename_i d
    show _ ⊢ tok c (.asnd d) 0 0
    iintro ⟨⟨H1, -⟩, -⟩
    iexact H1
  · rename_i u
    show _ ⊢ tok c (.arcv u) 0 0
    iintro ⟨⟨H1, -⟩, -⟩
    iexact H1
theorem tk_all (c : Dev nD) : (bigSep Finset.univ fun p : CK × Fin 3 × Fin 8 => tok (F := F) c p.1 p.2.1 p.2.2) ⊢ bigSep Finset.univ fun k => tk c k := by
  rw [bigSep_univ_prod]
  exact bigSep_mono fun k _ => tk_intro c k

/-! ## Dealing the launch's ghost state -/

/-- What the launch element deals device `c`. -/
noncomputable def G (c : Dev nD) : sProp 𝕄 :=
  iprop((bigSep Finset.univ fun k : CK => roundState ER (Rd m ρ) (cell c k) 0) ∗ (bigSep Finset.univ fun k : CK => Pos c k 0) ∗ bigSep Finset.univ fun k : CK => tk c k)
/-- Its own share of it: the positions at its cells and the tokens it pays with. -/
noncomputable def Lin (c : Dev nD) : sProp 𝕄 :=
  iprop((bigSep Finset.univ fun k : CK => Pos c k 0) ∗ (bigSep Finset.univ fun k : CK => tk c k) ∗ CS c 0 ∗ CS c 1)
noncomputable def Invs (K : Dev nD × CK → ℕ) : sProp 𝕄 :=
  bigSep Finset.univ fun p : Dev nD × CK => iprop(cellInv ER (Rd m ρ) (K p) (cell p.1 p.2) ∗ reached ER (cell p.1 p.2) 0)
instance Invs_persistent (K) : BI.Persistent (Invs m ρ K) := by unfold Invs; infer_instance
noncomputable def G' (c : Dev nD) : sProp 𝕄 := iprop(∃ K, Invs m ρ K ∗ Lin c)

theorem at_cells (Φ : GSem nD τ sig → sProp 𝕄) : bigSep cells Φ ⊢ bigSep Finset.univ fun c : Dev nD => bigSep Finset.univ fun k : CK => Φ (cell c k) := by
  unfold cells; rw [bigSep_map, bigSep_univ_prod]; exact BI.Entails.refl _
theorem at_toks : bigSep toks (fun x => (dutyTok ER x.1 x.2.1 x.2.2 : sProp 𝕄)) ⊢ bigSep Finset.univ fun c : Dev nD => bigSep Finset.univ fun k : CK => tk c k := by
  unfold toks; rw [bigSep_map, bigSep_univ_prod]
  exact bigSep_mono fun c _ => tk_all c

theorem fund_all : BI.own (ER (initOf cells toks)) ⊢ (|==> bigSep Finset.univ (G m ρ) : sProp 𝕄) := by
  have e : (bigSep Finset.univ (G m ρ)) = iprop((bigSep Finset.univ fun c : Dev nD => bigSep Finset.univ fun k : CK => roundState ER (Rd m ρ) (cell c k) 0)
      ∗ ((bigSep Finset.univ fun c : Dev nD => bigSep Finset.univ fun k : CK => atPos ER (cell c k) 0 ∅ 0)
        ∗ (bigSep Finset.univ fun c : Dev nD => bigSep Finset.univ fun k : CK => reached ER (cell c k) 0))
      ∗ bigSep Finset.univ fun c : Dev nD => bigSep Finset.univ fun k : CK => tk c k) := by
    unfold G Pos
    simp only [bigSep_sep']
  rw [e]
  iintro HX
  imod (Rounds.fund ER (Rd m ρ) cells toks) $$ HX with ⟨Hst, Hr, Hat, Htok⟩
  imodintro
  ihave Hst := (at_cells fun g => roundState ER (Rd m ρ) g 0) $$ Hst
  ihave Hat := (at_cells (F := F) fun g => atPos ER g 0 ∅ 0) $$ Hat
  ihave Hr := (at_cells (F := F) fun g => reached ER g 0) $$ Hr
  ihave Htok := (at_toks (F := F)) $$ Htok
  isplitl [Hst]; · iexact Hst
  isplitl [Hat Hr]
  · isplitl [Hat] <;> iassumption
  iexact Htok

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (cell c k))) ∗ Lin c) := by
  unfold G Lin
  iintro ⟨Hos, Hus, Hst, Hat, Htok⟩
  ihave Hv := (sems_in (F := F) c) $$ [Hos Hus]
  · isplitl [Hos] <;> iassumption
  icases Hv with ⟨Hv, C0, C1⟩
  imod (show iprop((bigSep Finset.univ fun k : CK => Zero c k) ∗ bigSep Finset.univ fun k : CK => roundState ER (Rd m ρ) (cell c k) 0)
      ⊢ (|={Set.univ}=> bigSep Finset.univ fun k => iprop(∃ κ : ℕ, cellInv ER (Rd m ρ) κ (cell c k)) : sProp 𝕄) from by
        rw [← bigSep_sep']
        exact (bigSep_mono fun k _ => (Rounds.body_intro ER (Rd m ρ) (cell c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [C0] <;> iassumption

theorem bigSep_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem Pos_reached (c : Dev nD) (k : CK) : Pos (F := F) c k 0 ⊢ iprop(reached ER (cell c k) 0 ∗ Pos c k 0) := by
  unfold Pos
  iintro ⟨H, #HR⟩
  isplitr; · iexact HR
  isplitl [H]; · iexact H
  iexact HR
theorem Lin_reached (c : Dev nD) : Lin (F := F) c ⊢ iprop((bigSep Finset.univ fun k : CK => reached ER (cell c k) 0) ∗ Lin c) := by
  have h : (bigSep Finset.univ fun k : CK => Pos (F := F) c k 0) ⊢ iprop((bigSep Finset.univ fun k : CK => reached ER (cell c k) 0) ∗ bigSep Finset.univ fun k : CK => Pos c k 0) := by
    rw [← bigSep_sep']
    exact bigSep_mono fun k _ => Pos_reached c k
  unfold Lin
  iintro ⟨H, H2⟩
  ihave H := h $$ H
  icases H with ⟨H1, H⟩
  isplitl [H1]; · iexact H1
  isplitl [H]; · iexact H
  iexact H2
theorem lin_all : (bigSep Finset.univ fun c : Dev nD => Lin (F := F) c)
    ⊢ iprop((bigSep Finset.univ fun p : Dev nD × CK => reached ER (cell p.1 p.2) 0) ∗ bigSep Finset.univ fun c : Dev nD => Lin (F := F) c) := by
  rw [bigSep_univ_prod, ← bigSep_sep']
  exact bigSep_mono fun c _ => Lin_reached c

theorem regroup :
    (bigSep Finset.univ fun c : Dev nD => iprop((bigSep Finset.univ fun k : CK => iprop(∃ κ : ℕ, cellInv ER (Rd m ρ) κ (cell c k))) ∗ Lin c) : sProp 𝕄)
      ⊢ bigSep Finset.univ (G' m ρ) := by
  rw [bigSep_sep', ← bigSep_univ_prod (fun p : Dev nD × CK => iprop(∃ κ : ℕ, cellInv ER (Rd m ρ) κ (cell p.1 p.2)))]
  iintro ⟨HI, HL⟩
  ihave HK := (BI.bigSep_exists_pi Finset.univ (fun (p : Dev nD × CK) (κ : ℕ) => (cellInv ER (Rd m ρ) κ (cell p.1 p.2) : sProp 𝕄))) $$ HI
  icases HK with ⟨%K, HI⟩
  ihave HL := (lin_all (F := F)) $$ HL
  icases HL with ⟨HR, HL⟩
  have e : Invs m ρ K = iprop((bigSep Finset.univ fun p : Dev nD × CK => cellInv ER (Rd m ρ) (K p) (cell p.1 p.2)) ∗ bigSep Finset.univ fun p : Dev nD × CK => reached ER (cell p.1 p.2) 0) := by
    unfold Invs; rw [bigSep_sep']
  iapply (bigSep_pers (R := Invs m ρ K) (Φ := fun c : Dev nD => Lin (F := F) c) (Ψ := G' m ρ) fun c _ => by
    unfold G'
    iintro H; iexists K; iexact H)
  isplitr [HL]
  · rw [e]
    isplitl [HI]; · iexact HI
    iexact HR
  iexact HL

/-- The global step: every device's semaphores at once become its cells. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.GatherProof
-- ==== Proof.Deal2.lean ====
/-
# The launch's credits and a device's own share
-/
module

public import proofs.«01_k».proof.Proof.Deal

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## The launch's credits -/

noncomputable abbrev O₀ (c : Dev nD) : CellTallies nD τ sig Unit := owedL (oweList c)
theorem owedL_apply (c : Dev nD) (k : CK) : ∀ l : List (Dev nD × CK), owedL l (cell c k) () = l.count (c, k) * amt k
  | [] => by rw [List.count_nil, Nat.zero_mul]; rfl
  | p :: l => by
    unfold owedL
    rw [Pi.add_apply, Finsupp.add_apply, owedL_apply c k l, tallyAt_apply, List.count_cons]
    by_cases h : p = (c, k)
    · subst h
      rw [if_pos ⟨rfl, rfl⟩, if_pos (by exact beq_self_eq_true _), Nat.add_mul, Nat.one_mul]
    · rw [if_neg (fun h' => h (cell_inj (a₁ := p) (a₂ := (c, k)) h'.1.symm)), if_neg (by simpa using h), Nat.add_zero, Nat.add_zero]
/-- How many payments the devices together owe a cell. -/
noncomputable def cnt (c : Dev nD) (k : CK) : ℕ := ∑ d : Dev nD, (oweList d).count (c, k)
theorem cnt_bar : ∀ c : Dev nD, cnt c .bar = 3 := by decide +kernel
theorem cnt_rcv : ∀ (c : Dev nD) (s : Part) (w : Fin 8), w ≠ 0 → cnt c (.rcv s w) = 1 := by decide +kernel
theorem cnt_arcv : ∀ (c : Dev nD) (u : Fin 8), u ≠ 0 → cnt c (.arcv (c + u)) = 1 := by decide +kernel
noncomputable def crd (c : Dev nD) (k : CK) : sProp 𝕄 := cred (tallyAt (cell c k) () (cnt c k * amt k))

theorem launch_at (c : Dev nD) (k : CK) :
    tallyOn (cell c k) (launchCredit (Pipeline.owing O₀) 0 (cell c k)) = (tallyAt (cell c k) () (cnt c k * amt k) : CellTallies nD τ sig Unit) := by
  unfold tallyAt; refine congrArg _ (Finsupp.ext fun u => ?_); cases u
  rw [Pipeline.launchCredit_owing, Finsupp.single_eq_same, Finset.sum_congr rfl fun d _ => owedL_apply c k (oweList d), ← Finset.sum_mul]
  rfl
theorem creds (c : Dev nD) : (Pipeline.launchCred O₀ c : sProp 𝕄) ⊢ bigSep Finset.univ fun k : CK => crd c k := by
  unfold Pipeline.launchCred
  refine (bigSep_subset (Finset.subset_univ (Finset.univ.map ⟨cloc, fun _ _ h => cloc_inj h⟩))).trans ?_
  rw [bigSep_map]
  exact bigSep_mono fun k _ => by
    unfold crd; rw [← launch_at]; exact BI.Entails.refl _

theorem crd_one (c : Dev nD) (k : CK) (h : cnt c k = 1) : crd (F := F) c k = Cred c k := by unfold crd Cred; rw [h, Nat.one_mul]
theorem tk_snd (c : Dev nD) (s : Part) (v : Fin 8) : tk (F := F) c (.snd s v) ⊢ iprop(Tok c (.snd s v) 0 0 ∗ Tok c (.snd s v) 1 0 ∗ Tok c (.snd s v) 2 0) := BI.Entails.refl _
theorem ST_intro (c : Dev nD) (s : Part) (v w d : Fin 8) (r : ℕ) (h : dirOf s w = d) : iprop(Tok (F := F) c (.snd s v) r 0 ∗ tk c (.rcv s w)) ⊢ ST c s v w d r := by
  subst h; exact BI.Entails.refl _
theorem RG_intro (c : Dev nD) (s : Part) (w : Fin 8) (h : w ≠ 0) : iprop(Pos (F := F) c (.rcv s w) 0 ∗ crd c (.rcv s w) ∗ Pos c (.snd s w) 0) ⊢ RG c s w := by
  rw [crd_one c _ (cnt_rcv c s w h)]; exact BI.Entails.refl _
theorem RV_intro (c : Dev nD) (s : Part) (w : Fin 8) (h : w ≠ 0) : iprop(Pos (F := F) c (.rcv s w) 0 ∗ crd c (.rcv s w)) ⊢ RV c s w := by
  rw [crd_one c _ (cnt_rcv c s w h)]; exact BI.Entails.refl _
theorem AS_intro (c : Dev nD) (d : Fin 8) : iprop(Pos (F := F) c (.asnd d) 0 ∗ tk c (.asnd d) ∗ tk c (.arcv d)) ⊢ AS c d := BI.Entails.refl _
theorem AR_intro (c : Dev nD) (u : Fin 8) (h : u ≠ 0) : iprop(Pos (F := F) c (.arcv (c + u)) 0 ∗ crd c (.arcv (c + u))) ⊢ AR c (c + u) := by
  rw [crd_one c _ (cnt_arcv c u h)]; exact BI.Entails.refl _
theorem Bars_intro (c : Dev nD) : iprop(Pos (F := F) c .bar 0 ∗ crd c .bar ∗ tk c .bar) ⊢ Bars c := by
  unfold crd; rw [cnt_bar]; exact BI.Entails.refl _
theorem rds_self (c : Dev nD) : rds c (.arcv c) = 0 := if_pos rfl

/-- The cells written out; the maxima's receive cells by the distance of the sender. -/
theorem ck_split (c : Dev nD) (Φ : CK → sProp 𝕄) : bigSep Finset.univ Φ = iprop(Φ .bar ∗ ((Φ (.snd .a 0) ∗ Φ (.snd .a 1) ∗ Φ (.snd .a 2) ∗ Φ (.snd .a 3) ∗ Φ (.snd .a 4) ∗ Φ (.snd .a 5) ∗ Φ (.snd .a 6) ∗ Φ (.snd .a 7)) ∗ (Φ (.snd .b 0) ∗ Φ (.snd .b 1) ∗ Φ (.snd .b 2) ∗ Φ (.snd .b 3) ∗ Φ (.snd .b 4) ∗ Φ (.snd .b 5) ∗ Φ (.snd .b 6) ∗ Φ (.snd .b 7)) ∗ (Φ (.snd .c 0) ∗ Φ (.snd .c 1) ∗ Φ (.snd .c 2) ∗ Φ (.snd .c 3) ∗ Φ (.snd .c 4) ∗ Φ (.snd .c 5) ∗ Φ (.snd .c 6) ∗ Φ (.snd .c 7))) ∗ ((Φ (.rcv .a 0) ∗ Φ (.rcv .a 1) ∗ Φ (.rcv .a 2) ∗ Φ (.rcv .a 3) ∗ Φ (.rcv .a 4) ∗ Φ (.rcv .a 5) ∗ Φ (.rcv .a 6) ∗ Φ (.rcv .a 7)) ∗ (Φ (.rcv .b 0) ∗ Φ (.rcv .b 1) ∗ Φ (.rcv .b 2) ∗ Φ (.rcv .b 3) ∗ Φ (.rcv .b 4) ∗ Φ (.rcv .b 5) ∗ Φ (.rcv .b 6) ∗ Φ (.rcv .b 7)) ∗ (Φ (.rcv .c 0) ∗ Φ (.rcv .c 1) ∗ Φ (.rcv .c 2) ∗ Φ (.rcv .c 3) ∗ Φ (.rcv .c 4) ∗ Φ (.rcv .c 5) ∗ Φ (.rcv .c 6) ∗ Φ (.rcv .c 7))) ∗ (Φ (.asnd 0) ∗ Φ (.asnd 1) ∗ Φ (.asnd 2) ∗ Φ (.asnd 3) ∗ Φ (.asnd 4) ∗ Φ (.asnd 5) ∗ Φ (.asnd 6) ∗ Φ (.asnd 7)) ∗ (Φ (.arcv c) ∗ Φ (.arcv (c + 1)) ∗ Φ (.arcv (c + 2)) ∗ Φ (.arcv (c + 3)) ∗ Φ (.arcv (c + 4)) ∗ Φ (.arcv (c + 5)) ∗ Φ (.arcv (c + 6)) ∗ Φ (.arcv (c + 7)))) := by
  have e0 : adE c 0 = c := add0 c
  rw [bigSep_ck, bigSep_univ_equiv (adE c) (fun p => Φ (.arcv p))]
  simp only [L3, L8, e0]
  rfl
/-- The cells written out. -/
theorem ck_split0 (Φ : CK → sProp 𝕄) : bigSep Finset.univ Φ = iprop(Φ .bar ∗ ((Φ (.snd .a 0) ∗ Φ (.snd .a 1) ∗ Φ (.snd .a 2) ∗ Φ (.snd .a 3) ∗ Φ (.snd .a 4) ∗ Φ (.snd .a 5) ∗ Φ (.snd .a 6) ∗ Φ (.snd .a 7)) ∗ (Φ (.snd .b 0) ∗ Φ (.snd .b 1) ∗ Φ (.snd .b 2) ∗ Φ (.snd .b 3) ∗ Φ (.snd .b 4) ∗ Φ (.snd .b 5) ∗ Φ (.snd .b 6) ∗ Φ (.snd .b 7)) ∗ (Φ (.snd .c 0) ∗ Φ (.snd .c 1) ∗ Φ (.snd .c 2) ∗ Φ (.snd .c 3) ∗ Φ (.snd .c 4) ∗ Φ (.snd .c 5) ∗ Φ (.snd .c 6) ∗ Φ (.snd .c 7))) ∗ ((Φ (.rcv .a 0) ∗ Φ (.rcv .a 1) ∗ Φ (.rcv .a 2) ∗ Φ (.rcv .a 3) ∗ Φ (.rcv .a 4) ∗ Φ (.rcv .a 5) ∗ Φ (.rcv .a 6) ∗ Φ (.rcv .a 7)) ∗ (Φ (.rcv .b 0) ∗ Φ (.rcv .b 1) ∗ Φ (.rcv .b 2) ∗ Φ (.rcv .b 3) ∗ Φ (.rcv .b 4) ∗ Φ (.rcv .b 5) ∗ Φ (.rcv .b 6) ∗ Φ (.rcv .b 7)) ∗ (Φ (.rcv .c 0) ∗ Φ (.rcv .c 1) ∗ Φ (.rcv .c 2) ∗ Φ (.rcv .c 3) ∗ Φ (.rcv .c 4) ∗ Φ (.rcv .c 5) ∗ Φ (.rcv .c 6) ∗ Φ (.rcv .c 7))) ∗ (Φ (.asnd 0) ∗ Φ (.asnd 1) ∗ Φ (.asnd 2) ∗ Φ (.asnd 3) ∗ Φ (.asnd 4) ∗ Φ (.asnd 5) ∗ Φ (.asnd 6) ∗ Φ (.asnd 7)) ∗ (Φ (.arcv 0) ∗ Φ (.arcv 1) ∗ Φ (.arcv 2) ∗ Φ (.arcv 3) ∗ Φ (.arcv 4) ∗ Φ (.arcv 5) ∗ Φ (.arcv 6) ∗ Φ (.arcv 7))) := by
  rw [bigSep_ck]
  simp only [L3, L8]
/-- The cells no transfer uses. -/
noncomputable def Left (c : Dev nD) : sProp 𝕄 := iprop(Pos c (.snd .a 4) 0 ∗ Pos c (.snd .a 5) 0 ∗ Pos c (.snd .a 6) 0 ∗ Pos c (.snd .a 7) 0 ∗ Pos c (.snd .b 1) 0 ∗ Pos c (.snd .b 2) 0 ∗ Pos c (.snd .b 5) 0 ∗ Pos c (.snd .b 6) 0 ∗ Pos c (.snd .c 2) 0 ∗ Pos c (.snd .c 3) 0 ∗ Pos c (.snd .c 6) 0 ∗ Pos c (.snd .c 7) 0 ∗ Pos c (.rcv .a 0) 0 ∗ Pos c (.rcv .b 0) 0 ∗ Pos c (.rcv .c 0) 0 ∗ Pos c (.asnd 0) 0 ∗ Pos c (.arcv c) 0)
noncomputable def LeftZ (c : Dev nD) : sProp 𝕄 := iprop(Zero c (.snd .a 4) ∗ Zero c (.snd .a 5) ∗ Zero c (.snd .a 6) ∗ Zero c (.snd .a 7) ∗ Zero c (.snd .b 1) ∗ Zero c (.snd .b 2) ∗ Zero c (.snd .b 5) ∗ Zero c (.snd .b 6) ∗ Zero c (.snd .c 2) ∗ Zero c (.snd .c 3) ∗ Zero c (.snd .c 6) ∗ Zero c (.snd .c 7) ∗ Zero c (.rcv .a 0) ∗ Zero c (.rcv .b 0) ∗ Zero c (.rcv .c 0) ∗ Zero c (.asnd 0) ∗ Zero c (.arcv c))
attribute [local irreducible] Pos Zero Tok Cred crd tk px CS ST RG RV AS AR
/-- What the launch deals a device, sorted into what its body uses and the cells no transfer uses. -/
theorem deal (c : Dev nD) : iprop(Lin (F := F) c ∗ bigSep Finset.univ fun k : CK => crd c k)
    ⊢ iprop(Sends c ∗ Recvs c ∗ Maxs c ∗ Bars c ∗ Left c ∗ CS c 0 ∗ CS c 1) := by
  unfold Lin
  rw [ck_split c, ck_split0, ck_split c]
  iintro ⟨⟨⟨Pbar, ⟨⟨Psa0, Psa1, Psa2, Psa3, Psa4, Psa5, Psa6, Psa7⟩, ⟨Psb0, Psb1, Psb2, Psb3, Psb4, Psb5, Psb6, Psb7⟩, ⟨Psc0, Psc1, Psc2, Psc3, Psc4, Psc5, Psc6, Psc7⟩⟩, ⟨⟨Pra0, Pra1, Pra2, Pra3, Pra4, Pra5, Pra6, Pra7⟩, ⟨Prb0, Prb1, Prb2, Prb3, Prb4, Prb5, Prb6, Prb7⟩, ⟨Prc0, Prc1, Prc2, Prc3, Prc4, Prc5, Prc6, Prc7⟩⟩, ⟨Pd0, Pd1, Pd2, Pd3, Pd4, Pd5, Pd6, Pd7⟩, ⟨Pv0, Pv1, Pv2, Pv3, Pv4, Pv5, Pv6, Pv7⟩⟩, ⟨Tbar, ⟨⟨Tsa0, Tsa1, Tsa2, Tsa3, -, -, -, -⟩, ⟨Tsb0, -, -, Tsb3, Tsb4, -, -, Tsb7⟩, ⟨Tsc0, Tsc1, -, -, Tsc4, Tsc5, -, -⟩⟩, ⟨⟨-, Tra1, Tra2, Tra3, Tra4, Tra5, Tra6, Tra7⟩, ⟨-, Trb1, Trb2, Trb3, Trb4, Trb5, Trb6, Trb7⟩, ⟨-, Trc1, Trc2, Trc3, Trc4, Trc5, Trc6, Trc7⟩⟩, ⟨-, Td1, Td2, Td3, Td4, Td5, Td6, Td7⟩, ⟨-, Tv1, Tv2, Tv3, Tv4, Tv5, Tv6, Tv7⟩⟩, C0, C1⟩, ⟨Cbar, ⟨⟨-, -, -, -, -, -, -, -⟩, ⟨-, -, -, -, -, -, -, -⟩, ⟨-, -, -, -, -, -, -, -⟩⟩, ⟨⟨-, Cra1, Cra2, Cra3, Cra4, Cra5, Cra6, Cra7⟩, ⟨-, Crb1, Crb2, Crb3, Crb4, Crb5, Crb6, Crb7⟩, ⟨-, Crc1, Crc2, Crc3, Crc4, Crc5, Crc6, Crc7⟩⟩, ⟨-, -, -, -, -, -, -, -⟩, ⟨-, Cv1, Cv2, Cv3, Cv4, Cv5, Cv6, Cv7⟩⟩⟩
  ihave Tsa0 := (tk_snd c .a 0) $$ Tsa0
  icases Tsa0 with ⟨Ta00, Ta01, Ta02⟩
  ihave Tsb0 := (tk_snd c .b 0) $$ Tsb0
  icases Tsb0 with ⟨Tb00, Tb01, Tb02⟩
  ihave Tsc0 := (tk_snd c .c 0) $$ Tsc0
  icases Tsc0 with ⟨Tc00, Tc01, Tc02⟩
  ihave Tsa1 := (tk_snd c .a 1) $$ Tsa1
  icases Tsa1 with ⟨Ta10, Ta11, -⟩
  ihave Tsb3 := (tk_snd c .b 3) $$ Tsb3
  icases Tsb3 with ⟨Tb30, Tb31, -⟩
  ihave Tsc4 := (tk_snd c .c 4) $$ Tsc4
  icases Tsc4 with ⟨Tc40, Tc41, -⟩
  ihave Tsa2 := (tk_snd c .a 2) $$ Tsa2
  icases Tsa2 with ⟨Ta20, -, -⟩
  ihave Tsa3 := (tk_snd c .a 3) $$ Tsa3
  icases Tsa3 with ⟨Ta30, -, -⟩
  ihave Tsb4 := (tk_snd c .b 4) $$ Tsb4
  icases Tsb4 with ⟨Tb40, -, -⟩
  ihave Tsb7 := (tk_snd c .b 7) $$ Tsb7
  icases Tsb7 with ⟨Tb70, -, -⟩
  ihave Tsc1 := (tk_snd c .c 1) $$ Tsc1
  icases Tsc1 with ⟨Tc10, -, -⟩
  ihave Tsc5 := (tk_snd c .c 5) $$ Tsc5
  icases Tsc5 with ⟨Tc50, -, -⟩
  isplitl [Ta00 Tra1 Tb00 Trb3 Tc00 Trc4 Ta01 Tra3 Tb01 Trb4 Tc01 Trc1 Ta10 Tra2 Tb30 Trb7 Tc40 Trc5 Ta02 Tra4 Ta11 Tra5 Tb02 Trb1 Tb31 Trb2 Tc02 Trc3 Tc41 Trc7 Ta20 Tra6 Ta30 Tra7 Tb40 Trb5 Tb70 Trb6 Tc10 Trc2 Tc50 Trc6]
  · unfold Sends
    isplitl [Ta00 Tra1]; · iapply (ST_intro c .a 0 1 1 0 rfl); iframe
    isplitl [Tb00 Trb3]; · iapply (ST_intro c .b 0 3 3 0 rfl); iframe
    isplitl [Tc00 Trc4]; · iapply (ST_intro c .c 0 4 4 0 rfl); iframe
    isplitl [Ta01 Tra3]; · iapply (ST_intro c .a 0 3 3 1 rfl); iframe
    isplitl [Tb01 Trb4]; · iapply (ST_intro c .b 0 4 4 1 rfl); iframe
    isplitl [Tc01 Trc1]; · iapply (ST_intro c .c 0 1 1 1 rfl); iframe
    isplitl [Ta10 Tra2]; · iapply (ST_intro c .a 1 2 3 0 rfl); iframe
    isplitl [Tb30 Trb7]; · iapply (ST_intro c .b 3 7 4 0 rfl); iframe
    isplitl [Tc40 Trc5]; · iapply (ST_intro c .c 4 5 1 0 rfl); iframe
    isplitl [Ta02 Tra4]; · iapply (ST_intro c .a 0 4 4 2 rfl); iframe
    isplitl [Ta11 Tra5]; · iapply (ST_intro c .a 1 5 4 1 rfl); iframe
    isplitl [Tb02 Trb1]; · iapply (ST_intro c .b 0 1 1 2 rfl); iframe
    isplitl [Tb31 Trb2]; · iapply (ST_intro c .b 3 2 1 1 rfl); iframe
    isplitl [Tc02 Trc3]; · iapply (ST_intro c .c 0 3 3 2 rfl); iframe
    isplitl [Tc41 Trc7]; · iapply (ST_intro c .c 4 7 3 1 rfl); iframe
    isplitl [Ta20 Tra6]; · iapply (ST_intro c .a 2 6 4 0 rfl); iframe
    isplitl [Ta30 Tra7]; · iapply (ST_intro c .a 3 7 4 0 rfl); iframe
    isplitl [Tb40 Trb5]; · iapply (ST_intro c .b 4 5 1 0 rfl); iframe
    isplitl [Tb70 Trb6]; · iapply (ST_intro c .b 7 6 1 0 rfl); iframe
    isplitl [Tc10 Trc2]; · iapply (ST_intro c .c 1 2 3 0 rfl); iframe
    iapply (ST_intro c .c 5 6 3 0 rfl); iframe
  isplitl [Pra1 Cra1 Psa1 Prb3 Crb3 Psb3 Prc4 Crc4 Psc4 Pra3 Cra3 Psa3 Prb4 Crb4 Psb4 Prc1 Crc1 Psc1 Pra2 Cra2 Psa2 Prb7 Crb7 Psb7 Prc5 Crc5 Psc5 Pra4 Cra4 Prb1 Crb1 Prc3 Crc3 Pra5 Cra5 Prb2 Crb2 Prc7 Crc7 Pra6 Cra6 Prb5 Crb5 Prc2 Crc2 Pra7 Cra7 Prb6 Crb6 Prc6 Crc6 Psa0 Psb0 Psc0]
  · unfold Recvs
    isplitl [Pra1 Cra1 Psa1]; · iapply (RG_intro c .a 1 (by decide)); iframe
    isplitl [Prb3 Crb3 Psb3]; · iapply (RG_intro c .b 3 (by decide)); iframe
    isplitl [Prc4 Crc4 Psc4]; · iapply (RG_intro c .c 4 (by decide)); iframe
    isplitl [Pra3 Cra3 Psa3]; · iapply (RG_intro c .a 3 (by decide)); iframe
    isplitl [Prb4 Crb4 Psb4]; · iapply (RG_intro c .b 4 (by decide)); iframe
    isplitl [Prc1 Crc1 Psc1]; · iapply (RG_intro c .c 1 (by decide)); iframe
    isplitl [Pra2 Cra2 Psa2]; · iapply (RG_intro c .a 2 (by decide)); iframe
    isplitl [Prb7 Crb7 Psb7]; · iapply (RG_intro c .b 7 (by decide)); iframe
    isplitl [Prc5 Crc5 Psc5]; · iapply (RG_intro c .c 5 (by decide)); iframe
    isplitl [Pra4 Cra4]; · iapply (RV_intro c .a 4 (by decide)); iframe
    isplitl [Prb1 Crb1]; · iapply (RV_intro c .b 1 (by decide)); iframe
    isplitl [Prc3 Crc3]; · iapply (RV_intro c .c 3 (by decide)); iframe
    isplitl [Pra5 Cra5]; · iapply (RV_intro c .a 5 (by decide)); iframe
    isplitl [Prb2 Crb2]; · iapply (RV_intro c .b 2 (by decide)); iframe
    isplitl [Prc7 Crc7]; · iapply (RV_intro c .c 7 (by decide)); iframe
    isplitl [Pra6 Cra6]; · iapply (RV_intro c .a 6 (by decide)); iframe
    isplitl [Prb5 Crb5]; · iapply (RV_intro c .b 5 (by decide)); iframe
    isplitl [Prc2 Crc2]; · iapply (RV_intro c .c 2 (by decide)); iframe
    isplitl [Pra7 Cra7]; · iapply (RV_intro c .a 7 (by decide)); iframe
    isplitl [Prb6 Crb6]; · iapply (RV_intro c .b 6 (by decide)); iframe
    isplitl [Prc6 Crc6]; · iapply (RV_intro c .c 6 (by decide)); iframe
    iframe
  isplitl [Pd1 Td1 Tv1 Pd2 Td2 Tv2 Pd3 Td3 Tv3 Pd4 Td4 Tv4 Pd5 Td5 Tv5 Pd6 Td6 Tv6 Pd7 Td7 Tv7 Pv1 Cv1 Pv2 Cv2 Pv3 Cv3 Pv4 Cv4 Pv5 Cv5 Pv6 Cv6 Pv7 Cv7]
  · unfold Maxs
    isplitl [Pd1 Td1 Tv1]; · iapply (AS_intro c 1); iframe
    isplitl [Pd2 Td2 Tv2]; · iapply (AS_intro c 2); iframe
    isplitl [Pd3 Td3 Tv3]; · iapply (AS_intro c 3); iframe
    isplitl [Pd4 Td4 Tv4]; · iapply (AS_intro c 4); iframe
    isplitl [Pd5 Td5 Tv5]; · iapply (AS_intro c 5); iframe
    isplitl [Pd6 Td6 Tv6]; · iapply (AS_intro c 6); iframe
    isplitl [Pd7 Td7 Tv7]; · iapply (AS_intro c 7); iframe
    isplitl [Pv1 Cv1]; · iapply (AR_intro c 1 (by decide)); iframe
    isplitl [Pv2 Cv2]; · iapply (AR_intro c 2 (by decide)); iframe
    isplitl [Pv3 Cv3]; · iapply (AR_intro c 3 (by decide)); iframe
    isplitl [Pv4 Cv4]; · iapply (AR_intro c 4 (by decide)); iframe
    isplitl [Pv5 Cv5]; · iapply (AR_intro c 5 (by decide)); iframe
    isplitl [Pv6 Cv6]; · iapply (AR_intro c 6 (by decide)); iframe
    iapply (AR_intro c 7 (by decide)); iframe
  isplitl [Pbar Tbar Cbar]; · iapply (Bars_intro c); iframe
  unfold Left
  iframe

/-- The cells no transfer uses close at zero. -/
theorem left_close (c : Dev nD) : iprop(Recs m ρ K ∗ Left c) ⊢ iprop(|={Set.univ}=> LeftZ c) := by
  unfold Left LeftZ
  iintro ⟨#HR, Psa4, Psa5, Psa6, Psa7, Psb1, Psb2, Psb5, Psb6, Psc2, Psc3, Psc6, Psc7, Pra0, Prb0, Prc0, Pd0, Pv0⟩
  imod (close_cell m ρ K c (.snd .a 4) 0 (Nat.le_refl 0)) $$ [Psa4] with Psa4
  · isplitr; · iexact HR
    iexact Psa4
  imod (close_cell m ρ K c (.snd .a 5) 0 (Nat.le_refl 0)) $$ [Psa5] with Psa5
  · isplitr; · iexact HR
    iexact Psa5
  imod (close_cell m ρ K c (.snd .a 6) 0 (Nat.le_refl 0)) $$ [Psa6] with Psa6
  · isplitr; · iexact HR
    iexact Psa6
  imod (close_cell m ρ K c (.snd .a 7) 0 (Nat.le_refl 0)) $$ [Psa7] with Psa7
  · isplitr; · iexact HR
    iexact Psa7
  imod (close_cell m ρ K c (.snd .b 1) 0 (Nat.le_refl 0)) $$ [Psb1] with Psb1
  · isplitr; · iexact HR
    iexact Psb1
  imod (close_cell m ρ K c (.snd .b 2) 0 (Nat.le_refl 0)) $$ [Psb2] with Psb2
  · isplitr; · iexact HR
    iexact Psb2
  imod (close_cell m ρ K c (.snd .b 5) 0 (Nat.le_refl 0)) $$ [Psb5] with Psb5
  · isplitr; · iexact HR
    iexact Psb5
  imod (close_cell m ρ K c (.snd .b 6) 0 (Nat.le_refl 0)) $$ [Psb6] with Psb6
  · isplitr; · iexact HR
    iexact Psb6
  imod (close_cell m ρ K c (.snd .c 2) 0 (Nat.le_refl 0)) $$ [Psc2] with Psc2
  · isplitr; · iexact HR
    iexact Psc2
  imod (close_cell m ρ K c (.snd .c 3) 0 (Nat.le_refl 0)) $$ [Psc3] with Psc3
  · isplitr; · iexact HR
    iexact Psc3
  imod (close_cell m ρ K c (.snd .c 6) 0 (Nat.le_refl 0)) $$ [Psc6] with Psc6
  · isplitr; · iexact HR
    iexact Psc6
  imod (close_cell m ρ K c (.snd .c 7) 0 (Nat.le_refl 0)) $$ [Psc7] with Psc7
  · isplitr; · iexact HR
    iexact Psc7
  imod (close_cell m ρ K c (.rcv .a 0) 0 (Nat.le_refl 0)) $$ [Pra0] with Pra0
  · isplitr; · iexact HR
    iexact Pra0
  imod (close_cell m ρ K c (.rcv .b 0) 0 (Nat.le_refl 0)) $$ [Prb0] with Prb0
  · isplitr; · iexact HR
    iexact Prb0
  imod (close_cell m ρ K c (.rcv .c 0) 0 (Nat.le_refl 0)) $$ [Prc0] with Prc0
  · isplitr; · iexact HR
    iexact Prc0
  imod (close_cell m ρ K c (.asnd 0) 0 (Nat.le_refl 0)) $$ [Pd0] with Pd0
  · isplitr; · iexact HR
    iexact Pd0
  imod (close_cell m ρ K c (.arcv c) 0 (Nat.le_of_eq (rds_self c))) $$ [Pv0] with Pv0
  · isplitr; · iexact HR
    iexact Pv0
  imodintro
  iframe

/-- All cells are at zero. -/
theorem zeros_all (c : Dev nD) : iprop(Zeros (F := F) c ∗ LeftZ c) ⊢ bigSep Finset.univ fun k : CK => Zero c k := by
  rw [ck_split c]
  unfold Zeros LeftZ
  iintro ⟨⟨Pbar, Psa0, Psb0, Psc0, Psa1, Psb3, Psc4, Psa3, Psb4, Psc1, Psa2, Psb7, Psc5, Pra1, Prb3, Prc4, Pra3, Prb4, Prc1, Pra2, Prb7, Prc5, Pra4, Prb1, Prc3, Pra5, Prb2, Prc7, Pra6, Prb5, Prc2, Pra7, Prb6, Prc6, Pd1, Pd2, Pd3, Pd4, Pd5, Pd6, Pd7, Pv1, Pv2, Pv3, Pv4, Pv5, Pv6, Pv7⟩, Psa4, Psa5, Psa6, Psa7, Psb1, Psb2, Psb5, Psb6, Psc2, Psc3, Psc6, Psc7, Pra0, Prb0, Prc0, Pd0, Pv0⟩
  iframe

end Cert.GatherProof
-- ==== Proof.Launch.lean ====
/-
# The launch and the run
-/
module

public import proofs.«01_k».proof.Proof.Deal2
public import proofs.«01_k».proof.Proof.Gen.KernelIdeal.Points
public import Idealize.ShloMosaic.Lib.Pipeline.CollectiveSegs

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## The pipeline's data -/

/-- The three scratch buffers at any contents. -/
noncomputable def Scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- What a device starts with beside its scratch. -/
noncomputable def start (c : Dev nD) : sProp 𝕄 :=
  iprop((∃ K, Recs m ρ K ∗ Lin c) ∗ (bigSep Finset.univ fun k : CK => crd c k) ∗ ∃ f, gM.view.loc (c : Thread nD τ) ↦{fullShare} f)
noncomputable def Φ₀ (c : Dev nD) : sProp 𝕄 := iprop(start m ρ c ∗ Scr c)
noncomputable def Φ₁ (c : Dev nD) : sProp 𝕄 := iprop(((bigSep Finset.univ fun k : CK => Zero c k) ∗ CS c 0 ∗ CS c 1) ∗ Scr c)

noncomputable def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m ρ c
    | ⟨1, _⟩ => wv m ρ c
    | ⟨2, _⟩ => outv m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  owns (Ix := Unit) (Name := ℕ) (U := UU) (Lvl := ℕ) (c : Thread nD τ) (Memref.whole b) fullShare X

set_option maxRecDepth 4000 in
noncomputable def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
set_option maxRecDepth 4000 in
noncomputable def bodyPost (c : Dev nD) : sProp 𝕄 :=
  iprop(Φ₁ c ∗ (dats m ρ 0 c).owesAt () t0_0.succ ∗ stg c cc0_stg0_0 (xv m ρ c) ∗ stg c cc0_stg1_0 (wv m ρ c) ∗ stg c cc0_stg2_0 (outv m ρ c))

theorem before_0 (c : Dev nD) (d) : (dats m ρ 0 c).before (0 : Fin 3) t0_0 d = xv m ρ c := by
  unfold Dat.before; rw [if_pos (fetch0_0 t0_0)]; rfl
theorem before_1 (c : Dev nD) (d) : (dats m ρ 0 c).before (1 : Fin 3) t0_0 d = wv m ρ c := by
  unfold Dat.before; rw [if_pos (fetch0_1 t0_0)]; rfl

theorem bufs_intro (c : Dev nD) (Y : S4096x256.Idx → F .f32) :
    iprop(stg c cc0_stg0_0 (xv m ρ c) ∗ stg c cc0_stg1_0 (wv m ρ c) ∗ stg c cc0_stg2_0 Y ∗ Scr c ∗ CS c 0 ∗ CS c 1) ⊢ Bufs m ρ c Y := by
  unfold Bufs Scr
  iintro ⟨H1, H2, H3, ⟨H4, H5, H6⟩, H7, H8⟩
  isplitl [H1]; · iexact H1
  isplitl [H2]; · iexact H2
  isplitl [H3]; · iexact H3
  isplitl [H4]; · iexact H4
  isplitl [H5]; · iexact H5
  isplitl [H6]; · iexact H6
  isplitl [H7] <;> iassumption
theorem bufs_elim (c : Dev nD) (Y : S4096x256.Idx → F .f32) :
    Bufs m ρ c Y ⊢ iprop(stg c cc0_stg0_0 (xv m ρ c) ∗ stg c cc0_stg1_0 (wv m ρ c) ∗ stg c cc0_stg2_0 Y ∗ Scr c ∗ CS c 0 ∗ CS c 1) := by
  unfold Bufs Scr
  iintro ⟨H1, H2, H3, H4, H5, H6, H7, H8⟩
  isplitl [H1]; · iexact H1
  isplitl [H2]; · iexact H2
  isplitl [H3]; · iexact H3
  isplitl [H4 H5 H6]
  · isplitl [H4]; · iexact H4
    isplitl [H5]; · iexact H5
    iexact H6
  isplitl [H7] <;> iassumption

theorem owes_in (c : Dev nD) : (dats m ρ 0 c).owesAt () t0_0.castSucc ⊢ (Ow c 0 : sProp 𝕄) := by
  unfold Dat.owesAt Pipeline.owesWithin Ow Owes
  rw [show (dats m ρ 0 c).owed t0_0.castSucc = owedL ((oweList c).drop 0) from rfl]
  iintro ⟨%W, %hW, HO⟩
  iexists W; iexact HO
theorem owes_out (c : Dev nD) : (Ow c 31 : sProp 𝕄) ⊢ (dats m ρ 0 c).owesAt () t0_0.succ := by
  unfold Dat.owesAt Pipeline.owesWithin Ow Owes
  rw [show (dats m ρ 0 c).owed t0_0.succ = owedL ((oweList c).drop 31) from rfl]
  iintro ⟨%W, HO⟩
  iexists W
  isplitr; · ipureintro; exact fun _ _ => Or.inl trivial
  iexact HO

/-- The kernel's body on a device, from what the launch hands it to what it hands back. -/
theorem sound_body (c : Dev nD) : bodyPre m ρ c ⊢ WP c (ap (cc0_body (F := F))) (fun _ => bodyPost m ρ c) := by
  unfold bodyPre Φ₀ start
  iintro ⟨⟨⟨⟨%K, #HR, HL⟩, Hcr, HG⟩, HS⟩, HO, ⟨%d0, H0⟩, ⟨%d1, H1⟩, ⟨%d2, H2⟩⟩
  ihave HD := (deal c) $$ [HL Hcr]
  · iframe
  icases HD with ⟨HSe, HRe, HMa, HBa, HLe, HC0, HC1⟩
  imod (left_close m ρ K c) $$ [HLe] with HZ
  · iframe # ∗
  ihave HB := (bufs_intro m ρ c ((dats m ρ 0 c).before (2 : Fin 3) t0_0 d2)) $$ [H0 H1 H2 HS HC0 HC1]
  · have e0 := before_0 m ρ c d0
    have e1 := before_1 m ρ c d1
    isplitl [H0]; · rw [← e0]; iexact H0
    isplitl [H1]; · rw [← e1]; iexact H1
    iframe
  ihave HM := (mem_intro m ρ c _) $$ [HB HG]
  · iframe
  icases HM with ⟨HM, Hv, Hst⟩
  ihave HO := (owes_in m ρ c) $$ HO
  iapply (body_run m ρ K c (last_join m ρ c))
  iframe # ∗
  iintro ⟨HZs, HMF, HO⟩
  ihave HB := (mem_exit m ρ c) $$ [HMF Hv Hst]
  · iframe
  ihave HB := (bufs_elim m ρ c _) $$ HB
  icases HB with ⟨H0, H1, H2, HS, HC0, HC1⟩
  ihave HZ := (zeros_all c) $$ [HZs HZ]
  · iframe
  ihave HO := (owes_out m ρ c) $$ HO
  unfold bodyPost Φ₁
  iframe

set_option maxRecDepth 100000 in
theorem body_obligation (c : Dev nD) : BodyObligation (dats (F := F) m ρ 0 c) (defs₀ (F := F)) 𝒱₀ () Set.univ := fun t => by
  rw [fin_N0 t]
  rw [bigSep_W, bigSep_W]
  show bodyPre m ρ c ⊢ WP c (ap (cc0_body (F := F))) (fun _ => bodyPost m ρ c)
  exact sound_body m ρ c

/-! ## The launch's side conditions -/

theorem share_eq (c : Dev nD) (w : Fin cfg0.W) : (dats (F := F) m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, show (cfg0.spec) = spec0 from rfl, unscopedRest0_eq]
  iintro ⟨Hg, Hlev, Hcr, -, HG⟩
  ihave Hc := (creds (F := F) c) $$ Hcr
  imodintro
  unfold start G'
  icases HG with ⟨%K, HI, HL⟩
  isplitl
  · isplitl [HI HL Hlev]
    · iexists K
      isplitl [HI Hlev]
      · unfold Recs Invs
        isplitl [HI] <;> iassumption
      · iexact HL
    isplitl [Hc]; · iexact Hc
    iexists (m ((c : Thread nD τ).loc main_v1_1)); iexact Hg
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show (cfg0.spec) = spec0 from rfl, scopedRest0_eq]
  unfold Φ₀ Scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show (cfg0.spec) = spec0 from rfl, scopedRest0_eq]
  unfold Φ₁ Scr
  iintro ⟨Hz, Hr⟩
  ihave Hs := (sems_out c) $$ Hz
  icases Hs with ⟨H1, H2⟩
  isplitl [H2]; · iexact H2
  isplitl [H1] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait_owed c _ (oweList c) ?_
      fin_cases w <;> fin_cases s <;> rfl
    · rw [show (dats m ρ 0 c).owed ⟨_ + 1, ht⟩ = 0 from rfl, MayWait_zero]; iintro -; iempintro

/-! ## The run -/

noncomputable def u₀ : UU := (initOf (Pipeline.cells cfgs cellOf_inj) (Pipeline.launchToks cfgs cellOf_inj), (initOf cells toks, 1))

theorem fund : (ownU (u₀) : sProp 𝕄) ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_all m ρ) $$ [HX] with HG
  · iexact HX
  imodintro
  isplitl [HP] <;> iassumption

/-- The contents of a window's array after the run. -/
noncomputable def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- The eight devices' run: from any memory with the counters at zero, for any float values, every weakly fair
    execution ends, with every window's array at its stated contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := fund m ρ)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The run leaves both argument arrays as they were. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.GatherProof
-- ==== Proof.Final.lean ====
/-
# The results of the run
-/
module

public import proofs.«01_k».proof.Proof.Launch

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## What the run leaves in the arrays -/

theorem emb_whole {s : Shape} (R : Rect s) (h0 : ∀ a, R.off a = 0) (h1 : ∀ a, R.stride a = 1) (i : R.shape.Idx) (a) : (R.emb i a).val = (i a).val := by
  rw [Rect.emb_apply, h0, h1, Nat.zero_add, Nat.one_mul]

/-- The one block of a window is its whole array. -/
theorem x_emb (j : S512x4096.Idx) : (win0_0.blk (0 : Fin 1)).view.emb j = j :=
  funext fun a => Fin.ext (emb_whole (win0_0.rect (0 : Fin 1)) (fun a => by fin_cases a <;> rfl) (fun a => by fin_cases a <;> rfl) j a)
theorem w_emb (j : S4096x256.Idx) : (win0_1.blk (0 : Fin 1)).view.emb j = j :=
  funext fun a => Fin.ext (emb_whole (win0_1.rect (0 : Fin 1)) (fun a => by fin_cases a <;> rfl) (fun a => by fin_cases a <;> rfl) j a)
theorem o_emb (j : S4096x256.Idx) : (win0_2.blk (0 : Fin 1)).view.emb j = j :=
  funext fun a => Fin.ext (emb_whole (win0_2.rect (0 : Fin 1)) (fun a => by fin_cases a <;> rfl) (fun a => by fin_cases a <;> rfl) j a)

theorem xv_eq (c : Dev nD) : xv m ρ c = m ((c : Thread nD τ).loc main_arg0) :=
  funext fun j => congrArg (m ((c : Thread nD τ).loc main_arg0)) (x_emb j)
theorem wv_eq (c : Dev nD) : wv m ρ c = m ((c : Thread nD τ).loc main_arg1) :=
  funext fun j => congrArg (m ((c : Thread nD τ).loc main_arg1)) (w_emb j)

/-- The result window covers its array and is written back whole: the array ends at the body's result. -/
theorem flushed_out (c : Dev nD) (t : Fin cfg0.N) :
    (dats m ρ 0 c).flushed 2 t = ((cfg0.win 2).blk t).view.read (Elt F) (outv m ρ c) := by
  obtain rfl := fin_N0 t
  unfold Dat.flushed
  rw [show (dats m ρ 0 c).after 2 t0_0 = outv m ρ c from rfl]
  exact funext fun j => (congrArg (outv m ρ c) (o_emb j)).symm
theorem cover (i : S4096x256.Idx) : ∃ t : Fin cfg0.N, (cfg0.win 2).flush t = true ∧ i ∈ ((cfg0.win 2).blk t).view.set :=
  ⟨t0_0, flush0_2 _, by
    rw [show i = (win0_2.blk (0 : Fin 1)).view.emb i from (o_emb i).symm]
    exact View.emb_mem_set _ _⟩
theorem finalA_out (c : Dev nD) : finalA m ρ c (2 : Fin 3) = outv m ρ c :=
  (dats m ρ 0 c).arrAt_eq_of_cover 2 (outv m ρ c) (fun t _ => flushed_out m ρ c t) cover

/-- The run: on every device the result array ends at `outv`, the two arguments are as they were, and every
    semaphore counter is at zero. -/
theorem run_value : θ_run defs (onTc (τ := τ) (main (F := F))) ⟨m, fun _ => 0, ρ⟩ (fun r => (∀ c : Dev nD,
    r.2.mem ((c.tc : Thread nD τ).loc main_v1_0) = outv m ρ c
    ∧ r.2.mem ((c.tc : Thread nD τ).loc main_arg0) = m ((c.tc : Thread nD τ).loc main_arg0)
    ∧ r.2.mem ((c.tc : Thread nD τ).loc main_arg1) = m ((c.tc : Thread nD τ).loc main_arg1))
    ∧ r.2.sem = fun _ => 0) :=
  (θ_run defs _ _).mono (fun _ h => ⟨fun c => ⟨(h.1 c 2).trans (finalA_out m ρ c), (h.1 c 0).trans (finalA_x m ρ c), (h.1 c 1).trans (finalA_w m ρ c)⟩, h.2⟩)
    (run_main m ρ)

end Cert.GatherProof
-- ==== Proof.Product.lean ====
/-
# The product of every block, over the extended reals
-/
module

public import proofs.«01_k».proof.Proof.Final
public import proofs.«01_k».proof.Proof.Gen.ReferenceIdeal
public import Idealize.ShloMosaic.Lib.Pointwise

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A sum cut in three -/

/-- A sum over `a + b + c` numbers is the sum over the first `a`, the next `b` and the last `c`. -/
theorem sum_three {N : Type} [AddCommMonoid N] {a b c n : ℕ} (h : a + b + c = n) (f : Fin n → N) :
    ∑ k, f k = (∑ k : Fin a, f ⟨k.val, by omega⟩) + (∑ k : Fin b, f ⟨a + k.val, by omega⟩) + ∑ k : Fin c, f ⟨a + b + k.val, by omega⟩ := by
  subst h
  rw [Fin.sum_univ_add, Fin.sum_univ_add]
  rfl

/-! ## The product of a block, summed over the columns -/

/-- An index of a matrix is the pair of its coordinates. -/
theorem ix2_eta {n l : ℕ} (i : (⟨2, ![n, l]⟩ : Shape).Idx) : ix2 (i 0) (i 1) = i := funext (Fin.forall_fin_two.mpr ⟨rfl, rfl⟩)

/-- A part's product at a row and a column is the sum over the part's columns of `x`. -/
theorem dotp_a (x : FVec Ideal S512x1408 .f32) (w : FVec Ideal S1408x256 .f32) (r : Fin 512) (l : Fin 256) :
    dotp .a x w (ix2 r l) = ∑ k : Fin 1408, x (ix2 r k) * w (ix2 k l) := by
  unfold dotp; simp only [pointwise]; exact zero_add _
/-- The same of the second part, -/
theorem dotp_b (x : FVec Ideal S512x1408 .f32) (w : FVec Ideal S1408x256 .f32) (r : Fin 512) (l : Fin 256) :
    dotp .b x w (ix2 r l) = ∑ k : Fin 1408, x (ix2 r k) * w (ix2 k l) := dotp_a x w r l
/-- and of the third. -/
theorem dotp_c (x : FVec Ideal S512x1280 .f32) (w : FVec Ideal S1280x256 .f32) (r : Fin 512) (l : Fin 256) :
    dotp .c x w (ix2 r l) = ∑ k : Fin 1280, x (ix2 r k) * w (ix2 k l) := by
  unfold dotp; simp only [pointwise]; exact zero_add _

/-- The product over all the columns at once, at a row and a column. -/
theorem whole_dot (x : FVec Ideal S512x4096 .f32) (w : FVec Ideal S4096x256 .f32) (r : Fin 512) (l : Fin 256) :
    matmul dot_S512x4096_S4096x256_S512x256_1_0_0_1_n_n none x w (constant S512x256 .f32 0x00000000#32) (ix2 r l) = ∑ k : Fin 4096, x (ix2 r k) * w (ix2 k l) := by
  simp only [pointwise]; exact zero_add _

/-! ## The three parts of a block make the whole sum -/

/-- A column of a part, as a column of the block. -/
theorem xR_a (r : Fin 512) (k : Fin 1408) : (xR .a).emb (ix2 r k) = ix2 r (⟨k.val, by omega⟩ : Fin 4096) :=
  funext (Fin.forall_fin_two.mpr ⟨Fin.ext (by show 0 + 1 * r.val = r.val; omega), Fin.ext (by show 0 + 1 * k.val = k.val; omega)⟩)
/-- The same of the second part, -/
theorem xR_b (r : Fin 512) (k : Fin 1408) : (xR .b).emb (ix2 r k) = ix2 r (⟨1408 + k.val, by omega⟩ : Fin 4096) :=
  funext (Fin.forall_fin_two.mpr ⟨Fin.ext (by show 0 + 1 * r.val = r.val; omega), Fin.ext (by show 1408 + 1 * k.val = 1408 + k.val; omega)⟩)
/-- and of the third. -/
theorem xR_c (r : Fin 512) (k : Fin 1280) : (xR .c).emb (ix2 r k) = ix2 r (⟨1408 + 1408 + k.val, by omega⟩ : Fin 4096) :=
  funext (Fin.forall_fin_two.mpr ⟨Fin.ext (by show 0 + 1 * r.val = r.val; omega), Fin.ext (by show 2816 + 1 * k.val = 1408 + 1408 + k.val; omega)⟩)
/-- A row of a part of `w`, as a row of `w`. -/
theorem wR_a (k : Fin 1408) (l : Fin 256) : (wR .a).emb (ix2 k l) = ix2 (⟨k.val, by omega⟩ : Fin 4096) l :=
  funext (Fin.forall_fin_two.mpr ⟨Fin.ext (by show 0 + 1 * k.val = k.val; omega), Fin.ext (by show 0 + 1 * l.val = l.val; omega)⟩)
/-- The same of the second part, -/
theorem wR_b (k : Fin 1408) (l : Fin 256) : (wR .b).emb (ix2 k l) = ix2 (⟨1408 + k.val, by omega⟩ : Fin 4096) l :=
  funext (Fin.forall_fin_two.mpr ⟨Fin.ext (by show 1408 + 1 * k.val = 1408 + k.val; omega), Fin.ext (by show 0 + 1 * l.val = l.val; omega)⟩)
/-- and of the third. -/
theorem wR_c (k : Fin 1280) (l : Fin 256) : (wR .c).emb (ix2 k l) = ix2 (⟨1408 + 1408 + k.val, by omega⟩ : Fin 4096) l :=
  funext (Fin.forall_fin_two.mpr ⟨Fin.ext (by show 2816 + 1 * k.val = 1408 + 1408 + k.val; omega), Fin.ext (by show 0 + 1 * l.val = l.val; omega)⟩)

section Sums
variable (X : FVec Ideal S512x4096 .f32) (W : FVec Ideal S4096x256 .f32)

/-- The part of the product that part `s` of the columns gives. -/
noncomputable def part (s : Part) : FVec Ideal S512x256 .f32 := dotp s (xpart X s) (wpart W s)

/-- The three parts add up to the sum over all the columns. -/
theorem part_sum (r : Fin 512) (l : Fin 256) : part X W .a (ix2 r l) + part X W .b (ix2 r l) + part X W .c (ix2 r l)
    = ∑ k : Fin 4096, X (ix2 r k) * W (ix2 k l) := by
  rw [sum_three (a := 1408) (b := 1408) (c := 1280) (by norm_num) fun k : Fin 4096 => X (ix2 r k) * W (ix2 k l)]
  unfold part
  rw [dotp_a, dotp_b, dotp_c]
  refine congrArg₂ (· + ·) (congrArg₂ (· + ·) ?_ ?_) ?_ <;> refine Finset.sum_congr rfl fun k _ => ?_
  · exact congrArg₂ (· * ·) (congrArg X (xR_a r k)) (congrArg W (wR_a k l))
  · exact congrArg₂ (· * ·) (congrArg X (xR_b r k)) (congrArg W (wR_b k l))
  · exact congrArg₂ (· * ·) (congrArg X (xR_c r k)) (congrArg W (wR_c k l))

/-- In every order in which the parts are added the sum is the same. -/
theorem ord_sum (f : Part → EReal) : ∀ v : Fin 8, f (ord v 0) + f (ord v 1) + f (ord v 2) = f .a + f .b + f .c
  | 0 => rfl
  | 1 => by show f .a + f .c + f .b = _; exact add_right_comm _ _ _
  | 2 => rfl
  | 3 => by show f .b + f .a + f .c = _; rw [add_comm (f .b)]
  | 4 => by show f .c + f .b + f .a = _; rw [add_comm (f .c), add_assoc, add_comm (f .c), ← add_assoc, add_comm (f .b)]
  | 5 => by show f .c + f .a + f .b = _; rw [add_comm (f .c), add_right_comm]
  | 6 => rfl
  | 7 => by show f .b + f .c + f .a = _; rw [add_right_comm, add_comm (f .b)]
end Sums

variable (m : (ℓ : Loc nD τ sig) → Buf (Elt Ideal) ℓ) (ρ : Dev nD → PrngReg)

/-- What device `c` holds of `x` and of `w`. -/
noncomputable abbrev xI (c : Dev nD) : FVec Ideal S512x4096 .f32 := xv m ρ c
noncomputable abbrev wI (c : Dev nD) : FVec Ideal S4096x256 .f32 := wv m ρ c

/-- Block `v` of device `c`, at a row and a column, is the sum of the products of the row of `x` that device
    `px c v` holds with the column of `w` that device `c` holds. -/
theorem yv_apply (c : Dev nD) (v : Fin 8) (r : Fin 512) (l : Fin 256) :
    yv m ρ c v (ix2 r l) = ∑ k : Fin 4096, xI m ρ (px c v) (ix2 r k) * wI m ρ c (ix2 k l) := by
  unfold yv
  by_cases h : v = 0
  · rw [if_pos h, h, px_zero]; exact whole_dot _ _ r l
  · rw [if_neg h, ← part_sum]
    exact ord_sum (fun s => part (xv m ρ (px c v)) (wv m ρ c) s (ix2 r l)) v

/-! ## The blocks are the blocks of the whole product -/

/-- The whole product, as the reference computes it. -/
noncomputable def prod (X : FVec Ideal Cert.ReferenceIdeal.S4096x4096 .f32) (W : FVec Ideal Cert.ReferenceIdeal.S4096x2048 .f32) : FVec Ideal Cert.ReferenceIdeal.S4096x2048 .f32 :=
  Host.dotGeneral Cert.ReferenceIdeal.dot_S4096x4096_S4096x2048_S4096x2048_1_0_0_1_n_n none X W

/-- The whole product at a row and a column. -/
theorem prod_apply (X : FVec Ideal Cert.ReferenceIdeal.S4096x4096 .f32) (W : FVec Ideal Cert.ReferenceIdeal.S4096x2048 .f32) (R : Fin 4096) (L : Fin 2048) :
    prod X W (ix2 R L) = ∑ k : Fin 4096, X (ix2 R k) * W (ix2 k L) := by
  unfold prod; simp only [pointwise]; exact zero_add _

/-- The arrays the devices hold are the blocks of the whole arrays. -/
def Split (X : FVec Ideal Cert.ReferenceIdeal.S4096x4096 .f32) (W : FVec Ideal Cert.ReferenceIdeal.S4096x2048 .f32) : Prop :=
  ∀ c : Dev nD, xI m ρ c = Layout.block ⟨2, ![512, 4096]⟩ ⟨2, ![4096, 4096]⟩ 0 8 c X ∧ wI m ρ c = Layout.block ⟨2, ![4096, 256]⟩ ⟨2, ![4096, 2048]⟩ 1 8 c W

/-- The result's columns are cut into eight blocks. -/
theorem tiles_o : Layout.Tiles ⟨2, ![4096, 256]⟩ ⟨2, ![4096, 2048]⟩ 1 8 := by decide

variable {m ρ} {X : FVec Ideal Cert.ReferenceIdeal.S4096x4096 .f32} {W : FVec Ideal Cert.ReferenceIdeal.S4096x2048 .f32}

/-- Block `v` of device `c` is the rows of the whole product that device `px c v` holds of `x`, at the columns
    that device `c` holds of `w`. -/
theorem yv_prod (h : Split m ρ X W) (c : Dev nD) (v : Fin 8) (r : Fin 512) (l : Fin 256) :
    yv m ρ c v (ix2 r l) = prod X W (ix2 (⟨(px c v).val * 512 + r.val, by have := (px c v).isLt; omega⟩ : Fin 4096) (⟨c.val * 256 + l.val, by have : c.val < 8 := c.isLt; omega⟩ : Fin 2048)) := by
  rw [yv_apply, prod_apply]
  refine Finset.sum_congr rfl fun k _ => ?_
  rw [(h (px c v)).1, (h c).2]
  exact congrArg₂ (· * ·) (congrArg X (funext (Fin.forall_fin_two.mpr ⟨rfl, rfl⟩))) (congrArg W (funext (Fin.forall_fin_two.mpr ⟨rfl, rfl⟩)))

/-- The product of device `p` is its block of columns of the whole product. -/
theorem yAll_prod (h : Split m ρ X W) (p : Dev nD) (i : S4096x256.Idx) : yAll m ρ p i = prod X W (tiles_o.idx p i) := by
  unfold yAll
  refine (congrArg (yv m ρ p (px p (rowBlk i))) (ix2_eta (rowIn i)).symm).trans ((yv_prod h p (px p (rowBlk i)) (rowIn i 0) (rowIn i 1)).trans ?_)
  refine congrArg (prod X W) (funext (Fin.forall_fin_two.mpr ⟨Fin.ext ?_, Fin.ext ?_⟩))
  · show (px p (px p (rowBlk i))).val * 512 + (i 0).val % 512 = (i 0).val
    rw [px_comm, px_comm p, px_px]
    show (i 0).val / 512 * 512 + (i 0).val % 512 = _
    omega
  · rfl

end Cert.GatherProof
-- ==== Proof.Maxima.lean ====
/-
# The maximum, over the extended reals
-/
module

public import proofs.«01_k».proof.Proof.Product
public import Idealize.ShloMosaic.Lib.IdealHost

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A fold of maxima below a bound -/

/-- A fold of maxima is at most a bound exactly when its start and every element are. -/
theorem foldl_max_le {N : Type} (f : N → EReal) (b : EReal) : ∀ (l : List N) (z : EReal),
    l.foldl (fun r n => max r (f n)) z ≤ b ↔ z ≤ b ∧ ∀ n ∈ l, f n ≤ b
  | [], z => by simp
  | n :: l, z => by
    rw [List.foldl_cons, foldl_max_le f b l, max_le_iff, List.forall_mem_cons, and_assoc]

/-- The same of a fold over every index of an array. -/
theorem fold_all_le {s : Shape} {P : Fin s.numel → Prop} [DecidablePred P] (hP : ∀ n, P n) (x : s.Idx → EReal) (z b : EReal) :
    ((List.finRange s.numel).filter fun n => P n).foldl (fun r n => max r (x (s.rowMajor.symm n))) z ≤ b ↔ z ≤ b ∧ ∀ i, x i ≤ b := by
  rw [foldl_max_le]
  refine and_congr_right fun _ => ⟨fun h i => ?_, fun h n _ => h _⟩
  have := h (s.rowMajor i) (List.mem_filter.mpr ⟨List.mem_finRange _, decide_eq_true (hP _)⟩)
  rwa [Equiv.symm_apply_apply] at this

/-! ## The numerals -/

/-- The word of minus infinity, and of the other numbers the two programs name, over the extended reals. -/
theorem bits_bot : Ideal.ofBits .f32 0xFF800000#32 = ⊥ := by simp [Ideal.ofBits, Ideal.ieee]
theorem bits_zero : Ideal.ofBits .f32 0x00000000#32 = 0 := Ideal.ofBits_zero .f32
theorem bits_one : Ideal.ofBits .f32 0x3F800000#32 = 1 := Ideal.ofBits_one_f32
theorem bits_127 : Ideal.ofBits .f32 0x42FE0000#32 = ((127 : ℝ) : EReal) := by
  simp [Ideal.ofBits, Ideal.ieee, -EReal.coe_mul]; norm_num
theorem bits_neg127 : Ideal.ofBits .f32 0xC2FE0000#32 = ((-127 : ℝ) : EReal) := by
  simp [Ideal.ofBits, Ideal.ieee, -EReal.coe_mul, -EReal.coe_neg]; norm_num

/-! ## The maxima -/

/-- An array of one element has one index. -/
theorem one_idx (i j : S1.Idx) : i = j := funext fun a => Fin.ext (by
  have h : ∀ a : Fin S1.rank, S1.size a = 1 := by decide
  have hi : (i a).val < S1.size a := (i a).isLt
  have hj : (j a).val < S1.size a := (j a).isLt
  have := h a; omega)

/-- The maximum over a whole array is at most a bound exactly when every element is. -/
theorem multi_le {s : Shape} {axes : List (Fin s.rank)} (x : FVec Ideal s .f32) (h : s.Reduces axes S1) (hφ : FKind.Formats .f32)
    (hacc : 0xFF800000#32 = FKind.maximumf.neutral .f32 hφ) (j : S1.Idx) (b : EReal) :
    multiReduction .maximumf axes S1 x 0xFF800000#32 h hφ hacc j ≤ b ↔ ∀ i, x i ≤ b := by
  refine (fold_all_le (P := fun n => h.drop (s.rowMajor.symm n) = j) (fun n => one_idx _ _) x (Ideal.ofBits .f32 0xFF800000#32) b).trans ?_
  rw [bits_bot]
  exact and_iff_right bot_le

/-- The largest element of a block is at most a bound exactly when every element is. -/
theorem bmax_le (y : FVec Ideal S512x256 .f32) (b : EReal) : bmax y ≤ b ↔ ∀ i, y i ≤ b := by
  unfold bmax extractAt shapeCast
  refine (multi_le _ _ _ _ _ b).trans ?_
  exact (Shape.reshapeEquiv shapeCasts_S512x256_S1x512x256).forall_congr_right (q := fun i => y i ≤ b)

/-- The scalar unit's maximum, below a bound. -/
theorem scalar_max_le (x y b : EReal) : (Scalar.maximumf (F := Ideal) (φ := .f32) x y : EReal) ≤ b ↔ x ≤ b ∧ y ≤ b := max_le_iff
/-- The scalar zero. -/
theorem scalar_zero : (Scalar.ofBits (F := Ideal) .f32 0x00000000#32 : EReal) = 0 := bits_zero

section Maxima
variable (m : (ℓ : Loc nD τ sig) → Buf (Elt Ideal) ℓ) (ρ : Dev nD → PrngReg)

/-- The running maximum after the first block, below a bound. -/
theorem mx0_le (c : Dev nD) (b : EReal) : mx0 m ρ c ≤ b ↔ 0 ≤ b ∧ ∀ i, yv m ρ c 0 i ≤ b := by
  unfold mx0
  rw [scalar_max_le, scalar_zero, bmax_le]
/-- The running maximum after further blocks, below a bound. -/
theorem mx_le (c : Dev nD) (b : EReal) : ∀ l : List (Fin 8), mx m ρ c l ≤ b ↔ 0 ≤ b ∧ (∀ i, yv m ρ c 0 i ≤ b) ∧ ∀ v ∈ l, ∀ i, yv m ρ c v i ≤ b
  | [] => by
    rw [mx.eq_1, mx0_le]
    simp
  | v :: l => by
    rw [mx.eq_2, scalar_max_le, mx_le c b l, bmax_le, List.forall_mem_cons]
    tauto

/-- A device's maximum is at most a bound exactly when the bound is not negative and every element of the device's
    eight blocks is at most it. -/
theorem amv_le (c : Dev nD) (b : EReal) : amv m ρ c ≤ b ↔ 0 ≤ b ∧ ∀ v i, yv m ρ c v i ≤ b := by
  unfold amv
  rw [mx_le]
  refine and_congr_right fun _ => ⟨fun h v => ?_, fun h => ⟨h 0, fun v _ => h v⟩⟩
  rcases (show ∀ v : Fin 8, v = 0 ∨ v ∈ ([6, 7, 2, 5, 3, 1, 4] : List (Fin 8)) by decide) v with rfl | hv
  · exact h.1
  · exact h.2 v hv

/-- The maximum over all devices. -/
noncomputable def gmax : EReal :=
  extractAt ![0, 0, 0, 0] (shapeCast S1x1x1x1 (multiReduction .maximumf [1, 2, 3] S1 (shapeCast S1x8x8x128 (amAll m ρ : FVec Ideal S8x8x128 .f32) shapeCasts_S8x8x128_S1x8x8x128) 0xFF800000#32
    reduces_S1x8x8x128_S1 (.inl rfl) rfl) shapeCasts_S1_S1x1x1x1) inpos_S1x1x1x1_p0_0_0_0

/-- The maximum over all devices is at most a bound exactly when every device's maximum is. -/
theorem gmax_le (b : EReal) : gmax m ρ ≤ b ↔ ∀ p, amv m ρ p ≤ b := by
  unfold gmax extractAt shapeCast
  refine (multi_le _ _ _ _ _ b).trans ?_
  refine ((Shape.reshapeEquiv shapeCasts_S8x8x128_S1x8x8x128).forall_congr_right (q := fun i => amAll m ρ i ≤ b)).trans ?_
  exact ⟨fun h p => h (ix3 (p : Fin 8) (0 : Fin 8) (0 : Fin 128)), fun h i => h (i 0)⟩
end Maxima

end Cert.GatherProof
-- ==== Proof.RefMax.lean ====
/-
# The reference's maximum is the kernel's
-/
module

public import proofs.«01_k».proof.Proof.Maxima
public import proofs.«01_k».proof.Proof.Gen.ReferenceIdeal

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The reference's maximum -/

variable {m : (ℓ : Loc nD τ sig) → Buf (Elt Ideal) ℓ} {ρ : Dev nD → PrngReg}
variable {X : FVec Ideal Cert.ReferenceIdeal.S4096x4096 .f32} {W : FVec Ideal Cert.ReferenceIdeal.S4096x2048 .f32}

/-- The rectified product, as the reference computes it. -/
noncomputable def rect (Y : FVec Ideal Cert.ReferenceIdeal.S4096x2048 .f32) : FVec Ideal Cert.ReferenceIdeal.S4096x2048 .f32 :=
  maximumf Y (broadcastInDim Cert.ReferenceIdeal.S4096x2048 ![] Cert.ReferenceIdeal.Gen.bcast_S_S4096x2048 (constant Cert.ReferenceIdeal.S_ .f32 0x00000000#32))

/-- One element of the rectified product. -/
theorem rect_apply (Y : FVec Ideal Cert.ReferenceIdeal.S4096x2048 .f32) (i) : rect Y i = max (Y i) 0 := by
  refine (?_ : rect Y i = max (Y i) (Ideal.ofBits .f32 0x00000000#32)).trans (by rw [bits_zero])
  rfl

/-- The reference's maximum of the absolute values. -/
noncomputable def rmax (Y : FVec Ideal Cert.ReferenceIdeal.S4096x2048 .f32) : FVec Ideal Cert.ReferenceIdeal.S_ .f32 :=
  Host.reduce FloatOps.maximumf (Host.absf (rect Y)) (constant Cert.ReferenceIdeal.S_ .f32 0xFF800000#32)
    Cert.ReferenceIdeal.Gen.reducesTo_S4096x2048_S_d0_1 Cert.ReferenceIdeal.Gen.h_S_

/-- The absolute value of a rectified number is at most a bound exactly when the bound is not negative and the number is at most it. -/
theorem abs_rect_le (y b : EReal) : max (max y 0) (-(max y 0)) ≤ b ↔ 0 ≤ b ∧ y ≤ b := by
  have h : -(max y 0) ≤ max y 0 := (EReal.neg_le_zero.mpr (le_max_right y 0)).trans (le_max_right y 0)
  rw [max_eq_left h, max_le_iff, and_comm]

/-- The reference's maximum is at most a bound exactly when the bound is not negative and every element of the product is at most it. -/
theorem rmax_le (Y : FVec Ideal Cert.ReferenceIdeal.S4096x2048 .f32) (j) (b : EReal) : rmax Y j ≤ b ↔ 0 ≤ b ∧ ∀ i, Y i ≤ b := by
  refine (fold_all_le (P := fun n => Shape.ReducesTo.drop Cert.ReferenceIdeal.Gen.reducesTo_S4096x2048_S_d0_1 (Shape.rowMajor _ |>.symm n) = j) (fun n => funext fun a => a.elim0) (Host.absf (rect Y)) (Ideal.ofBits .f32 0xFF800000#32) b).trans ?_
  rw [bits_bot, and_iff_right bot_le]
  have h (i) : Host.absf (rect Y) i ≤ b ↔ 0 ≤ b ∧ Y i ≤ b := by
    refine (?_ : Host.absf (rect Y) i ≤ b ↔ max (rect Y i) (-(rect Y i)) ≤ b).trans ?_
    · rfl
    · rw [rect_apply]; exact abs_rect_le _ _
  simp only [h]
  exact ⟨fun h => ⟨(h (ix2 (0 : Fin 4096) (0 : Fin 2048))).1, fun i => (h i).2⟩, fun h i => ⟨h.1, h.2 i⟩⟩

/-- Where a row and a column of the whole product lie among the devices' blocks. -/
theorem prod_yv (h : Split m ρ X W) (R : Fin 4096) (L : Fin 2048) : ∃ (p : Dev nD) (v : Fin 8) (i : S512x256.Idx), prod X W (ix2 R L) = yv m ρ p v i := by
  refine ⟨(⟨L.val / 256, by omega⟩ : Fin 8), px (⟨L.val / 256, by omega⟩ : Fin 8) (⟨R.val / 512, by omega⟩ : Fin 8), ix2 (⟨R.val % 512, Nat.mod_lt _ (by decide)⟩ : Fin 512) (⟨L.val % 256, Nat.mod_lt _ (by decide)⟩ : Fin 256), ?_⟩
  rw [yv_prod h]
  refine congrArg (prod X W) (funext (Fin.forall_fin_two.mpr ⟨Fin.ext ?_, Fin.ext ?_⟩))
  · show R.val = (px _ (px _ _)).val * 512 + R.val % 512
    rw [px_comm, px_comm _ (⟨R.val / 512, by omega⟩ : Fin 8), px_px]
    show R.val = R.val / 512 * 512 + R.val % 512
    omega
  · show L.val = L.val / 256 * 256 + L.val % 256
    omega

/-- The devices' maximum is the reference's. -/
theorem gmax_eq (h : Split m ρ X W) (j) : gmax m ρ = rmax (prod X W) j := by
  refine eq_of_forall_ge_iff fun b => ?_
  rw [gmax_le, rmax_le]
  simp only [amv_le]
  constructor
  · intro hb
    refine ⟨(hb (0 : Fin 8)).1, fun i => ?_⟩
    obtain ⟨p, v, k, e⟩ := prod_yv h (i 0) (i 1)
    exact (le_of_eq ((congrArg (prod X W) (ix2_eta i).symm).trans e)).trans ((hb p).2 v k)
  · rintro ⟨h0, hb⟩ p
    refine ⟨h0, fun v i => ?_⟩
    exact (le_of_eq ((congrArg (yv m ρ p v) (ix2_eta i).symm).trans (yv_prod h p v (i 0) (i 1)))).trans (hb _)

/-- The maximum is not negative, -/
theorem rmax_nonneg (Y : FVec Ideal Cert.ReferenceIdeal.S4096x2048 .f32) (j) : 0 ≤ rmax Y j := ((rmax_le Y j _).mp le_rfl).1
/-- and no element of the product is above it. -/
theorem le_rmax (Y : FVec Ideal Cert.ReferenceIdeal.S4096x2048 .f32) (j) (i) : Y i ≤ rmax Y j := ((rmax_le Y j _).mp le_rfl).2 i

end Cert.GatherProof
-- ==== Proof.Quant.lean ====
/-
# The last steps, over the extended reals
-/
module

public import proofs.«01_k».proof.Proof.RefMax
public import proofs.«01_k».proof.Proof.Gen.ReferenceIdeal.Run

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The quantisation of one number -/

/-- The reference's last steps on one number: rectified, divided by the scale, rounded, clipped and scaled back. -/
noncomputable def quant (s y : EReal) : EReal :=
  min (Ideal.ofBits .f32 0x42FE0000#32) (max (Ideal.ofBits .f32 0xC2FE0000#32) (Ideal.liftRound Ideal.roundHalfEven (Ideal.div (max y (Ideal.ofBits .f32 0x00000000#32)) s))) * s

/-- A zero scale quantises everything to zero. -/
theorem quant_zero_scale (y : EReal) : quant 0 y = 0 := mul_zero _

/-- A number that is not positive is quantised to zero at every scale but zero. -/
theorem quant_nonpos {s y : EReal} (hs : s ≠ 0) (hy : y ≤ 0) : quant s y = 0 := by
  unfold quant
  rw [bits_zero, max_eq_right hy]
  unfold Ideal.div
  rw [if_neg hs, zero_mul]
  have h0 : Ideal.liftRound Ideal.roundHalfEven 0 = 0 := by
    rw [← EReal.coe_zero, Ideal.liftRound_coe]; unfold Ideal.roundHalfEven; norm_num
  rw [h0, bits_neg127, bits_127, max_eq_right (EReal.coe_nonpos.mpr (by norm_num)), min_eq_right (EReal.coe_nonneg.mpr (by norm_num)), zero_mul]

/-- The scale of a maximum. -/
noncomputable def scaleOf (g : EReal) : EReal := Ideal.div g (Ideal.ofBits .f32 0x42FE0000#32)

/-- The divisor of the scale is not zero. -/
theorem ne127 : Ideal.ofBits .f32 0x42FE0000#32 ≠ 0 := by
  rw [bits_127]; exact fun h => by have := EReal.coe_eq_zero.mp h; norm_num at this
/-- A zero maximum has scale zero; -/
theorem scale_zero : scaleOf 0 = 0 := by
  unfold scaleOf Ideal.div; rw [if_neg ne127, zero_mul]
/-- the maximum one has a scale that is not zero. -/
theorem scale_one : scaleOf 1 ≠ 0 := by
  unfold scaleOf Ideal.div
  rw [if_neg ne127, one_mul, bits_127, ← EReal.coe_inv]
  exact fun h => by have := EReal.coe_eq_zero.mp h; norm_num at this

/-- The kernel's scale replaces a zero maximum by one; no result changes, for then no element is positive. -/
theorem quant_guard {g y : EReal} (hg : 0 ≤ g) (hy : y ≤ g) : quant (scaleOf (if 0 < g then g else 1)) y = quant (scaleOf g) y := by
  by_cases h : 0 < g
  · rw [if_pos h]
  · obtain rfl : g = 0 := le_antisymm (not_lt.mp h) hg
    rw [if_neg h, scale_zero, quant_zero_scale, quant_nonpos scale_one hy]

/-! ## The kernel's result -/

section Kernel
variable (m : (ℓ : Loc nD τ sig) → Buf (Elt Ideal) ℓ) (ρ : Dev nD → PrngReg)

/-- The maximum the kernel divides by: one where the largest element is zero. -/
theorem guard_eq (g : EReal) :
    (Scalar.select (Scalar.cmpf (F := Ideal) (φ := .f32) .ogt g (Scalar.ofBits .f32 0x00000000#32)) g (Scalar.ofBits (F := Ideal) .f32 0x3F800000#32) : EReal) = if 0 < g then g else 1 := by
  have h : Scalar.cmpf (F := Ideal) (φ := .f32) .ogt g (Scalar.ofBits .f32 0x00000000#32) = BitVec.ofBool (decide ((Ideal.ofBits .f32 0x00000000#32 : EReal) < g)) := rfl
  have h1 : (Scalar.ofBits (F := Ideal) .f32 0x3F800000#32 : EReal) = 1 := bits_one
  rw [h, bits_zero]
  unfold Scalar.select
  by_cases hg : 0 < g
  · rw [if_pos hg, decide_eq_true hg]; exact if_pos rfl
  · rw [if_neg hg, decide_eq_false hg, if_neg (by decide)]; exact h1

/-- One element of the kernel's last steps. -/
theorem pay37_apply (A : FVec Ideal S8x8x128 .f32) (Y : FVec Ideal S4096x256 .f32) (i : S4096x256.Idx) (g : EReal)
    (hg : extractAt ![0, 0, 0, 0] (shapeCast S1x1x1x1 (multiReduction .maximumf [1, 2, 3] S1 (shapeCast S1x8x8x128 A shapeCasts_S8x8x128_S1x8x8x128) 0xFF800000#32
      reduces_S1x8x8x128_S1 (.inl rfl) rfl) shapeCasts_S1_S1x1x1x1) inpos_S1x1x1x1_p0_0_0_0 = g) :
    (k0_pay37 (F := Ideal) A Y i : EReal) = quant (scaleOf (if 0 < g then g else 1)) (Y i) := by
  unfold k0_pay37
  dsimp only
  rw [hg, ← guard_eq, shapeCast_self]
  rfl

/-- One element of what a device leaves in the result. -/
theorem outv_apply (c : Dev nD) (i : S4096x256.Idx) : outv m ρ c i = quant (scaleOf (if 0 < gmax m ρ then gmax m ρ else 1)) (yAll m ρ c i) :=
  pay37_apply (amAll m ρ) (yAll m ρ c) i (gmax m ρ) rfl
end Kernel

/-! ## The reference's result -/

/-- The reference's result, of its product. -/
noncomputable def refOut (Y : FVec Ideal Cert.ReferenceIdeal.S4096x2048 .f32) : FVec Ideal Cert.ReferenceIdeal.S4096x2048 .f32 := fun i =>
  quant (scaleOf (rmax Y (Shape.Idx.first Cert.ReferenceIdeal.Gen.h_S_))) (Y i)

/-- The reference's last steps, read at an index. -/
theorem ref_apply (Y : FVec Ideal Cert.ReferenceIdeal.S4096x2048 .f32) (S : FVec Ideal Cert.ReferenceIdeal.S_ .f32) (i : Cert.ReferenceIdeal.S4096x2048.Idx) :
    (mulf (minimumf (broadcastInDim Cert.ReferenceIdeal.S4096x2048 ![] Cert.ReferenceIdeal.Gen.bcast_S_S4096x2048 (id (constant Cert.ReferenceIdeal.S_ .f32 0x42FE0000#32)))
      (maximumf (broadcastInDim Cert.ReferenceIdeal.S4096x2048 ![] Cert.ReferenceIdeal.Gen.bcast_S_S4096x2048 (id (constant Cert.ReferenceIdeal.S_ .f32 0xC2FE0000#32)))
        (Host.roundeven (Host.divf (rect Y) (broadcastInDim Cert.ReferenceIdeal.S4096x2048 ![] Cert.ReferenceIdeal.Gen.bcast_S_S4096x2048 S)))))
      (broadcastInDim Cert.ReferenceIdeal.S4096x2048 ![] Cert.ReferenceIdeal.Gen.bcast_S_S4096x2048 S) : FVec Ideal Cert.ReferenceIdeal.S4096x2048 .f32) i
    = quant (S (Shape.Idx.first Cert.ReferenceIdeal.Gen.h_S_)) (Y i) := by
  have e : broadcastInDim Cert.ReferenceIdeal.S4096x2048 ![] Cert.ReferenceIdeal.Gen.bcast_S_S4096x2048 S i = S (Shape.Idx.first Cert.ReferenceIdeal.Gen.h_S_) :=
    congrArg S (funext fun a => a.elim0)
  rw [← e]
  rfl

/-- On its one device the reference's run ends with its result at `refOut` of the product of its arguments. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run Cert.ReferenceIdeal.defs (onTc (τ := Cert.ReferenceIdeal.τ) (Cert.ReferenceIdeal.main (F := Ideal))) ⟨m', fun _ => 0, ρ'⟩ fun r => ∀ c : Dev Cert.ReferenceIdeal.nD,
      r.2.mem ((c.tc : Thread Cert.ReferenceIdeal.nD Cert.ReferenceIdeal.τ).loc Cert.ReferenceIdeal.main_v11)
        = refOut (prod (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1) :=
  (θ_run Cert.ReferenceIdeal.defs _ _).mono (fun r h c => ⟨(h c).1.trans (funext fun i =>
      ref_apply (prod (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
        (Host.divf (rmax (prod (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))) (constant Cert.ReferenceIdeal.S_ .f32 0x42FE0000#32)) i), (h c).2⟩)
    (Cert.ReferenceIdeal.Value.run (F := Ideal) m' ρ')

variable {m : (ℓ : Loc nD τ sig) → Buf (Elt Ideal) ℓ} {ρ : Dev nD → PrngReg}
variable {X : FVec Ideal Cert.ReferenceIdeal.S4096x4096 .f32} {W : FVec Ideal Cert.ReferenceIdeal.S4096x2048 .f32}

/-- What device `c` leaves in its result is block `c` of the reference's result. -/
theorem outv_block (h : Split m ρ X W) (c : Dev nD) :
    outv m ρ c = Layout.block ⟨2, ![4096, 256]⟩ ⟨2, ![4096, 2048]⟩ 1 8 c (refOut (prod X W)) := by
  funext i
  refine (outv_apply m ρ c i).trans ?_
  rw [gmax_eq h (Shape.Idx.first Cert.ReferenceIdeal.Gen.h_S_), yAll_prod h]
  exact quant_guard (rmax_nonneg _ _) (le_rmax _ _ _)

end Cert.GatherProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Quant
public import Idealize.ShloMosaic.Lib.Claim
public import Idealize.ShloMosaic.Adequacy
public import Idealize.ShloMosaic.Init

@[expose] public section

noncomputable section

namespace Cert.Proof

open Idealize.ShloMosaic Idealize.SL.Sem

/-! ## The two printed kernels are one program -/

set_option maxRecDepth 100000 in
/-- The one kernel label runs the same body in both programs. -/
theorem row_eq {F : FTy → Type} [FloatOps F] : ∀ (l : Cert.KernelIdeal.Λ₀.Label) (a : Cert.KernelIdeal.Λ₀.Args l),
    Cert.Kernel.defs₀ (F := F) .tc l a = Cert.KernelIdeal.defs₀ (F := F) .tc l a
  | 0, (t, s) => rfl
  | ⟨_ + 1, h⟩, _ => absurd h (Nat.not_lt.2 (Nat.le_add_left _ _))
set_option maxRecDepth 100000 in
/-- The two programs have the same body table. -/
theorem defs_eq {F : FTy → Type} [FloatOps F] : Cert.Kernel.defs (F := F) = Cert.KernelIdeal.defs (F := F) :=
  congrArg (Pipeline.defs Cert.KernelIdeal.pcfgs) (congrArg Defs.onTc (funext fun l => funext fun a => row_eq l a))

/-! ## The claims -/

set_option maxRecDepth 100000 in
/-- The kernel's frame over the machine's floats: the run at those floats, its values dropped. -/
theorem frame_kernel : Cert.quiescent_Kernel := fun m ρ _ => by
  have h := (θ_run Cert.KernelIdeal.defs _ _).mono (fun _ h => (⟨fun c => (h.1 c).2, h.2⟩ : _ ∧ _)) (Cert.GatherProof.run_value (F := Bits) m ρ)
  rw [← defs_eq] at h
  exact h

/-- The kernel's frame over the extended reals. -/
theorem frame_kernelIdeal : Cert.quiescent_KernelIdeal := fun m ρ _ =>
  (θ_run Cert.KernelIdeal.defs _ _).mono (fun _ h => ⟨fun c => (h.1 c).2, h.2⟩) (Cert.GatherProof.run_value (F := Ideal) m ρ)

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, device `c`'s result is block `c` of the columns of the reference's result. -/
theorem algebraic : Cert.algebraic_KernelIdeal_ReferenceIdeal := fun m ρ m' ρ' _ hm =>
  ⟨_, (θ_run Cert.KernelIdeal.defs _ _).mono (fun _ h c => ⟨(h.1 c).1.trans (Cert.GatherProof.outv_block (fun c =>
        ⟨(Cert.GatherProof.xv_eq m ρ c).trans (hm c).1, (Cert.GatherProof.wv_eq m ρ c).trans (hm c).2⟩) c), (h.1 c).2⟩)
      (Cert.GatherProof.run_value (F := Ideal) m ρ),
    (θ_run Cert.ReferenceIdeal.defs _ _).mono (fun _ h => h 0) (Cert.GatherProof.ref_run m' ρ')⟩

/-- Everything claimed. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
